-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_LayerEndIdeal (m : (ℓ : Loc Cert.LayerEndIdeal.nD Cert.LayerEndIdeal.τ Cert.LayerEndIdeal.sig) → Buf (Elt Ideal) ℓ) : Prop :=
  True

def Pre_PostInner (m : (ℓ : Loc Cert.PostInner.nD Cert.PostInner.τ Cert.PostInner.sig) → Buf (Elt Bits) ℓ) : Prop :=
  True

def Pre_PostInnerIdeal (m : (ℓ : Loc Cert.PostInnerIdeal.nD Cert.PostInnerIdeal.τ Cert.PostInnerIdeal.sig) → Buf (Elt Ideal) ℓ) : Prop :=
  True

def Pre_InnerEndIdeal (m : (ℓ : Loc Cert.InnerEndIdeal.nD Cert.InnerEndIdeal.τ Cert.InnerEndIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_HeadsIdeal (m : (ℓ : Loc Cert.HeadsIdeal.nD Cert.HeadsIdeal.τ Cert.HeadsIdeal.sig) → Buf (Elt Ideal) ℓ) : Prop :=
  True

def Pre_AttnD (m : (ℓ : Loc Cert.AttnD.nD Cert.AttnD.τ Cert.AttnD.sig) → Buf (Elt Bits) ℓ) : Prop :=
  True

def Pre_AttnDIdeal (m : (ℓ : Loc Cert.AttnDIdeal.nD Cert.AttnDIdeal.τ Cert.AttnDIdeal.sig) → Buf (Elt Ideal) ℓ) : Prop :=
  True

def Pre_AttnDIdeal_finite_logits [hPre_finite_logits : Cert.Pre_finite_logits.Facts] (m : (ℓ : Loc Cert.AttnDIdeal.nD Cert.AttnDIdeal.τ Cert.AttnDIdeal.sig) → Buf (Elt Ideal) ℓ) : Prop :=
  ∀ c : Dev Cert.AttnDIdeal.nD,
    (Cert.Pre_finite_logits.fn (F := Ideal) (m ((c.tc : Thread Cert.AttnDIdeal.nD Cert.AttnDIdeal.τ).loc Cert.AttnDIdeal.main_arg0)) (m ((c.tc : Thread Cert.AttnDIdeal.nD Cert.AttnDIdeal.τ).loc Cert.AttnDIdeal.main_arg1)) (m ((c.tc : Thread Cert.AttnDIdeal.nD Cert.AttnDIdeal.τ).loc Cert.AttnDIdeal.main_arg2))) = (fun _ => 1#1)

def Pre_WindowIdeal (m : (ℓ : Loc Cert.WindowIdeal.nD Cert.WindowIdeal.τ Cert.WindowIdeal.sig) → Buf (Elt Ideal) ℓ) : Prop :=
  True

def Pre_WindowIdeal_finite_logits [hPre_finite_logits : Cert.Pre_finite_logits.Facts] (m : (ℓ : Loc Cert.WindowIdeal.nD Cert.WindowIdeal.τ Cert.WindowIdeal.sig) → Buf (Elt Ideal) ℓ) : Prop :=
  ∀ c : Dev Cert.WindowIdeal.nD,
    (Cert.Pre_finite_logits.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2))) = (fun _ => 1#1)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_LayerEndIdeal [hLayerEndIdeal : Cert.LayerEndIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg), Pre_LayerEndIdeal m →
    θ_run (Cert.LayerEndIdeal.defs (F := Ideal)) (onTc (τ := Cert.LayerEndIdeal.τ) (Cert.LayerEndIdeal.main (F := Ideal))) ⟨m, fun _ => 0, g⟩ (fun r => (∀ c : Dev Cert.LayerEndIdeal.nD,
      r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
      ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
      ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
      ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
      ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
      ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
      ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6)
      ∧ r.2.mem ((c.tc : Thread Cert.LayerEndIdeal.nD Cert.LayerEndIdeal.τ).loc Cert.LayerEndIdeal.main_arg7) = m ((c.tc : Thread Cert.LayerEndIdeal.nD Cert.LayerEndIdeal.τ).loc Cert.LayerEndIdeal.main_arg7)
      ∧ r.2.mem ((c.tc : Thread Cert.LayerEndIdeal.nD Cert.LayerEndIdeal.τ).loc Cert.LayerEndIdeal.main_arg8) = m ((c.tc : Thread Cert.LayerEndIdeal.nD Cert.LayerEndIdeal.τ).loc Cert.LayerEndIdeal.main_arg8)
      ∧ r.2.mem ((c.tc : Thread Cert.LayerEndIdeal.nD Cert.LayerEndIdeal.τ).loc Cert.LayerEndIdeal.main_arg9) = m ((c.tc : Thread Cert.LayerEndIdeal.nD Cert.LayerEndIdeal.τ).loc Cert.LayerEndIdeal.main_arg9)
      ∧ r.2.mem ((c.tc : Thread Cert.LayerEndIdeal.nD Cert.LayerEndIdeal.τ).loc Cert.LayerEndIdeal.main_arg10) = m ((c.tc : Thread Cert.LayerEndIdeal.nD Cert.LayerEndIdeal.τ).loc Cert.LayerEndIdeal.main_arg10))
      ∧ r.2.sem = fun _ => 0)

def quiescent_PostInner [hPostInner : Cert.PostInner.Facts] : Prop :=
  ∀ (m : (ℓ : Loc Cert.PostInner.nD Cert.PostInner.τ Cert.PostInner.sig) → Buf (Elt Bits) ℓ) (g : Dev Cert.PostInner.nD → PrngReg), Pre_PostInner m →
    θ_run (Cert.PostInner.defs (F := Bits)) (onTc (τ := Cert.PostInner.τ) (Cert.PostInner.main (F := Bits))) ⟨m, fun _ => 0, g⟩ (fun r => (∀ c : Dev Cert.PostInner.nD,
      r.2.mem ((c.tc : Thread Cert.PostInner.nD Cert.PostInner.τ).loc Cert.PostInner.main_arg0) = m ((c.tc : Thread Cert.PostInner.nD Cert.PostInner.τ).loc Cert.PostInner.main_arg0)
      ∧ r.2.mem ((c.tc : Thread Cert.PostInner.nD Cert.PostInner.τ).loc Cert.PostInner.main_arg1) = m ((c.tc : Thread Cert.PostInner.nD Cert.PostInner.τ).loc Cert.PostInner.main_arg1)
      ∧ r.2.mem ((c.tc : Thread Cert.PostInner.nD Cert.PostInner.τ).loc Cert.PostInner.main_arg2) = m ((c.tc : Thread Cert.PostInner.nD Cert.PostInner.τ).loc Cert.PostInner.main_arg2)
      ∧ r.2.mem ((c.tc : Thread Cert.PostInner.nD Cert.PostInner.τ).loc Cert.PostInner.main_arg3) = m ((c.tc : Thread Cert.PostInner.nD Cert.PostInner.τ).loc Cert.PostInner.main_arg3)
      ∧ r.2.mem ((c.tc : Thread Cert.PostInner.nD Cert.PostInner.τ).loc Cert.PostInner.main_arg4) = m ((c.tc : Thread Cert.PostInner.nD Cert.PostInner.τ).loc Cert.PostInner.main_arg4)
      ∧ r.2.mem ((c.tc : Thread Cert.PostInner.nD Cert.PostInner.τ).loc Cert.PostInner.main_arg5) = m ((c.tc : Thread Cert.PostInner.nD Cert.PostInner.τ).loc Cert.PostInner.main_arg5)
      ∧ r.2.mem ((c.tc : Thread Cert.PostInner.nD Cert.PostInner.τ).loc Cert.PostInner.main_arg6) = m ((c.tc : Thread Cert.PostInner.nD Cert.PostInner.τ).loc Cert.PostInner.main_arg6)
      ∧ r.2.mem ((c.tc : Thread Cert.PostInner.nD Cert.PostInner.τ).loc Cert.PostInner.main_arg7) = m ((c.tc : Thread Cert.PostInner.nD Cert.PostInner.τ).loc Cert.PostInner.main_arg7)
      ∧ r.2.mem ((c.tc : Thread Cert.PostInner.nD Cert.PostInner.τ).loc Cert.PostInner.main_arg8) = m ((c.tc : Thread Cert.PostInner.nD Cert.PostInner.τ).loc Cert.PostInner.main_arg8)
      ∧ r.2.mem ((c.tc : Thread Cert.PostInner.nD Cert.PostInner.τ).loc Cert.PostInner.main_arg9) = m ((c.tc : Thread Cert.PostInner.nD Cert.PostInner.τ).loc Cert.PostInner.main_arg9)
      ∧ r.2.mem ((c.tc : Thread Cert.PostInner.nD Cert.PostInner.τ).loc Cert.PostInner.main_arg10) = m ((c.tc : Thread Cert.PostInner.nD Cert.PostInner.τ).loc Cert.PostInner.main_arg10))
      ∧ r.2.sem = fun _ => 0)

def quiescent_PostInnerIdeal [hPostInnerIdeal : Cert.PostInnerIdeal.Facts] : Prop :=
  ∀ (m : (ℓ : Loc Cert.PostInnerIdeal.nD Cert.PostInnerIdeal.τ Cert.PostInnerIdeal.sig) → Buf (Elt Ideal) ℓ) (g : Dev Cert.PostInnerIdeal.nD → PrngReg), Pre_PostInnerIdeal m →
    θ_run (Cert.PostInnerIdeal.defs (F := Ideal)) (onTc (τ := Cert.PostInnerIdeal.τ) (Cert.PostInnerIdeal.main (F := Ideal))) ⟨m, fun _ => 0, g⟩ (fun r => (∀ c : Dev Cert.PostInnerIdeal.nD,
      r.2.mem ((c.tc : Thread Cert.PostInnerIdeal.nD Cert.PostInnerIdeal.τ).loc Cert.PostInnerIdeal.main_arg0) = m ((c.tc : Thread Cert.PostInnerIdeal.nD Cert.PostInnerIdeal.τ).loc Cert.PostInnerIdeal.main_arg0)
      ∧ r.2.mem ((c.tc : Thread Cert.PostInnerIdeal.nD Cert.PostInnerIdeal.τ).loc Cert.PostInnerIdeal.main_arg1) = m ((c.tc : Thread Cert.PostInnerIdeal.nD Cert.PostInnerIdeal.τ).loc Cert.PostInnerIdeal.main_arg1)
      ∧ r.2.mem ((c.tc : Thread Cert.PostInnerIdeal.nD Cert.PostInnerIdeal.τ).loc Cert.PostInnerIdeal.main_arg2) = m ((c.tc : Thread Cert.PostInnerIdeal.nD Cert.PostInnerIdeal.τ).loc Cert.PostInnerIdeal.main_arg2)
      ∧ r.2.mem ((c.tc : Thread Cert.PostInnerIdeal.nD Cert.PostInnerIdeal.τ).loc Cert.PostInnerIdeal.main_arg3) = m ((c.tc : Thread Cert.PostInnerIdeal.nD Cert.PostInnerIdeal.τ).loc Cert.PostInnerIdeal.main_arg3)
      ∧ r.2.mem ((c.tc : Thread Cert.PostInnerIdeal.nD Cert.PostInnerIdeal.τ).loc Cert.PostInnerIdeal.main_arg4) = m ((c.tc : Thread Cert.PostInnerIdeal.nD Cert.PostInnerIdeal.τ).loc Cert.PostInnerIdeal.main_arg4)
      ∧ r.2.mem ((c.tc : Thread Cert.PostInnerIdeal.nD Cert.PostInnerIdeal.τ).loc Cert.PostInnerIdeal.main_arg5) = m ((c.tc : Thread Cert.PostInnerIdeal.nD Cert.PostInnerIdeal.τ).loc Cert.PostInnerIdeal.main_arg5)
      ∧ r.2.mem ((c.tc : Thread Cert.PostInnerIdeal.nD Cert.PostInnerIdeal.τ).loc Cert.PostInnerIdeal.main_arg6) = m ((c.tc : Thread Cert.PostInnerIdeal.nD Cert.PostInnerIdeal.τ).loc Cert.PostInnerIdeal.main_arg6)
      ∧ r.2.mem ((c.tc : Thread Cert.PostInnerIdeal.nD Cert.PostInnerIdeal.τ).loc Cert.PostInnerIdeal.main_arg7) = m ((c.tc : Thread Cert.PostInnerIdeal.nD Cert.PostInnerIdeal.τ).loc Cert.PostInnerIdeal.main_arg7)
      ∧ r.2.mem ((c.tc : Thread Cert.PostInnerIdeal.nD Cert.PostInnerIdeal.τ).loc Cert.PostInnerIdeal.main_arg8) = m ((c.tc : Thread Cert.PostInnerIdeal.nD Cert.PostInnerIdeal.τ).loc Cert.PostInnerIdeal.main_arg8)
      ∧ r.2.mem ((c.tc : Thread Cert.PostInnerIdeal.nD Cert.PostInnerIdeal.τ).loc Cert.PostInnerIdeal.main_arg9) = m ((c.tc : Thread Cert.PostInnerIdeal.nD Cert.PostInnerIdeal.τ).loc Cert.PostInnerIdeal.main_arg9)
      ∧ r.2.mem ((c.tc : Thread Cert.PostInnerIdeal.nD Cert.PostInnerIdeal.τ).loc Cert.PostInnerIdeal.main_arg10) = m ((c.tc : Thread Cert.PostInnerIdeal.nD Cert.PostInnerIdeal.τ).loc Cert.PostInnerIdeal.main_arg10))
      ∧ r.2.sem = fun _ => 0)

def quiescent_InnerEndIdeal [hInnerEndIdeal : Cert.InnerEndIdeal.Facts] : Prop :=
  ∀ (m : (ℓ : Loc Cert.InnerEndIdeal.nD Cert.InnerEndIdeal.τ Cert.InnerEndIdeal.sig) → Buf (Elt Ideal) ℓ) (g : Dev Cert.InnerEndIdeal.nD → PrngReg), Pre_InnerEndIdeal m →
    θ_run (Cert.InnerEndIdeal.defs (F := Ideal)) (onTc (τ := Cert.InnerEndIdeal.τ) (Cert.InnerEndIdeal.main (F := Ideal))) ⟨m, fun _ => 0, g⟩ (fun r => (∀ c : Dev Cert.InnerEndIdeal.nD,
      r.2.mem ((c.tc : Thread Cert.InnerEndIdeal.nD Cert.InnerEndIdeal.τ).loc Cert.InnerEndIdeal.main_arg0) = m ((c.tc : Thread Cert.InnerEndIdeal.nD Cert.InnerEndIdeal.τ).loc Cert.InnerEndIdeal.main_arg0)
      ∧ r.2.mem ((c.tc : Thread Cert.InnerEndIdeal.nD Cert.InnerEndIdeal.τ).loc Cert.InnerEndIdeal.main_arg1) = m ((c.tc : Thread Cert.InnerEndIdeal.nD Cert.InnerEndIdeal.τ).loc Cert.InnerEndIdeal.main_arg1)
      ∧ r.2.mem ((c.tc : Thread Cert.InnerEndIdeal.nD Cert.InnerEndIdeal.τ).loc Cert.InnerEndIdeal.main_arg2) = m ((c.tc : Thread Cert.InnerEndIdeal.nD Cert.InnerEndIdeal.τ).loc Cert.InnerEndIdeal.main_arg2)
      ∧ r.2.mem ((c.tc : Thread Cert.InnerEndIdeal.nD Cert.InnerEndIdeal.τ).loc Cert.InnerEndIdeal.main_arg3) = m ((c.tc : Thread Cert.InnerEndIdeal.nD Cert.InnerEndIdeal.τ).loc Cert.InnerEndIdeal.main_arg3)
      ∧ r.2.mem ((c.tc : Thread Cert.InnerEndIdeal.nD Cert.InnerEndIdeal.τ).loc Cert.InnerEndIdeal.main_arg4) = m ((c.tc : Thread Cert.InnerEndIdeal.nD Cert.InnerEndIdeal.τ).loc Cert.InnerEndIdeal.main_arg4)
      ∧ r.2.mem ((c.tc : Thread Cert.InnerEndIdeal.nD Cert.InnerEndIdeal.τ).loc Cert.InnerEndIdeal.main_arg5) = m ((c.tc : Thread Cert.InnerEndIdeal.nD Cert.InnerEndIdeal.τ).loc Cert.InnerEndIdeal.main_arg5)
      ∧ r.2.mem ((c.tc : Thread Cert.InnerEndIdeal.nD Cert.InnerEndIdeal.τ).loc Cert.InnerEndIdeal.main_arg6) = m ((c.tc : Thread Cert.InnerEndIdeal.nD Cert.InnerEndIdeal.τ).loc Cert.InnerEndIdeal.main_arg6)
      ∧ r.2.mem ((c.tc : Thread Cert.InnerEndIdeal.nD Cert.InnerEndIdeal.τ).loc Cert.InnerEndIdeal.main_arg7) = m ((c.tc : Thread Cert.InnerEndIdeal.nD Cert.InnerEndIdeal.τ).loc Cert.InnerEndIdeal.main_arg7)
      ∧ r.2.mem ((c.tc : Thread Cert.InnerEndIdeal.nD Cert.InnerEndIdeal.τ).loc Cert.InnerEndIdeal.main_arg8) = m ((c.tc : Thread Cert.InnerEndIdeal.nD Cert.InnerEndIdeal.τ).loc Cert.InnerEndIdeal.main_arg8)
      ∧ r.2.mem ((c.tc : Thread Cert.InnerEndIdeal.nD Cert.InnerEndIdeal.τ).loc Cert.InnerEndIdeal.main_arg9) = m ((c.tc : Thread Cert.InnerEndIdeal.nD Cert.InnerEndIdeal.τ).loc Cert.InnerEndIdeal.main_arg9)
      ∧ r.2.mem ((c.tc : Thread Cert.InnerEndIdeal.nD Cert.InnerEndIdeal.τ).loc Cert.InnerEndIdeal.main_arg10) = m ((c.tc : Thread Cert.InnerEndIdeal.nD Cert.InnerEndIdeal.τ).loc Cert.InnerEndIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8))
      ∧ r.2.sem = fun _ => 0)

def quiescent_AttnD [hAttnD : Cert.AttnD.Facts] : Prop :=
  ∀ (m : (ℓ : Loc Cert.AttnD.nD Cert.AttnD.τ Cert.AttnD.sig) → Buf (Elt Bits) ℓ) (g : Dev Cert.AttnD.nD → PrngReg), Pre_AttnD m →
    θ_run (Cert.AttnD.defs (F := Bits)) (onTc (τ := Cert.AttnD.τ) (Cert.AttnD.main (F := Bits))) ⟨m, fun _ => 0, g⟩ (fun r => (∀ c : Dev Cert.AttnD.nD,
      r.2.mem ((c.tc : Thread Cert.AttnD.nD Cert.AttnD.τ).loc Cert.AttnD.main_arg0) = m ((c.tc : Thread Cert.AttnD.nD Cert.AttnD.τ).loc Cert.AttnD.main_arg0)
      ∧ r.2.mem ((c.tc : Thread Cert.AttnD.nD Cert.AttnD.τ).loc Cert.AttnD.main_arg1) = m ((c.tc : Thread Cert.AttnD.nD Cert.AttnD.τ).loc Cert.AttnD.main_arg1)
      ∧ r.2.mem ((c.tc : Thread Cert.AttnD.nD Cert.AttnD.τ).loc Cert.AttnD.main_arg2) = m ((c.tc : Thread Cert.AttnD.nD Cert.AttnD.τ).loc Cert.AttnD.main_arg2))
      ∧ r.2.sem = fun _ => 0)

def quiescent_AttnDIdeal [hAttnDIdeal : Cert.AttnDIdeal.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2))
      ∧ r.2.sem = fun _ => 0)

def quiescent_AttnDIdeal_pre_finite_logits [hAttnDIdeal : Cert.AttnDIdeal.Facts] [hPre_finite_logits : Cert.Pre_finite_logits.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal_finite_logits m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowIdeal_pre_finite_logits [hWindowIdeal : Cert.WindowIdeal.Facts] [hPre_finite_logits : Cert.Pre_finite_logits.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_logits m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def preserves_Post_PostIdeal : Prop :=
  True

def algebraic_PostIdeal_LayerEndIdeal [hPostIdeal : Cert.PostIdeal.Facts] [hLayerEndIdeal : Cert.LayerEndIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.LayerEndIdeal.nD Cert.LayerEndIdeal.τ Cert.LayerEndIdeal.sig) → Buf (Elt Ideal) ℓ) (g' : Dev Cert.LayerEndIdeal.nD → PrngReg), Pre_PostIdeal m →
    (∀ c : Dev Cert.PostIdeal.nD,
      m' ((c.tc : Thread Cert.LayerEndIdeal.nD Cert.LayerEndIdeal.τ).loc Cert.LayerEndIdeal.main_arg0) = m ((c.tc : Thread Cert.PostIdeal.nD Cert.PostIdeal.τ).loc Cert.PostIdeal.main_arg0)
      ∧ m' ((c.tc : Thread Cert.LayerEndIdeal.nD Cert.LayerEndIdeal.τ).loc Cert.LayerEndIdeal.main_arg1) = m ((c.tc : Thread Cert.PostIdeal.nD Cert.PostIdeal.τ).loc Cert.PostIdeal.main_arg1)
      ∧ m' ((c.tc : Thread Cert.LayerEndIdeal.nD Cert.LayerEndIdeal.τ).loc Cert.LayerEndIdeal.main_arg2) = m ((c.tc : Thread Cert.PostIdeal.nD Cert.PostIdeal.τ).loc Cert.PostIdeal.main_arg2)
      ∧ m' ((c.tc : Thread Cert.LayerEndIdeal.nD Cert.LayerEndIdeal.τ).loc Cert.LayerEndIdeal.main_arg3) = m ((c.tc : Thread Cert.PostIdeal.nD Cert.PostIdeal.τ).loc Cert.PostIdeal.main_arg3)
      ∧ m' ((c.tc : Thread Cert.LayerEndIdeal.nD Cert.LayerEndIdeal.τ).loc Cert.LayerEndIdeal.main_arg4) = m ((c.tc : Thread Cert.PostIdeal.nD Cert.PostIdeal.τ).loc Cert.PostIdeal.main_arg4)
      ∧ m' ((c.tc : Thread Cert.LayerEndIdeal.nD Cert.LayerEndIdeal.τ).loc Cert.LayerEndIdeal.main_arg5) = m ((c.tc : Thread Cert.PostIdeal.nD Cert.PostIdeal.τ).loc Cert.PostIdeal.main_arg5)
      ∧ m' ((c.tc : Thread Cert.LayerEndIdeal.nD Cert.LayerEndIdeal.τ).loc Cert.LayerEndIdeal.main_arg6) = m ((c.tc : Thread Cert.PostIdeal.nD Cert.PostIdeal.τ).loc Cert.PostIdeal.main_arg6)
      ∧ m' ((c.tc : Thread Cert.LayerEndIdeal.nD Cert.LayerEndIdeal.τ).loc Cert.LayerEndIdeal.main_arg7) = m ((c.tc : Thread Cert.PostIdeal.nD Cert.PostIdeal.τ).loc Cert.PostIdeal.main_arg7)
      ∧ m' ((c.tc : Thread Cert.LayerEndIdeal.nD Cert.LayerEndIdeal.τ).loc Cert.LayerEndIdeal.main_arg8) = m ((c.tc : Thread Cert.PostIdeal.nD Cert.PostIdeal.τ).loc Cert.PostIdeal.main_arg8)
      ∧ m' ((c.tc : Thread Cert.LayerEndIdeal.nD Cert.LayerEndIdeal.τ).loc Cert.LayerEndIdeal.main_arg9) = m ((c.tc : Thread Cert.PostIdeal.nD Cert.PostIdeal.τ).loc Cert.PostIdeal.main_arg9)
      ∧ m' ((c.tc : Thread Cert.LayerEndIdeal.nD Cert.LayerEndIdeal.τ).loc Cert.LayerEndIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.LayerEndIdeal.defs (F := Ideal)) (onTc (τ := Cert.LayerEndIdeal.τ) (Cert.LayerEndIdeal.main (F := Ideal))) ⟨m', fun _ => 0, g'⟩ (fun r => ∀ c : Dev Cert.LayerEndIdeal.nD,
          r.2.mem ((c.tc : Thread Cert.LayerEndIdeal.nD Cert.LayerEndIdeal.τ).loc Cert.LayerEndIdeal.main_v62) = v0 c
          ∧ r.2.mem ((c.tc : Thread Cert.LayerEndIdeal.nD Cert.LayerEndIdeal.τ).loc Cert.LayerEndIdeal.main_arg0) = m' ((c.tc : Thread Cert.LayerEndIdeal.nD Cert.LayerEndIdeal.τ).loc Cert.LayerEndIdeal.main_arg0)
          ∧ r.2.mem ((c.tc : Thread Cert.LayerEndIdeal.nD Cert.LayerEndIdeal.τ).loc Cert.LayerEndIdeal.main_arg1) = m' ((c.tc : Thread Cert.LayerEndIdeal.nD Cert.LayerEndIdeal.τ).loc Cert.LayerEndIdeal.main_arg1)
          ∧ r.2.mem ((c.tc : Thread Cert.LayerEndIdeal.nD Cert.LayerEndIdeal.τ).loc Cert.LayerEndIdeal.main_arg2) = m' ((c.tc : Thread Cert.LayerEndIdeal.nD Cert.LayerEndIdeal.τ).loc Cert.LayerEndIdeal.main_arg2)
          ∧ r.2.mem ((c.tc : Thread Cert.LayerEndIdeal.nD Cert.LayerEndIdeal.τ).loc Cert.LayerEndIdeal.main_arg3) = m' ((c.tc : Thread Cert.LayerEndIdeal.nD Cert.LayerEndIdeal.τ).loc Cert.LayerEndIdeal.main_arg3)
          ∧ r.2.mem ((c.tc : Thread Cert.LayerEndIdeal.nD Cert.LayerEndIdeal.τ).loc Cert.LayerEndIdeal.main_arg4) = m' ((c.tc : Thread Cert.LayerEndIdeal.nD Cert.LayerEndIdeal.τ).loc Cert.LayerEndIdeal.main_arg4)
          ∧ r.2.mem ((c.tc : Thread Cert.LayerEndIdeal.nD Cert.LayerEndIdeal.τ).loc Cert.LayerEndIdeal.main_arg5) = m' ((c.tc : Thread Cert.LayerEndIdeal.nD Cert.LayerEndIdeal.τ).loc Cert.LayerEndIdeal.main_arg5)
          ∧ r.2.mem ((c.tc : Thread Cert.LayerEndIdeal.nD Cert.LayerEndIdeal.τ).loc Cert.LayerEndIdeal.main_arg6) = m' ((c.tc : Thread Cert.LayerEndIdeal.nD Cert.LayerEndIdeal.τ).loc Cert.LayerEndIdeal.main_arg6)
          ∧ r.2.mem ((c.tc : Thread Cert.LayerEndIdeal.nD Cert.LayerEndIdeal.τ).loc Cert.LayerEndIdeal.main_arg7) = m' ((c.tc : Thread Cert.LayerEndIdeal.nD Cert.LayerEndIdeal.τ).loc Cert.LayerEndIdeal.main_arg7)
          ∧ r.2.mem ((c.tc : Thread Cert.LayerEndIdeal.nD Cert.LayerEndIdeal.τ).loc Cert.LayerEndIdeal.main_arg8) = m' ((c.tc : Thread Cert.LayerEndIdeal.nD Cert.LayerEndIdeal.τ).loc Cert.LayerEndIdeal.main_arg8)
          ∧ r.2.mem ((c.tc : Thread Cert.LayerEndIdeal.nD Cert.LayerEndIdeal.τ).loc Cert.LayerEndIdeal.main_arg9) = m' ((c.tc : Thread Cert.LayerEndIdeal.nD Cert.LayerEndIdeal.τ).loc Cert.LayerEndIdeal.main_arg9)
          ∧ r.2.mem ((c.tc : Thread Cert.LayerEndIdeal.nD Cert.LayerEndIdeal.τ).loc Cert.LayerEndIdeal.main_arg10) = m' ((c.tc : Thread Cert.LayerEndIdeal.nD Cert.LayerEndIdeal.τ).loc Cert.LayerEndIdeal.main_arg10))

def preserves_PostInner_PostInnerIdeal : Prop :=
  True

def algebraic_PostInnerIdeal_InnerEndIdeal [hPostInnerIdeal : Cert.PostInnerIdeal.Facts] [hInnerEndIdeal : Cert.InnerEndIdeal.Facts] : Prop :=
  ∀ (m : (ℓ : Loc Cert.PostInnerIdeal.nD Cert.PostInnerIdeal.τ Cert.PostInnerIdeal.sig) → Buf (Elt Ideal) ℓ) (g : Dev Cert.PostInnerIdeal.nD → PrngReg)
    (m' : (ℓ : Loc Cert.InnerEndIdeal.nD Cert.InnerEndIdeal.τ Cert.InnerEndIdeal.sig) → Buf (Elt Ideal) ℓ) (g' : Dev Cert.InnerEndIdeal.nD → PrngReg), Pre_PostInnerIdeal m →
    (∀ c : Dev Cert.PostInnerIdeal.nD,
      m' ((c.tc : Thread Cert.InnerEndIdeal.nD Cert.InnerEndIdeal.τ).loc Cert.InnerEndIdeal.main_arg0) = m ((c.tc : Thread Cert.PostInnerIdeal.nD Cert.PostInnerIdeal.τ).loc Cert.PostInnerIdeal.main_arg0)
      ∧ m' ((c.tc : Thread Cert.InnerEndIdeal.nD Cert.InnerEndIdeal.τ).loc Cert.InnerEndIdeal.main_arg1) = m ((c.tc : Thread Cert.PostInnerIdeal.nD Cert.PostInnerIdeal.τ).loc Cert.PostInnerIdeal.main_arg1)
      ∧ m' ((c.tc : Thread Cert.InnerEndIdeal.nD Cert.InnerEndIdeal.τ).loc Cert.InnerEndIdeal.main_arg2) = m ((c.tc : Thread Cert.PostInnerIdeal.nD Cert.PostInnerIdeal.τ).loc Cert.PostInnerIdeal.main_arg2)
      ∧ m' ((c.tc : Thread Cert.InnerEndIdeal.nD Cert.InnerEndIdeal.τ).loc Cert.InnerEndIdeal.main_arg3) = m ((c.tc : Thread Cert.PostInnerIdeal.nD Cert.PostInnerIdeal.τ).loc Cert.PostInnerIdeal.main_arg3)
      ∧ m' ((c.tc : Thread Cert.InnerEndIdeal.nD Cert.InnerEndIdeal.τ).loc Cert.InnerEndIdeal.main_arg4) = m ((c.tc : Thread Cert.PostInnerIdeal.nD Cert.PostInnerIdeal.τ).loc Cert.PostInnerIdeal.main_arg4)
      ∧ m' ((c.tc : Thread Cert.InnerEndIdeal.nD Cert.InnerEndIdeal.τ).loc Cert.InnerEndIdeal.main_arg5) = m ((c.tc : Thread Cert.PostInnerIdeal.nD Cert.PostInnerIdeal.τ).loc Cert.PostInnerIdeal.main_arg5)
      ∧ m' ((c.tc : Thread Cert.InnerEndIdeal.nD Cert.InnerEndIdeal.τ).loc Cert.InnerEndIdeal.main_arg6) = m ((c.tc : Thread Cert.PostInnerIdeal.nD Cert.PostInnerIdeal.τ).loc Cert.PostInnerIdeal.main_arg6)
      ∧ m' ((c.tc : Thread Cert.InnerEndIdeal.nD Cert.InnerEndIdeal.τ).loc Cert.InnerEndIdeal.main_arg7) = m ((c.tc : Thread Cert.PostInnerIdeal.nD Cert.PostInnerIdeal.τ).loc Cert.PostInnerIdeal.main_arg7)
      ∧ m' ((c.tc : Thread Cert.InnerEndIdeal.nD Cert.InnerEndIdeal.τ).loc Cert.InnerEndIdeal.main_arg8) = m ((c.tc : Thread Cert.PostInnerIdeal.nD Cert.PostInnerIdeal.τ).loc Cert.PostInnerIdeal.main_arg8)
      ∧ m' ((c.tc : Thread Cert.InnerEndIdeal.nD Cert.InnerEndIdeal.τ).loc Cert.InnerEndIdeal.main_arg9) = m ((c.tc : Thread Cert.PostInnerIdeal.nD Cert.PostInnerIdeal.τ).loc Cert.PostInnerIdeal.main_arg9)
      ∧ m' ((c.tc : Thread Cert.InnerEndIdeal.nD Cert.InnerEndIdeal.τ).loc Cert.InnerEndIdeal.main_arg10) = m ((c.tc : Thread Cert.PostInnerIdeal.nD Cert.PostInnerIdeal.τ).loc Cert.PostInnerIdeal.main_arg10)) →
    ∃ (v0 : (c : Dev Cert.PostInnerIdeal.nD) → Buf (Elt Ideal) ((c.tc : Thread Cert.PostInnerIdeal.nD Cert.PostInnerIdeal.τ).loc Cert.PostInnerIdeal.main_v8)),
      θ_run (Cert.PostInnerIdeal.defs (F := Ideal)) (onTc (τ := Cert.PostInnerIdeal.τ) (Cert.PostInnerIdeal.main (F := Ideal))) ⟨m, fun _ => 0, g⟩ (fun r => ∀ c : Dev Cert.PostInnerIdeal.nD,
          r.2.mem ((c.tc : Thread Cert.PostInnerIdeal.nD Cert.PostInnerIdeal.τ).loc Cert.PostInnerIdeal.main_v8) = v0 c
          ∧ r.2.mem ((c.tc : Thread Cert.PostInnerIdeal.nD Cert.PostInnerIdeal.τ).loc Cert.PostInnerIdeal.main_arg0) = m ((c.tc : Thread Cert.PostInnerIdeal.nD Cert.PostInnerIdeal.τ).loc Cert.PostInnerIdeal.main_arg0)
          ∧ r.2.mem ((c.tc : Thread Cert.PostInnerIdeal.nD Cert.PostInnerIdeal.τ).loc Cert.PostInnerIdeal.main_arg1) = m ((c.tc : Thread Cert.PostInnerIdeal.nD Cert.PostInnerIdeal.τ).loc Cert.PostInnerIdeal.main_arg1)
          ∧ r.2.mem ((c.tc : Thread Cert.PostInnerIdeal.nD Cert.PostInnerIdeal.τ).loc Cert.PostInnerIdeal.main_arg2) = m ((c.tc : Thread Cert.PostInnerIdeal.nD Cert.PostInnerIdeal.τ).loc Cert.PostInnerIdeal.main_arg2)
          ∧ r.2.mem ((c.tc : Thread Cert.PostInnerIdeal.nD Cert.PostInnerIdeal.τ).loc Cert.PostInnerIdeal.main_arg3) = m ((c.tc : Thread Cert.PostInnerIdeal.nD Cert.PostInnerIdeal.τ).loc Cert.PostInnerIdeal.main_arg3)
          ∧ r.2.mem ((c.tc : Thread Cert.PostInnerIdeal.nD Cert.PostInnerIdeal.τ).loc Cert.PostInnerIdeal.main_arg4) = m ((c.tc : Thread Cert.PostInnerIdeal.nD Cert.PostInnerIdeal.τ).loc Cert.PostInnerIdeal.main_arg4)
          ∧ r.2.mem ((c.tc : Thread Cert.PostInnerIdeal.nD Cert.PostInnerIdeal.τ).loc Cert.PostInnerIdeal.main_arg5) = m ((c.tc : Thread Cert.PostInnerIdeal.nD Cert.PostInnerIdeal.τ).loc Cert.PostInnerIdeal.main_arg5)
          ∧ r.2.mem ((c.tc : Thread Cert.PostInnerIdeal.nD Cert.PostInnerIdeal.τ).loc Cert.PostInnerIdeal.main_arg6) = m ((c.tc : Thread Cert.PostInnerIdeal.nD Cert.PostInnerIdeal.τ).loc Cert.PostInnerIdeal.main_arg6)
          ∧ r.2.mem ((c.tc : Thread Cert.PostInnerIdeal.nD Cert.PostInnerIdeal.τ).loc Cert.PostInnerIdeal.main_arg7) = m ((c.tc : Thread Cert.PostInnerIdeal.nD Cert.PostInnerIdeal.τ).loc Cert.PostInnerIdeal.main_arg7)
          ∧ r.2.mem ((c.tc : Thread Cert.PostInnerIdeal.nD Cert.PostInnerIdeal.τ).loc Cert.PostInnerIdeal.main_arg8) = m ((c.tc : Thread Cert.PostInnerIdeal.nD Cert.PostInnerIdeal.τ).loc Cert.PostInnerIdeal.main_arg8)
          ∧ r.2.mem ((c.tc : Thread Cert.PostInnerIdeal.nD Cert.PostInnerIdeal.τ).loc Cert.PostInnerIdeal.main_arg9) = m ((c.tc : Thread Cert.PostInnerIdeal.nD Cert.PostInnerIdeal.τ).loc Cert.PostInnerIdeal.main_arg9)
          ∧ r.2.mem ((c.tc : Thread Cert.PostInnerIdeal.nD Cert.PostInnerIdeal.τ).loc Cert.PostInnerIdeal.main_arg10) = m ((c.tc : Thread Cert.PostInnerIdeal.nD Cert.PostInnerIdeal.τ).loc Cert.PostInnerIdeal.main_arg10))
      ∧ θ_run (Cert.InnerEndIdeal.defs (F := Ideal)) (onTc (τ := Cert.InnerEndIdeal.τ) (Cert.InnerEndIdeal.main (F := Ideal))) ⟨m', fun _ => 0, g'⟩ (fun r => ∀ c : Dev Cert.InnerEndIdeal.nD,
          r.2.mem ((c.tc : Thread Cert.InnerEndIdeal.nD Cert.InnerEndIdeal.τ).loc Cert.InnerEndIdeal.main_v49) = v0 c
          ∧ r.2.mem ((c.tc : Thread Cert.InnerEndIdeal.nD Cert.InnerEndIdeal.τ).loc Cert.InnerEndIdeal.main_arg0) = m' ((c.tc : Thread Cert.InnerEndIdeal.nD Cert.InnerEndIdeal.τ).loc Cert.InnerEndIdeal.main_arg0)
          ∧ r.2.mem ((c.tc : Thread Cert.InnerEndIdeal.nD Cert.InnerEndIdeal.τ).loc Cert.InnerEndIdeal.main_arg1) = m' ((c.tc : Thread Cert.InnerEndIdeal.nD Cert.InnerEndIdeal.τ).loc Cert.InnerEndIdeal.main_arg1)
          ∧ r.2.mem ((c.tc : Thread Cert.InnerEndIdeal.nD Cert.InnerEndIdeal.τ).loc Cert.InnerEndIdeal.main_arg2) = m' ((c.tc : Thread Cert.InnerEndIdeal.nD Cert.InnerEndIdeal.τ).loc Cert.InnerEndIdeal.main_arg2)
          ∧ r.2.mem ((c.tc : Thread Cert.InnerEndIdeal.nD Cert.InnerEndIdeal.τ).loc Cert.InnerEndIdeal.main_arg3) = m' ((c.tc : Thread Cert.InnerEndIdeal.nD Cert.InnerEndIdeal.τ).loc Cert.InnerEndIdeal.main_arg3)
          ∧ r.2.mem ((c.tc : Thread Cert.InnerEndIdeal.nD Cert.InnerEndIdeal.τ).loc Cert.InnerEndIdeal.main_arg4) = m' ((c.tc : Thread Cert.InnerEndIdeal.nD Cert.InnerEndIdeal.τ).loc Cert.InnerEndIdeal.main_arg4)
          ∧ r.2.mem ((c.tc : Thread Cert.InnerEndIdeal.nD Cert.InnerEndIdeal.τ).loc Cert.InnerEndIdeal.main_arg5) = m' ((c.tc : Thread Cert.InnerEndIdeal.nD Cert.InnerEndIdeal.τ).loc Cert.InnerEndIdeal.main_arg5)
          ∧ r.2.mem ((c.tc : Thread Cert.InnerEndIdeal.nD Cert.InnerEndIdeal.τ).loc Cert.InnerEndIdeal.main_arg6) = m' ((c.tc : Thread Cert.InnerEndIdeal.nD Cert.InnerEndIdeal.τ).loc Cert.InnerEndIdeal.main_arg6)
          ∧ r.2.mem ((c.tc : Thread Cert.InnerEndIdeal.nD Cert.InnerEndIdeal.τ).loc Cert.InnerEndIdeal.main_arg7) = m' ((c.tc : Thread Cert.InnerEndIdeal.nD Cert.InnerEndIdeal.τ).loc Cert.InnerEndIdeal.main_arg7)
          ∧ r.2.mem ((c.tc : Thread Cert.InnerEndIdeal.nD Cert.InnerEndIdeal.τ).loc Cert.InnerEndIdeal.main_arg8) = m' ((c.tc : Thread Cert.InnerEndIdeal.nD Cert.InnerEndIdeal.τ).loc Cert.InnerEndIdeal.main_arg8)
          ∧ r.2.mem ((c.tc : Thread Cert.InnerEndIdeal.nD Cert.InnerEndIdeal.τ).loc Cert.InnerEndIdeal.main_arg9) = m' ((c.tc : Thread Cert.InnerEndIdeal.nD Cert.InnerEndIdeal.τ).loc Cert.InnerEndIdeal.main_arg9)
          ∧ r.2.mem ((c.tc : Thread Cert.InnerEndIdeal.nD Cert.InnerEndIdeal.τ).loc Cert.InnerEndIdeal.main_arg10) = m' ((c.tc : Thread Cert.InnerEndIdeal.nD Cert.InnerEndIdeal.τ).loc Cert.InnerEndIdeal.main_arg10))

def preserves_Proj_ProjIdeal : Prop :=
  True

def algebraic_ProjIdeal_HeadsIdeal [hProjIdeal : Cert.ProjIdeal.Facts] [hHeadsIdeal : Cert.HeadsIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.HeadsIdeal.nD Cert.HeadsIdeal.τ Cert.HeadsIdeal.sig) → Buf (Elt Ideal) ℓ) (g' : Dev Cert.HeadsIdeal.nD → PrngReg), Pre_ProjIdeal m →
    (∀ c : Dev Cert.ProjIdeal.nD,
      m' ((c.tc : Thread Cert.HeadsIdeal.nD Cert.HeadsIdeal.τ).loc Cert.HeadsIdeal.main_arg0) = m ((c.tc : Thread Cert.ProjIdeal.nD Cert.ProjIdeal.τ).loc Cert.ProjIdeal.main_arg0)
      ∧ m' ((c.tc : Thread Cert.HeadsIdeal.nD Cert.HeadsIdeal.τ).loc Cert.HeadsIdeal.main_arg1) = m ((c.tc : Thread Cert.ProjIdeal.nD Cert.ProjIdeal.τ).loc Cert.ProjIdeal.main_arg1)
      ∧ m' ((c.tc : Thread Cert.HeadsIdeal.nD Cert.HeadsIdeal.τ).loc Cert.HeadsIdeal.main_arg2) = m ((c.tc : Thread Cert.ProjIdeal.nD Cert.ProjIdeal.τ).loc Cert.ProjIdeal.main_arg2)
      ∧ m' ((c.tc : Thread Cert.HeadsIdeal.nD Cert.HeadsIdeal.τ).loc Cert.HeadsIdeal.main_arg3) = m ((c.tc : Thread Cert.ProjIdeal.nD Cert.ProjIdeal.τ).loc Cert.ProjIdeal.main_arg3)
      ∧ m' ((c.tc : Thread Cert.HeadsIdeal.nD Cert.HeadsIdeal.τ).loc Cert.HeadsIdeal.main_arg4) = m ((c.tc : Thread Cert.ProjIdeal.nD Cert.ProjIdeal.τ).loc Cert.ProjIdeal.main_arg4)
      ∧ m' ((c.tc : Thread Cert.HeadsIdeal.nD Cert.HeadsIdeal.τ).loc Cert.HeadsIdeal.main_arg5) = m ((c.tc : Thread Cert.ProjIdeal.nD Cert.ProjIdeal.τ).loc Cert.ProjIdeal.main_arg5)
      ∧ m' ((c.tc : Thread Cert.HeadsIdeal.nD Cert.HeadsIdeal.τ).loc Cert.HeadsIdeal.main_arg6) = m ((c.tc : Thread Cert.ProjIdeal.nD Cert.ProjIdeal.τ).loc Cert.ProjIdeal.main_arg6)
      ∧ m' ((c.tc : Thread Cert.HeadsIdeal.nD Cert.HeadsIdeal.τ).loc Cert.HeadsIdeal.main_arg7) = m ((c.tc : Thread Cert.ProjIdeal.nD Cert.ProjIdeal.τ).loc Cert.ProjIdeal.main_arg7)
      ∧ m' ((c.tc : Thread Cert.HeadsIdeal.nD Cert.HeadsIdeal.τ).loc Cert.HeadsIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v105_0)) (v1 : (c : Dev Cert.ProjIdeal.nD) → Buf (Elt Ideal) ((c.tc : Thread Cert.ProjIdeal.nD Cert.ProjIdeal.τ).loc Cert.ProjIdeal.main_v105_1)) (v2 : (c : Dev Cert.ProjIdeal.nD) → Buf (Elt Ideal) ((c.tc : Thread Cert.ProjIdeal.nD Cert.ProjIdeal.τ).loc Cert.ProjIdeal.main_v105_2)) (v3 : (c : Dev Cert.ProjIdeal.nD) → Buf (Elt Ideal) ((c.tc : Thread Cert.ProjIdeal.nD Cert.ProjIdeal.τ).loc Cert.ProjIdeal.main_v105_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v105_0) = v0 c
          ∧ r.2.mem ((c.tc : Thread Cert.ProjIdeal.nD Cert.ProjIdeal.τ).loc Cert.ProjIdeal.main_v105_1) = v1 c
          ∧ r.2.mem ((c.tc : Thread Cert.ProjIdeal.nD Cert.ProjIdeal.τ).loc Cert.ProjIdeal.main_v105_2) = v2 c
          ∧ r.2.mem ((c.tc : Thread Cert.ProjIdeal.nD Cert.ProjIdeal.τ).loc Cert.ProjIdeal.main_v105_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.HeadsIdeal.defs (F := Ideal)) (onTc (τ := Cert.HeadsIdeal.τ) (Cert.HeadsIdeal.main (F := Ideal))) ⟨m', fun _ => 0, g'⟩ (fun r => ∀ c : Dev Cert.HeadsIdeal.nD,
          r.2.mem ((c.tc : Thread Cert.HeadsIdeal.nD Cert.HeadsIdeal.τ).loc Cert.HeadsIdeal.main_v281) = v0 c
          ∧ r.2.mem ((c.tc : Thread Cert.HeadsIdeal.nD Cert.HeadsIdeal.τ).loc Cert.HeadsIdeal.main_v284) = v1 c
          ∧ r.2.mem ((c.tc : Thread Cert.HeadsIdeal.nD Cert.HeadsIdeal.τ).loc Cert.HeadsIdeal.main_v287) = v2 c
          ∧ r.2.mem ((c.tc : Thread Cert.HeadsIdeal.nD Cert.HeadsIdeal.τ).loc Cert.HeadsIdeal.main_v290) = v3 c
          ∧ r.2.mem ((c.tc : Thread Cert.HeadsIdeal.nD Cert.HeadsIdeal.τ).loc Cert.HeadsIdeal.main_arg0) = m' ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m' ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m' ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m' ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m' ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m' ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m' ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m' ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m' ((c.tc : Thread Cert.HeadsIdeal.nD Cert.HeadsIdeal.τ).loc Cert.HeadsIdeal.main_arg8))

def preserves_AttnD_AttnDIdeal : Prop :=
  IdealRules.named_const.Statement Cert.AttnDIdeal.κ "log2e" .f32 0x3FB8AA3B#32 (((Real.log 2)⁻¹ : ℝ) : EReal)
  ∧ IdealRules.named_const.Statement Cert.AttnDIdeal.κ "mask" .f32 0xF149F2CA#32 ⊥

def algebraic_AttnDIdeal_WindowIdeal_pre_finite_logits [hAttnDIdeal : Cert.AttnDIdeal.Facts] [hWindowIdeal : Cert.WindowIdeal.Facts] [hPre_finite_logits : Cert.Pre_finite_logits.Facts] : Prop :=
  ∀ (m : (ℓ : Loc Cert.AttnDIdeal.nD Cert.AttnDIdeal.τ Cert.AttnDIdeal.sig) → Buf (Elt Ideal) ℓ) (g : Dev Cert.AttnDIdeal.nD → PrngReg)
    (m' : (ℓ : Loc Cert.WindowIdeal.nD Cert.WindowIdeal.τ Cert.WindowIdeal.sig) → Buf (Elt Ideal) ℓ) (g' : Dev Cert.WindowIdeal.nD → PrngReg), Pre_AttnDIdeal_finite_logits m →
    (∀ c : Dev Cert.AttnDIdeal.nD,
      m' ((c.tc : Thread Cert.WindowIdeal.nD Cert.WindowIdeal.τ).loc Cert.WindowIdeal.main_arg0) = m ((c.tc : Thread Cert.AttnDIdeal.nD Cert.AttnDIdeal.τ).loc Cert.AttnDIdeal.main_arg0)
      ∧ m' ((c.tc : Thread Cert.WindowIdeal.nD Cert.WindowIdeal.τ).loc Cert.WindowIdeal.main_arg1) = m ((c.tc : Thread Cert.AttnDIdeal.nD Cert.AttnDIdeal.τ).loc Cert.AttnDIdeal.main_arg1)
      ∧ m' ((c.tc : Thread Cert.WindowIdeal.nD Cert.WindowIdeal.τ).loc Cert.WindowIdeal.main_arg2) = m ((c.tc : Thread Cert.AttnDIdeal.nD Cert.AttnDIdeal.τ).loc Cert.AttnDIdeal.main_arg2)) →
    ∃ (v0 : (c : Dev Cert.AttnDIdeal.nD) → Buf (Elt Ideal) ((c.tc : Thread Cert.AttnDIdeal.nD Cert.AttnDIdeal.τ).loc Cert.AttnDIdeal.main_v0)),
      θ_run (Cert.AttnDIdeal.defs (F := Ideal)) (onTc (τ := Cert.AttnDIdeal.τ) (Cert.AttnDIdeal.main (F := Ideal))) ⟨m, fun _ => 0, g⟩ (fun r => ∀ c : Dev Cert.AttnDIdeal.nD,
          r.2.mem ((c.tc : Thread Cert.AttnDIdeal.nD Cert.AttnDIdeal.τ).loc Cert.AttnDIdeal.main_v0) = v0 c
          ∧ r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
          ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
          ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2))
      ∧ θ_run (Cert.WindowIdeal.defs (F := Ideal)) (onTc (τ := Cert.WindowIdeal.τ) (Cert.WindowIdeal.main (F := Ideal))) ⟨m', fun _ => 0, g'⟩ (fun r => ∀ c : Dev Cert.WindowIdeal.nD,
          r.2.mem ((c.tc : Thread Cert.WindowIdeal.nD Cert.WindowIdeal.τ).loc Cert.WindowIdeal.main_v60) = v0 c
          ∧ r.2.mem ((c.tc : Thread Cert.WindowIdeal.nD Cert.WindowIdeal.τ).loc Cert.WindowIdeal.main_arg0) = m' ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m' ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m' ((c.tc : Thread Cert.WindowIdeal.nD Cert.WindowIdeal.τ).loc Cert.WindowIdeal.main_arg2))

def Claim : Prop :=
  ∃ (hPost : Cert.Post.Facts) (hPostIdeal : Cert.PostIdeal.Facts) (hLayerEndIdeal : Cert.LayerEndIdeal.Facts) (hPostInner : Cert.PostInner.Facts) (hPostInnerIdeal : Cert.PostInnerIdeal.Facts) (hInnerEndIdeal : Cert.InnerEndIdeal.Facts) (hProj : Cert.Proj.Facts) (hProjIdeal : Cert.ProjIdeal.Facts) (hHeadsIdeal : Cert.HeadsIdeal.Facts) (hAttnD : Cert.AttnD.Facts) (hAttnDIdeal : Cert.AttnDIdeal.Facts) (hWindowIdeal : Cert.WindowIdeal.Facts) (hPre_finite_logits : Cert.Pre_finite_logits.Facts),
    quiescent_Post (hPost := hPost)
    ∧ quiescent_PostIdeal (hPostIdeal := hPostIdeal)
    ∧ quiescent_LayerEndIdeal (hLayerEndIdeal := hLayerEndIdeal)
    ∧ quiescent_PostInner (hPostInner := hPostInner)
    ∧ quiescent_PostInnerIdeal (hPostInnerIdeal := hPostInnerIdeal)
    ∧ quiescent_InnerEndIdeal (hInnerEndIdeal := hInnerEndIdeal)
    ∧ quiescent_Proj (hProj := hProj)
    ∧ quiescent_ProjIdeal (hProjIdeal := hProjIdeal)
    ∧ quiescent_HeadsIdeal (hHeadsIdeal := hHeadsIdeal)
    ∧ quiescent_AttnD (hAttnD := hAttnD)
    ∧ quiescent_AttnDIdeal (hAttnDIdeal := hAttnDIdeal)
    ∧ quiescent_AttnDIdeal_pre_finite_logits (hAttnDIdeal := hAttnDIdeal) (hPre_finite_logits := hPre_finite_logits)
    ∧ quiescent_WindowIdeal (hWindowIdeal := hWindowIdeal)
    ∧ quiescent_WindowIdeal_pre_finite_logits (hWindowIdeal := hWindowIdeal) (hPre_finite_logits := hPre_finite_logits)
    ∧ preserves_Post_PostIdeal
    ∧ algebraic_PostIdeal_LayerEndIdeal (hPostIdeal := hPostIdeal) (hLayerEndIdeal := hLayerEndIdeal)
    ∧ preserves_PostInner_PostInnerIdeal
    ∧ algebraic_PostInnerIdeal_InnerEndIdeal (hPostInnerIdeal := hPostInnerIdeal) (hInnerEndIdeal := hInnerEndIdeal)
    ∧ preserves_Proj_ProjIdeal
    ∧ algebraic_ProjIdeal_HeadsIdeal (hProjIdeal := hProjIdeal) (hHeadsIdeal := hHeadsIdeal)
    ∧ preserves_AttnD_AttnDIdeal
    ∧ algebraic_AttnDIdeal_WindowIdeal_pre_finite_logits (hAttnDIdeal := hAttnDIdeal) (hWindowIdeal := hWindowIdeal) (hPre_finite_logits := hPre_finite_logits)
-- ==== Pre_finite_logits.lean ====
abbrev S8x2048x5120 : Shape := ⟨3, ![8, 2048, 5120]⟩
abbrev S8x256x5120 : Shape := ⟨3, ![8, 256, 5120]⟩
abbrev S2x4 : Shape := ⟨2, ![2, 4]⟩
abbrev S8x2048x768 : Shape := ⟨3, ![8, 2048, 768]⟩
abbrev S8x256x256 : Shape := ⟨3, ![8, 256, 256]⟩
abbrev S_ : Shape := ⟨0, ![]⟩
abbrev S1x4 : Shape := ⟨2, ![1, 4]⟩
abbrev S4 : Shape := ⟨1, ![4]⟩

class Facts : Prop where
  slices_S8x2048x5120_S8x2048x768_0_0_4096 : S8x2048x5120.Slices ![0, 0, 4096] S8x2048x768
  bitsLt_bf16_f32 : FTy.bits .bf16 < FTy.bits .f32
  slices_S8x256x5120_S8x256x256_0_0_4608 : S8x256x5120.Slices ![0, 0, 4608] S8x256x256
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  slices_S2x4_S1x4_0_0 : S2x4.Slices ![0, 0] S1x4
  shapeCasts_S1x4_S4 : S1x4.ShapeCasts S4
  bcast_S_S4 : S_.BroadcastsInDim S4 (![] : Fin 0 → Fin S4.rank)
  reducesTo_S4_S_d0 : S4.ReducesTo [0] S_

variable [Facts]

def fn_part1 {F : FTy → Type} [FloatOps F] (main_v12 : IVec S_ 1) (main_v17 : IVec S4 1) (main_c_3 : IVec S_ 1) : IVec S_ 1 :=
  let main_v18 : IVec S_ 1 := (fun x v => Host.reduce IntOp.andi x v reducesTo_S4_S_d0 h_S_) main_v17 main_c_3
  let main_v19 : IVec S_ 1 := andi main_v12 main_v18
  main_v19

def fn {F : FTy → Type} [FloatOps F] (main_arg0 : FVec F S8x2048x5120 .bf16) (main_arg1 : FVec F S8x256x5120 .bf16) (main_arg2 : FVec F S2x4 .f32) : IVec S_ 1 :=
  let main_v0 : FVec F S8x2048x768 .bf16 := (extractStridedSlice S8x2048x768 ![0, 0, 4096] · slices_S8x2048x5120_S8x2048x768_0_0_4096) main_arg0
  let main_v1 : FVec F S8x2048x768 .f32 := (extf .f32 · bitsLt_bf16_f32) main_v0
  let main_v2 : FVec F S8x256x256 .bf16 := (extractStridedSlice S8x256x256 ![0, 0, 4608] · slices_S8x256x5120_S8x256x256_0_0_4608) main_arg1
  let main_v3 : FVec F S8x256x256 .f32 := (extf .f32 · bitsLt_bf16_f32) main_v2
  let main_v4 : FVec F S8x2048x768 .f32 := Host.absf main_v1
  let main_cst : FVec F S_ .f32 := constant S_ .f32 0x7F800000#32
  let main_v5 : FVec F S8x2048x768 .f32 := broadcastInDim S8x2048x768 ![] bcast_S_S8x2048x768 main_cst
  let main_v6 : IVec S8x2048x768 1 := cmpf .olt main_v4 main_v5
  let main_c : IVec S_ 1 := constantI S_ 1 1#1
  let main_v7 : IVec S_ 1 := (fun x v => Host.reduce IntOp.andi x v reducesTo_S8x2048x768_S_d0_1_2 h_S_) main_v6 main_c
  let main_v8 : FVec F S8x256x256 .f32 := Host.absf main_v3
  let main_cst_0 : FVec F S_ .f32 := constant S_ .f32 0x7F800000#32
  let main_v9 : FVec F S8x256x256 .f32 := broadcastInDim S8x256x256 ![] bcast_S_S8x256x256 main_cst_0
  let main_v10 : IVec S8x256x256 1 := cmpf .olt main_v8 main_v9
  let main_c_1 : IVec S_ 1 := constantI S_ 1 1#1
  let main_v11 : IVec S_ 1 := (fun x v => Host.reduce IntOp.andi x v reducesTo_S8x256x256_S_d0_1_2 h_S_) main_v10 main_c_1
  let main_v12 : IVec S_ 1 := andi main_v7 main_v11
  let main_v13 : FVec F S1x4 .f32 := (extractStridedSlice S1x4 ![0, 0] · slices_S2x4_S1x4_0_0) main_arg2
  let main_v14 : FVec F S4 .f32 := shapeCast S4 main_v13 shapeCasts_S1x4_S4
  let main_v15 : FVec F S4 .f32 := Host.absf main_v14
  let main_cst_2 : FVec F S_ .f32 := constant S_ .f32 0x7F800000#32
  let main_v16 : FVec F S4 .f32 := broadcastInDim S4 ![] bcast_S_S4 main_cst_2
  let main_v17 : IVec S4 1 := cmpf .olt main_v15 main_v16
  let main_c_3 : IVec S_ 1 := constantI S_ 1 1#1
  fn_part1 (F := F) main_v12 main_v17 main_c_3
-- ==== Post.lean ====
abbrev S8x2048x2048 : Shape := ⟨3, ![8, 2048, 2048]⟩
abbrev S8x2048x512 : Shape := ⟨3, ![8, 2048, 512]⟩
abbrev S2048x2048 : Shape := ⟨2, ![2048, 2048]⟩
abbrev S2x16x6x2048 : Shape := ⟨4, ![2, 16, 6, 2048]⟩
abbrev S2x2048 : Shape := ⟨2, ![2, 2048]⟩
abbrev S2048x8192 : Shape := ⟨2, ![2048, 8192]⟩
abbrev S8192x2048 : Shape := ⟨2, ![8192, 2048]⟩
abbrev S2048 : Shape := ⟨1, ![2048]⟩
abbrev S16384x2048 : Shape := ⟨2, ![16384, 2048]⟩
abbrev S16384x512 : Shape := ⟨2, ![16384, 512]⟩
abbrev S2x96x1x2048 : Shape := ⟨4, ![2, 96, 1, 2048]⟩
abbrev S2x1x2048 : Shape := ⟨3, ![2, 1, 2048]⟩
abbrev S1x2048 : Shape := ⟨2, ![1, 2048]⟩
abbrev S512x2048 : Shape := ⟨2, ![512, 2048]⟩
abbrev S512x512 : Shape := ⟨2, ![512, 512]⟩
abbrev S1x1x1x2048 : Shape := ⟨4, ![1, 1, 1, 2048]⟩
abbrev S1x1x2048 : Shape := ⟨3, ![1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 20
  | .vmem => 29
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2048x2048, .bf16⟩
  | .hbm, ⟨6, _⟩ => ⟨S2x16x6x2048, .f32⟩
  | .hbm, ⟨7, _⟩ => ⟨S2x2048, .f32⟩
  | .hbm, ⟨8, _⟩ => ⟨S2048x8192, .bf16⟩
  | .hbm, ⟨9, _⟩ => ⟨S8192x2048, .bf16⟩
  | .hbm, ⟨10, _⟩ => ⟨S2048, .f32⟩
  | .hbm, ⟨11, _⟩ => ⟨S16384x2048, .f32⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S2x96x1x2048, .f32⟩
  | .hbm, ⟨17, _⟩ => ⟨S2x1x2048, .f32⟩
  | .hbm, ⟨18, _⟩ => ⟨S1x2048, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x2048, .bf16⟩
  | .local _ .vmem, ⟨11, _⟩ => ⟨S1x1x1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x2048, .f32⟩
  | .local _ .vmem, ⟨20, _⟩ => ⟨S2048x1024, .bf16⟩
  | .local _ .vmem, ⟨21, _⟩ => ⟨S2048x1024, .bf16⟩
  | .local _ .vmem, ⟨22, _⟩ => ⟨S1024x2048, .bf16⟩
  | .local _ .vmem, ⟨23, _⟩ => ⟨S1024x2048, .bf16⟩
  | .local _ .vmem, ⟨24, _⟩ => ⟨S1x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32_4 : BitVec 32 := 4#32
  let v18 : BitVec 32 := Scalar.addi v17 c4_i32_4
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== LayerEndIdeal.lean ====
abbrev S8x2048x2048 : Shape := ⟨3, ![8, 2048, 2048]⟩
abbrev S8x2048x512 : Shape := ⟨3, ![8, 2048, 512]⟩
abbrev S2048x2048 : Shape := ⟨2, ![2048, 2048]⟩
abbrev S2x16x6x2048 : Shape := ⟨4, ![2, 16, 6, 2048]⟩
abbrev S2x2048 : Shape := ⟨2, ![2, 2048]⟩
abbrev S2048x8192 : Shape := ⟨2, ![2048, 8192]⟩
abbrev S8192x2048 : Shape := ⟨2, ![8192, 2048]⟩
abbrev S2048 : Shape := ⟨1, ![2048]⟩
abbrev S1x16x6x2048 : Shape := ⟨4, ![1, 16, 6, 2048]⟩
abbrev S16x6x2048 : Shape := ⟨3, ![16, 6, 2048]⟩
abbrev S1x2048 : Shape := ⟨2, ![1, 2048]⟩
abbrev S8x6x2048 : Shape := ⟨3, ![8, 6, 2048]⟩
abbrev S8x6x1x2048 : Shape := ⟨4, ![8, 6, 1, 2048]⟩
abbrev S8x1x1x2048 : Shape := ⟨4, ![8, 1, 1, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x8192 : Shape := ⟨3, ![8, 2048, 8192]⟩
abbrev S16384x2048 : Shape := ⟨2, ![16384, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2048x2048, .bf16⟩
  | .hbm, ⟨6, _⟩ => ⟨S2x16x6x2048, .f32⟩
  | .hbm, ⟨7, _⟩ => ⟨S2x2048, .f32⟩
  | .hbm, ⟨8, _⟩ => ⟨S2048x8192, .bf16⟩
  | .hbm, ⟨9, _⟩ => ⟨S8192x2048, .bf16⟩
  | .hbm, ⟨10, _⟩ => ⟨S2048, .f32⟩
  | .hbm, ⟨11, _⟩ => ⟨S1x16x6x2048, .f32⟩
  | .hbm, ⟨12, _⟩ => ⟨S16x6x2048, .f32⟩
  | .hbm, ⟨13, _⟩ => ⟨S1x2048, .f32⟩
  | .hbm, ⟨14, _⟩ => ⟨S2048, .f32⟩
  | .hbm, ⟨15, _⟩ => ⟨S2048x2048, .f32⟩
  | .hbm, ⟨16, _⟩ => ⟨S2048x8192, .f32⟩
  | .hbm, ⟨17, _⟩ => ⟨S8192x2048, .f32⟩
  | .hbm, ⟨18, _⟩ => ⟨S8x2048x2048, .bf16⟩
  | .hbm, ⟨19, _⟩ => ⟨S8x2048x2048, .f32⟩
  | .hbm, ⟨20, _⟩ => ⟨S8x6x2048, .f32⟩
  | .hbm, ⟨21, _⟩ => ⟨S8x6x1x2048, .f32⟩
  | .hbm, ⟨22, _⟩ => ⟨S8x1x1x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x1x1x2048, .f32⟩
  | .hbm, ⟨29, _⟩ => ⟨S8x1x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S1x1x2048, .f32⟩
  | .hbm, ⟨44, _⟩ => ⟨S8x2048x2048, .f32⟩
  | .hbm, ⟨45, _⟩ => ⟨S8x2048x2048, .f32⟩
  | .hbm, ⟨46, _⟩ => ⟨S8x1x1x2048, .f32⟩
  | .hbm, ⟨47, _⟩ => ⟨S8x1x2048, .f32⟩
  | .hbm, ⟨48, _⟩ => ⟨S8x1x1x2048, .f32⟩
  | .hbm, ⟨49, _⟩ => ⟨S8x1x2048, .f32⟩
  | .hbm, ⟨50, _⟩ => ⟨S_, .f32⟩
  | .hbm, ⟨51, _⟩ => ⟨S8x1x2048, .f32⟩
  | .hbm, ⟨52, _⟩ => ⟨S8x1x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x8192, .f32⟩
  | .hbm, ⟨58, _⟩ => ⟨S_, .f32⟩
  | .hbm, ⟨59, _⟩ => ⟨S8x2048x8192, .f32⟩
  | .hbm, ⟨60, _⟩ => ⟨S8x2048x8192, .f32⟩
  | .hbm, ⟨61, _⟩ => ⟨S8x2048x8192, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x2048, .f32⟩
  | .hbm, ⟨78, _⟩ => ⟨S8x2048x2048, .f32⟩
  | .hbm, ⟨79, _⟩ => ⟨S1x1x2048, .f32⟩
  | .hbm, ⟨80, _⟩ => ⟨S8x2048x2048, .f32⟩
  | .hbm, ⟨81, _⟩ => ⟨S8x2048x2048, .f32⟩
  | .hbm, ⟨82, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== PostInner.lean ====
abbrev S8x2048x2048 : Shape := ⟨3, ![8, 2048, 2048]⟩
abbrev S8x2048x512 : Shape := ⟨3, ![8, 2048, 512]⟩
abbrev S2048x2048 : Shape := ⟨2, ![2048, 2048]⟩
abbrev S2x16x6x2048 : Shape := ⟨4, ![2, 16, 6, 2048]⟩
abbrev S2x2048 : Shape := ⟨2, ![2, 2048]⟩
abbrev S2048x8192 : Shape := ⟨2, ![2048, 8192]⟩
abbrev S8192x2048 : Shape := ⟨2, ![8192, 2048]⟩
abbrev S2048 : Shape := ⟨1, ![2048]⟩
abbrev S16384x2048 : Shape := ⟨2, ![16384, 2048]⟩
abbrev S16384x512 : Shape := ⟨2, ![16384, 512]⟩
abbrev S2x96x1x2048 : Shape := ⟨4, ![2, 96, 1, 2048]⟩
abbrev S2x1x2048 : Shape := ⟨3, ![2, 1, 2048]⟩
abbrev S1x2048 : Shape := ⟨2, ![1, 2048]⟩
abbrev S512x2048 : Shape := ⟨2, ![512, 2048]⟩
abbrev S512x512 : Shape := ⟨2, ![512, 512]⟩
abbrev S1x1x1x2048 : Shape := ⟨4, ![1, 1, 1, 2048]⟩
abbrev S1x1x2048 : Shape := ⟨3, ![1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 20
  | .vmem => 29
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2048x2048, .bf16⟩
  | .hbm, ⟨6, _⟩ => ⟨S2x16x6x2048, .f32⟩
  | .hbm, ⟨7, _⟩ => ⟨S2x2048, .f32⟩
  | .hbm, ⟨8, _⟩ => ⟨S2048x8192, .bf16⟩
  | .hbm, ⟨9, _⟩ => ⟨S8192x2048, .bf16⟩
  | .hbm, ⟨10, _⟩ => ⟨S2048, .f32⟩
  | .hbm, ⟨11, _⟩ => ⟨S16384x2048, .f32⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S2x96x1x2048, .f32⟩
  | .hbm, ⟨17, _⟩ => ⟨S2x1x2048, .f32⟩
  | .hbm, ⟨18, _⟩ => ⟨S1x2048, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x2048, .bf16⟩
  | .local _ .vmem, ⟨11, _⟩ => ⟨S1x1x1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x2048, .f32⟩
  | .local _ .vmem, ⟨20, _⟩ => ⟨S2048x1024, .bf16⟩
  | .local _ .vmem, ⟨21, _⟩ => ⟨S2048x1024, .bf16⟩
  | .local _ .vmem, ⟨22, _⟩ => ⟨S1024x2048, .bf16⟩
  | .local _ .vmem, ⟨23, _⟩ => ⟨S1024x2048, .bf16⟩
  | .local _ .vmem, ⟨24, _⟩ => ⟨S1x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32_4 : BitVec 32 := 4#32
  let v18 : BitVec 32 := Scalar.addi v17 c4_i32_4
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== InnerEndIdeal.lean ====
abbrev S8x2048x2048 : Shape := ⟨3, ![8, 2048, 2048]⟩
abbrev S8x2048x512 : Shape := ⟨3, ![8, 2048, 512]⟩
abbrev S2048x2048 : Shape := ⟨2, ![2048, 2048]⟩
abbrev S2x16x6x2048 : Shape := ⟨4, ![2, 16, 6, 2048]⟩
abbrev S2x2048 : Shape := ⟨2, ![2, 2048]⟩
abbrev S2048x8192 : Shape := ⟨2, ![2048, 8192]⟩
abbrev S8192x2048 : Shape := ⟨2, ![8192, 2048]⟩
abbrev S2048 : Shape := ⟨1, ![2048]⟩
abbrev S1x16x6x2048 : Shape := ⟨4, ![1, 16, 6, 2048]⟩
abbrev S16x6x2048 : Shape := ⟨3, ![16, 6, 2048]⟩
abbrev S1x2048 : Shape := ⟨2, ![1, 2048]⟩
abbrev S8x6x2048 : Shape := ⟨3, ![8, 6, 2048]⟩
abbrev S8x6x1x2048 : Shape := ⟨4, ![8, 6, 1, 2048]⟩
abbrev S8x1x1x2048 : Shape := ⟨4, ![8, 1, 1, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x8192 : Shape := ⟨3, ![8, 2048, 8192]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2048x2048, .bf16⟩
  | .hbm, ⟨6, _⟩ => ⟨S2x16x6x2048, .f32⟩
  | .hbm, ⟨7, _⟩ => ⟨S2x2048, .f32⟩
  | .hbm, ⟨8, _⟩ => ⟨S2048x8192, .bf16⟩
  | .hbm, ⟨9, _⟩ => ⟨S8192x2048, .bf16⟩
  | .hbm, ⟨10, _⟩ => ⟨S2048, .f32⟩
  | .hbm, ⟨11, _⟩ => ⟨S1x16x6x2048, .f32⟩
  | .hbm, ⟨12, _⟩ => ⟨S16x6x2048, .f32⟩
  | .hbm, ⟨13, _⟩ => ⟨S1x2048, .f32⟩
  | .hbm, ⟨14, _⟩ => ⟨S2048, .f32⟩
  | .hbm, ⟨15, _⟩ => ⟨S2048x2048, .f32⟩
  | .hbm, ⟨16, _⟩ => ⟨S2048x8192, .f32⟩
  | .hbm, ⟨17, _⟩ => ⟨S8192x2048, .f32⟩
  | .hbm, ⟨18, _⟩ => ⟨S8x2048x2048, .bf16⟩
  | .hbm, ⟨19, _⟩ => ⟨S8x2048x2048, .f32⟩
  | .hbm, ⟨20, _⟩ => ⟨S8x6x2048, .f32⟩
  | .hbm, ⟨21, _⟩ => ⟨S8x6x1x2048, .f32⟩
  | .hbm, ⟨22, _⟩ => ⟨S8x1x1x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x1x1x2048, .f32⟩
  | .hbm, ⟨29, _⟩ => ⟨S8x1x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S1x1x2048, .f32⟩
  | .hbm, ⟨44, _⟩ => ⟨S8x2048x2048, .f32⟩
  | .hbm, ⟨45, _⟩ => ⟨S8x2048x2048, .f32⟩
  | .hbm, ⟨46, _⟩ => ⟨S8x1x1x2048, .f32⟩
  | .hbm, ⟨47, _⟩ => ⟨S8x1x2048, .f32⟩
  | .hbm, ⟨48, _⟩ => ⟨S8x1x1x2048, .f32⟩
  | .hbm, ⟨49, _⟩ => ⟨S8x1x2048, .f32⟩
  | .hbm, ⟨50, _⟩ => ⟨S_, .f32⟩
  | .hbm, ⟨51, _⟩ => ⟨S8x1x2048, .f32⟩
  | .hbm, ⟨52, _⟩ => ⟨S8x1x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x8192, .f32⟩
  | .hbm, ⟨58, _⟩ => ⟨S_, .f32⟩
  | .hbm, ⟨59, _⟩ => ⟨S8x2048x8192, .f32⟩
  | .hbm, ⟨60, _⟩ => ⟨S8x2048x8192, .f32⟩
  | .hbm, ⟨61, _⟩ => ⟨S8x2048x8192, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proj.lean ====
abbrev S8x2048x2048 : Shape := ⟨3, ![8, 2048, 2048]⟩
abbrev S2x16x6x2048 : Shape := ⟨4, ![2, 16, 6, 2048]⟩
abbrev S2x2048 : Shape := ⟨2, ![2, 2048]⟩
abbrev S2x2048x5120 : Shape := ⟨3, ![2, 2048, 5120]⟩
abbrev S2x128 : Shape := ⟨2, ![2, 128]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S16384x2048 : Shape := ⟨2, ![16384, 2048]⟩
abbrev S2x96x1x2048 : Shape := ⟨4, ![2, 96, 1, 2048]⟩
abbrev S2x1x2048 : Shape := ⟨3, ![2, 1, 2048]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S128 : Shape := ⟨1, ![128]⟩
abbrev S1x2048x1x128 : Shape := ⟨4, ![1, 2048, 1, 128]⟩
abbrev S16 : Shape := ⟨1, ![16]⟩
abbrev S1x16 : Shape := ⟨2, ![1, 16]⟩
abbrev S2048x16 : Shape := ⟨2, ![2048, 16]⟩
abbrev S2048x32x2 : Shape := ⟨3, ![2048, 32, 2]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x768 : Shape := ⟨2, ![2048, 768]⟩
abbrev S2x1x128 : Shape := ⟨3, ![2, 1, 128]⟩
abbrev S2x8x128 : Shape := ⟨3, ![2, 8, 128]⟩
abbrev S16384x5120 : Shape := ⟨2, ![16384, 5120]⟩
abbrev S2048x2048 : Shape := ⟨2, ![2048, 2048]⟩
abbrev S2048x8192 : Shape := ⟨2, ![2048, 8192]⟩
abbrev S8192x2048 : Shape := ⟨2, ![8192, 2048]⟩
abbrev S512x2048 : Shape := ⟨2, ![512, 2048]⟩
abbrev S1x1x1x2048 : Shape := ⟨4, ![1, 1, 1, 2048]⟩
abbrev S1x1x2048 : Shape := ⟨3, ![1, 1, 2048]⟩
abbrev S1x2048x5120 : Shape := ⟨3, ![1, 2048, 5120]⟩
abbrev S512x768 : Shape := ⟨2, ![512, 768]⟩
abbrev S1x8x128 : Shape := ⟨3, ![1, 8, 128]⟩
abbrev S1x64x2048 : Shape := ⟨3, ![1, 64, 2048]⟩
abbrev S1x64x8192 : Shape := ⟨3, ![1, 64, 8192]⟩
abbrev S1x256x2048 : Shape := ⟨3, ![1, 256, 2048]⟩
abbrev S512x5120 : Shape := ⟨2, ![512, 5120]⟩
abbrev S64x2048 : Shape := ⟨2, ![64, 2048]⟩
abbrev S64x8192 : Shape := ⟨2, ![64, 8192]⟩
abbrev S256x2048 : Shape := ⟨2, ![256, 2048]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S512x128 : Shape := ⟨2, ![512, 128]⟩
abbrev S1x1x128 : Shape := ⟨3, ![1, 1, 128]⟩
abbrev S1x128 : Shape := ⟨2, ![1, 128]⟩

abbrev nBuf : Space → Nat
  | .hbm => 263
  | .vmem => 25
  | .smem => 0
  | _ => 0

abbrev hbmTy0_0 (i : Nat) : BufTy := match i % 128 with
  | 0 => ⟨S8x2048x2048, .f32⟩
  | 1 => ⟨S2x16x6x2048, .f32⟩
  | 2 => ⟨S2x2048, .f32⟩
  | 3 => ⟨S2x2048x5120, .f32⟩
  | 4 => ⟨S2x128, .f32⟩
  | 5 => ⟨S2x128, .f32⟩
  | 6 => ⟨S2x2048x2048, .f32⟩
  | 7 => ⟨S2x2048x8192, .f32⟩
  | 8 => ⟨S2x8192x2048, .f32⟩
  | 9 => ⟨S16384x2048, .f32⟩
  | 10 => ⟨S2x96x1x2048, .f32⟩
  | 11 => ⟨S2x1x2048, .f32⟩
  | 12 => ⟨S2x2048x5120, .bf16⟩
  | 13 => ⟨S2048, .i32⟩
  | 14 => ⟨S_, .i32⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S2048, .i32⟩
  | 23 => ⟨S2048, .i32⟩
  | 24 => ⟨S_, .i32⟩
  | 25 => ⟨S2048, .i32⟩
  | 26 => ⟨S2048, .i1⟩
  | 27 => ⟨S2048, .i1⟩
  | 28 => ⟨S_, .i32⟩
  | 29 => ⟨S2048, .i32⟩
  | 30 => ⟨S2048, .i32⟩
  | 31 => ⟨S2048, .i32⟩
  | 32 => ⟨S2048, .f32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i1⟩
  | 47 => ⟨S_, .i32⟩
  | 48 => ⟨S_, .i1⟩
  | 49 => ⟨S2048, .i1⟩
  | 50 => ⟨S2048, .i1⟩
  | 51 => ⟨S2048, .i1⟩
  | 52 => ⟨S2048, .i32⟩
  | 53 => ⟨S2048, .i32⟩
  | 54 => ⟨S2048, .i32⟩
  | 55 => ⟨S2048, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S2048x1, .f32⟩
  | 65 => ⟨S1x32, .f32⟩
  | 66 => ⟨S2048x32, .f32⟩
  | 67 => ⟨S2048x32, .f32⟩
  | 68 => ⟨S2048x32, .f32⟩
  | 69 => ⟨S2048x1, .f32⟩
  | 70 => ⟨S1x32, .f32⟩
  | 71 => ⟨S2048x32, .f32⟩
  | 72 => ⟨S2048x32, .f32⟩
  | 73 => ⟨S2048x32, .f32⟩
  | 74 => ⟨S2048x64, .f32⟩
  | 75 => ⟨S2048x64, .f32⟩
  | 76 => ⟨S2048x64x2, .f32⟩
  | 77 => ⟨S2048x128, .f32⟩
  | 78 => ⟨S2048x64, .f32⟩
  | 79 => ⟨S2048x64x2, .f32⟩
  | 80 => ⟨S2048x128, .f32⟩
  | 81 => ⟨S128, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i1⟩
  | 96 => ⟨S_, .i32⟩
  | 97 => ⟨S_, .i1⟩
  | 98 => ⟨S128, .i1⟩
  | 99 => ⟨S128, .i1⟩
  | 100 => ⟨S128, .i1⟩
  | 101 => ⟨S128, .i32⟩
  | 102 => ⟨S128, .i32⟩
  | 103 => ⟨S128, .i32⟩
  | 104 => ⟨S_, .i32⟩
  | 105 => ⟨S128, .i32⟩
  | 106 => ⟨S128, .i1⟩
  | 107 => ⟨S2048x128, .f32⟩
  | 108 => ⟨S_, .f32⟩
  | 109 => ⟨S_, .f32⟩
  | 110 => ⟨S2048x128, .i1⟩
  | 111 => ⟨S2048x128, .f32⟩
  | 112 => ⟨S2048x128, .f32⟩
  | 113 => ⟨S_, .f32⟩
  | 114 => ⟨S_, .f32⟩
  | 115 => ⟨S2048x128, .i1⟩
  | 116 => ⟨S2048x128, .f32⟩
  | 117 => ⟨S2048x128, .f32⟩
  | 118 => ⟨S1x2048x1x128, .f32⟩
  | 119 => ⟨S1x2048x1x128, .f32⟩
  | 120 => ⟨S2048x128, .f32⟩
  | 121 => ⟨S1x2048x1x128, .f32⟩
  | 122 => ⟨S1x2048x1x128, .f32⟩
  | 123 => ⟨S2048x128, .f32⟩
  | 124 => ⟨S1x2048x1x128, .f32⟩
  | 125 => ⟨S1x2048x1x128, .f32⟩
  | 126 => ⟨S2048x128, .f32⟩
  | 127 => ⟨S2048, .i32⟩
  | _ => ⟨S8x2048x2048, .f32⟩

abbrev hbmTy0_1 (i : Nat) : BufTy := match i % 128 with
  | 0 => ⟨S_, .i32⟩
  | 1 => ⟨S_, .i32⟩
  | 2 => ⟨S2048, .i32⟩
  | 3 => ⟨S2048, .i32⟩
  | 4 => ⟨S2048, .i32⟩
  | 5 => ⟨S_, .i32⟩
  | 6 => ⟨S2048, .i32⟩
  | 7 => ⟨S2048, .i1⟩
  | 8 => ⟨S2048, .i32⟩
  | 9 => ⟨S2048, .i32⟩
  | 10 => ⟨S_, .i32⟩
  | 11 => ⟨S2048, .i32⟩
  | 12 => ⟨S2048, .i1⟩
  | 13 => ⟨S2048, .i1⟩
  | 14 => ⟨S_, .i32⟩
  | 15 => ⟨S2048, .i32⟩
  | 16 => ⟨S2048, .i32⟩
  | 17 => ⟨S2048, .i32⟩
  | 18 => ⟨S2048, .f32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i1⟩
  | 30 => ⟨S_, .i32⟩
  | 31 => ⟨S2048, .i32⟩
  | 32 => ⟨S2048, .i1⟩
  | 33 => ⟨S_, .i32⟩
  | 34 => ⟨S_, .i1⟩
  | 35 => ⟨S2048, .i1⟩
  | 36 => ⟨S2048, .i1⟩
  | 37 => ⟨S2048, .i1⟩
  | 38 => ⟨S2048, .i32⟩
  | 39 => ⟨S2048, .i32⟩
  | 40 => ⟨S2048, .i32⟩
  | 41 => ⟨S2048, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S2048x1, .f32⟩
  | 51 => ⟨S1x16, .f32⟩
  | 52 => ⟨S2048x16, .f32⟩
  | 53 => ⟨S2048x16, .f32⟩
  | 54 => ⟨S2048x16, .f32⟩
  | 55 => ⟨S2048x1, .f32⟩
  | 56 => ⟨S1x16, .f32⟩
  | 57 => ⟨S2048x16, .f32⟩
  | 58 => ⟨S2048x16, .f32⟩
  | 59 => ⟨S2048x16, .f32⟩
  | 60 => ⟨S2048x32, .f32⟩
  | 61 => ⟨S2048x32, .f32⟩
  | 62 => ⟨S2048x32x2, .f32⟩
  | 63 => ⟨S2048x64, .f32⟩
  | 64 => ⟨S2048x32, .f32⟩
  | 65 => ⟨S2048x32x2, .f32⟩
  | 66 => ⟨S2048x64, .f32⟩
  | 67 => ⟨S64, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S64, .i32⟩
  | 75 => ⟨S64, .i32⟩
  | 76 => ⟨S_, .i32⟩
  | 77 => ⟨S64, .i32⟩
  | 78 => ⟨S64, .i1⟩
  | 79 => ⟨S_, .i32⟩
  | 80 => ⟨S64, .i32⟩
  | 81 => ⟨S64, .i1⟩
  | 82 => ⟨S_, .i32⟩
  | 83 => ⟨S_, .i1⟩
  | 84 => ⟨S64, .i1⟩
  | 85 => ⟨S64, .i1⟩
  | 86 => ⟨S64, .i1⟩
  | 87 => ⟨S64, .i32⟩
  | 88 => ⟨S64, .i32⟩
  | 89 => ⟨S64, .i32⟩
  | 90 => ⟨S_, .i32⟩
  | 91 => ⟨S64, .i32⟩
  | 92 => ⟨S64, .i1⟩
  | 93 => ⟨S2048x64, .f32⟩
  | 94 => ⟨S_, .f32⟩
  | 95 => ⟨S_, .f32⟩
  | 96 => ⟨S2048x64, .i1⟩
  | 97 => ⟨S2048x64, .f32⟩
  | 98 => ⟨S2048x64, .f32⟩
  | 99 => ⟨S_, .f32⟩
  | 100 => ⟨S_, .f32⟩
  | 101 => ⟨S2048x64, .i1⟩
  | 102 => ⟨S2048x64, .f32⟩
  | 103 => ⟨S2048x64, .f32⟩
  | 104 => ⟨S1x2048x1x64, .f32⟩
  | 105 => ⟨S1x2048x2x64, .f32⟩
  | 106 => ⟨S2048x128, .f32⟩
  | 107 => ⟨S1x2048x1x64, .f32⟩
  | 108 => ⟨S1x2048x2x64, .f32⟩
  | 109 => ⟨S2048x128, .f32⟩
  | 110 => ⟨S1x2048x1x64, .f32⟩
  | 111 => ⟨S1x2048x2x64, .f32⟩
  | 112 => ⟨S2048x128, .f32⟩
  | 113 => ⟨S2048x768, .f32⟩
  | 114 => ⟨S_, .i32⟩
  | 115 => ⟨S_, .f32⟩
  | 116 => ⟨S2x128, .f32⟩
  | 117 => ⟨S_, .i32⟩
  | 118 => ⟨S_, .f32⟩
  | 119 => ⟨S2x128, .f32⟩
  | 120 => ⟨S_, .f32⟩
  | 121 => ⟨S2x128, .f32⟩
  | 122 => ⟨S2x1x128, .f32⟩
  | 123 => ⟨S2x1x128, .f32⟩
  | 124 => ⟨S2x1x128, .f32⟩
  | 125 => ⟨S2x1x128, .f32⟩
  | 126 => ⟨S2x1x128, .f32⟩
  | 127 => ⟨S2x1x128, .f32⟩
  | _ => ⟨S8x2048x2048, .f32⟩

abbrev hbmTy0_2 (i : Nat) : BufTy := match i % 128 with
  | 0 => ⟨S2x1x128, .f32⟩
  | 1 => ⟨S2x1x128, .f32⟩
  | 2 => ⟨S2x8x128, .f32⟩
  | 3 => ⟨S16384x5120, .bf16⟩
  | 4 => ⟨S2048x2048, .bf16⟩
  | 5 => ⟨S2048x8192, .bf16⟩
  | 6 => ⟨S8192x2048, .bf16⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x2048, .f32⟩
  | .local _ .vmem, ⟨7, _⟩ => ⟨S1x2048x5120, .bf16⟩
  | .local _ .vmem, ⟨8, _⟩ => ⟨S512x768, .f32⟩
  | .local _ .vmem, ⟨9, _⟩ => ⟨S512x768, .f32⟩
  | .local _ .vmem, ⟨10, _⟩ => ⟨S1x8x128, .f32⟩
  | .local _ .vmem, ⟨11, _⟩ => ⟨S1x64x2048, .f32⟩
  | .local _ .vmem, ⟨12, _⟩ => ⟨S1x64x2048, .f32⟩
  | .local _ .vmem, ⟨13, _⟩ => ⟨S1x64x8192, .f32⟩
  | .local _ .vmem, ⟨14, _⟩ => ⟨S1x64x8192, .f32⟩
  | .local _ .vmem, ⟨15, _⟩ => ⟨S1x256x2048, .f32⟩
  | .local _ .vmem, ⟨16, _⟩ => ⟨S1x256x2048, .f32⟩
  | .local _ .vmem, ⟨17, _⟩ => ⟨S512x5120, .bf16⟩
  | .local _ .vmem, ⟨18, _⟩ => ⟨S512x5120, .bf16⟩
  | .local _ .vmem, ⟨19, _⟩ => ⟨S64x2048, .bf16⟩
  | .local _ .vmem, ⟨20, _⟩ => ⟨S64x2048, .bf16⟩
  | .local _ .vmem, ⟨21, _⟩ => ⟨S64x8192, .bf16⟩
  | .local _ .vmem, ⟨22, _⟩ => ⟨S64x8192, .bf16⟩
  | .local _ .vmem, ⟨23, _⟩ => ⟨S256x2048, .bf16⟩
  | .local _ .vmem, ⟨24, _⟩ => ⟨S256x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_cst_1 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_2 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_v5 : Ref sig .tc := ⟨.hbm, 91, rfl⟩
abbrev main_call2_v6 : Ref sig .tc := ⟨.hbm, 92, rfl⟩
abbrev main_call2_c_2 : Ref sig .tc := ⟨.hbm, 93, rfl⟩
abbrev main_call2_v7 : Ref sig .tc := ⟨.hbm, 94, rfl⟩
abbrev main_call2_v8 : Ref sig .tc := ⟨.hbm, 95, rfl⟩
abbrev main_call2_c_3 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_v33 : Ref sig .tc := ⟨.hbm, 103, rfl⟩
abbrev main_c_3 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_cst_4 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v37 : Ref sig .tc := ⟨.hbm, 112, rfl⟩
abbrev main_cst_5 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_c_6 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_c : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_0 : Ref sig .tc := ⟨.hbm, 142, rfl⟩
abbrev main_call5_v12 : Ref sig .tc := ⟨.hbm, 143, rfl⟩
abbrev main_call5_v13 : Ref sig .tc := ⟨.hbm, 144, rfl⟩
abbrev main_v49 : Ref sig .tc := ⟨.hbm, 145, rfl⟩
abbrev main_v50 : Ref sig .tc := ⟨.hbm, 146, rfl⟩
abbrev main_c_7 : Ref sig .tc := ⟨.hbm, 147, rfl⟩
abbrev main_call6_v0 : Ref sig .tc := ⟨.hbm, 148, rfl⟩
abbrev main_call6_c : Ref sig .tc := ⟨.hbm, 149, rfl⟩
abbrev main_call6_v1 : Ref sig .tc := ⟨.hbm, 150, rfl⟩
abbrev main_call6_c_0 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_c_1 : Ref sig .tc := ⟨.hbm, 155, rfl⟩
abbrev main_call6_v5 : Ref sig .tc := ⟨.hbm, 156, rfl⟩
abbrev main_call6_v6 : Ref sig .tc := ⟨.hbm, 157, rfl⟩
abbrev main_call6_c_2 : Ref sig .tc := ⟨.hbm, 158, rfl⟩
abbrev main_call6_v7 : Ref sig .tc := ⟨.hbm, 159, rfl⟩
abbrev main_call6_v8 : Ref sig .tc := ⟨.hbm, 160, rfl⟩
abbrev main_call6_c_3 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_v12 : Ref sig .tc := ⟨.hbm, 165, rfl⟩
abbrev main_call6_v13 : Ref sig .tc := ⟨.hbm, 166, rfl⟩
abbrev main_call6_v14 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_cst_8 : Ref sig .tc := ⟨.hbm, 172, rfl⟩
abbrev main_v55 : Ref sig .tc := ⟨.hbm, 173, rfl⟩
abbrev main_v56 : Ref sig .tc := ⟨.hbm, 174, rfl⟩
abbrev main_cst_9 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_c_10 : Ref sig .tc := ⟨.hbm, 196, rfl⟩
abbrev main_call7_v0 : Ref sig .tc := ⟨.hbm, 197, rfl⟩
abbrev main_call7_c : Ref sig .tc := ⟨.hbm, 198, rfl⟩
abbrev main_call7_v1 : Ref sig .tc := ⟨.hbm, 199, rfl⟩
abbrev main_call7_c_0 : Ref sig .tc := ⟨.hbm, 200, rfl⟩
abbrev main_call7_v2 : Ref sig .tc := ⟨.hbm, 201, rfl⟩
abbrev main_call7_v3 : Ref sig .tc := ⟨.hbm, 202, rfl⟩
abbrev main_call7_v4 : Ref sig .tc := ⟨.hbm, 203, rfl⟩
abbrev main_call7_c_1 : Ref sig .tc := ⟨.hbm, 204, rfl⟩
abbrev main_call7_v5 : Ref sig .tc := ⟨.hbm, 205, rfl⟩
abbrev main_call7_v6 : Ref sig .tc := ⟨.hbm, 206, rfl⟩
abbrev main_call7_c_2 : Ref sig .tc := ⟨.hbm, 207, rfl⟩
abbrev main_call7_v7 : Ref sig .tc := ⟨.hbm, 208, rfl⟩
abbrev main_call7_v8 : Ref sig .tc := ⟨.hbm, 209, rfl⟩
abbrev main_call7_c_3 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_v12 : Ref sig .tc := ⟨.hbm, 214, rfl⟩
abbrev main_call7_v13 : Ref sig .tc := ⟨.hbm, 215, rfl⟩
abbrev main_call7_v14 : Ref sig .tc := ⟨.hbm, 216, rfl⟩
abbrev main_v77 : Ref sig .tc := ⟨.hbm, 217, rfl⟩
abbrev main_c_11 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_cst_12 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_v81 : Ref sig .tc := ⟨.hbm, 226, rfl⟩
abbrev main_cst_13 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_c_14 : Ref sig .tc := ⟨.hbm, 242, rfl⟩
abbrev main_call10_v0 : Ref sig .tc := ⟨.hbm, 243, rfl⟩
abbrev main_v93 : Ref sig .tc := ⟨.hbm, 244, rfl⟩
abbrev main_c_15 : Ref sig .tc := ⟨.hbm, 245, rfl⟩
abbrev main_call11_v0 : Ref sig .tc := ⟨.hbm, 246, rfl⟩
abbrev main_v94 : Ref sig .tc := ⟨.hbm, 247, rfl⟩
abbrev main_cst_16 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105_0 : Ref sig .tc := ⟨.hbm, 259, rfl⟩
abbrev main_v105_1 : Ref sig .tc := ⟨.hbm, 260, rfl⟩
abbrev main_v105_2 : Ref sig .tc := ⟨.hbm, 261, rfl⟩
abbrev main_v105_3 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5120 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== HeadsIdeal.lean ====
abbrev S8x2048x2048 : Shape := ⟨3, ![8, 2048, 2048]⟩
abbrev S2x16x6x2048 : Shape := ⟨4, ![2, 16, 6, 2048]⟩
abbrev S2x2048 : Shape := ⟨2, ![2, 2048]⟩
abbrev S2x2048x5120 : Shape := ⟨3, ![2, 2048, 5120]⟩
abbrev S2x128 : Shape := ⟨2, ![2, 128]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S16 : Shape := ⟨1, ![16]⟩
abbrev S1x16 : Shape := ⟨2, ![1, 16]⟩
abbrev S2048x16 : Shape := ⟨2, ![2048, 16]⟩
abbrev S1x8x6x2048 : Shape := ⟨4, ![1, 8, 6, 2048]⟩
abbrev S8x6x2048 : Shape := ⟨3, ![8, 6, 2048]⟩
abbrev S8x6x1x2048 : Shape := ⟨4, ![8, 6, 1, 2048]⟩
abbrev S1x2048 : Shape := ⟨2, ![1, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x1x1x2048 : Shape := ⟨4, ![8, 1, 1, 2048]⟩
abbrev S8x1x2048 : Shape := ⟨3, ![8, 1, 2048]⟩
abbrev S1x2048x5120 : Shape := ⟨3, ![1, 2048, 5120]⟩
abbrev S2048x5120 : Shape := ⟨2, ![2048, 5120]⟩
abbrev S8x2048x5120 : Shape := ⟨3, ![8, 2048, 5120]⟩
abbrev S8x2048x512 : Shape := ⟨3, ![8, 2048, 512]⟩
abbrev S8x2048x4x128 : Shape := ⟨4, ![8, 2048, 4, 128]⟩
abbrev S8x2048x256 : Shape := ⟨3, ![8, 2048, 256]⟩
abbrev S8x2048x2x128 : Shape := ⟨4, ![8, 2048, 2, 128]⟩
abbrev S8x2048x8x64 : Shape := ⟨4, ![8, 2048, 8, 64]⟩
abbrev S1x128 : Shape := ⟨2, ![1, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x4x64x2 : Shape := ⟨5, ![8, 2048, 4, 64, 2]⟩
abbrev S8x2048x4x64x1 : Shape := ⟨5, ![8, 2048, 4, 64, 1]⟩
abbrev S8x2048x4x64 : Shape := ⟨4, ![8, 2048, 4, 64]⟩
abbrev S1x2048x1x64 : Shape := ⟨4, ![1, 2048, 1, 64]⟩
abbrev S8x2048x2 : Shape := ⟨3, ![8, 2048, 2]⟩
abbrev S8x2048x2x1 : Shape := ⟨4, ![8, 2048, 2, 1]⟩
abbrev S8x2048x2x64x2 : Shape := ⟨5, ![8, 2048, 2, 64, 2]⟩
abbrev S8x2048x2x64x1 : Shape := ⟨5, ![8, 2048, 2, 64, 1]⟩
abbrev S8x2048x2x64 : Shape := ⟨4, ![8, 2048, 2, 64]⟩
abbrev S8x2048x8x32x2 : Shape := ⟨5, ![8, 2048, 8, 32, 2]⟩
abbrev S8x2048x8x32x1 : Shape := ⟨5, ![8, 2048, 8, 32, 1]⟩
abbrev S8x2048x8x32 : Shape := ⟨4, ![8, 2048, 8, 32]⟩
abbrev S1x2048x1x32 : Shape := ⟨4, ![1, 2048, 1, 32]⟩
abbrev S16384x5120 : Shape := ⟨2, ![16384, 5120]⟩
abbrev S1x2048x2048 : Shape := ⟨3, ![1, 2048, 2048]⟩
abbrev S2048x2048 : Shape := ⟨2, ![2048, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 394
  | .vmem => 0
  | .smem => 0
  | _ => 0

abbrev hbmTy0_0 (i : Nat) : BufTy := match i % 128 with
  | 0 => ⟨S8x2048x2048, .f32⟩
  | 1 => ⟨S2x16x6x2048, .f32⟩
  | 2 => ⟨S2x2048, .f32⟩
  | 3 => ⟨S2x2048x5120, .f32⟩
  | 4 => ⟨S2x128, .f32⟩
  | 5 => ⟨S2x128, .f32⟩
  | 6 => ⟨S2x2048x2048, .f32⟩
  | 7 => ⟨S2x2048x8192, .f32⟩
  | 8 => ⟨S2x8192x2048, .f32⟩
  | 9 => ⟨S2048, .i32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S2048, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S_, .i32⟩
  | 44 => ⟨S_, .i1⟩
  | 45 => ⟨S2048, .i1⟩
  | 46 => ⟨S2048, .i1⟩
  | 47 => ⟨S2048, .i1⟩
  | 48 => ⟨S2048, .i32⟩
  | 49 => ⟨S2048, .i32⟩
  | 50 => ⟨S2048, .i32⟩
  | 51 => ⟨S2048, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S2048x1, .f32⟩
  | 61 => ⟨S1x32, .f32⟩
  | 62 => ⟨S2048x32, .f32⟩
  | 63 => ⟨S2048x32, .f32⟩
  | 64 => ⟨S2048x32, .f32⟩
  | 65 => ⟨S2048x1, .f32⟩
  | 66 => ⟨S1x32, .f32⟩
  | 67 => ⟨S2048x32, .f32⟩
  | 68 => ⟨S2048x32, .f32⟩
  | 69 => ⟨S2048x32, .f32⟩
  | 70 => ⟨S2048x64, .f32⟩
  | 71 => ⟨S2048x64, .f32⟩
  | 72 => ⟨S2048x64, .f32⟩
  | 73 => ⟨S2048, .i32⟩
  | 74 => ⟨S_, .i32⟩
  | 75 => ⟨S_, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i1⟩
  | 82 => ⟨S2048, .i32⟩
  | 83 => ⟨S2048, .i32⟩
  | 84 => ⟨S_, .i32⟩
  | 85 => ⟨S2048, .i32⟩
  | 86 => ⟨S2048, .i1⟩
  | 87 => ⟨S2048, .i1⟩
  | 88 => ⟨S_, .i32⟩
  | 89 => ⟨S2048, .i32⟩
  | 90 => ⟨S2048, .i32⟩
  | 91 => ⟨S2048, .i32⟩
  | 92 => ⟨S2048, .f32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i1⟩
  | 104 => ⟨S_, .i32⟩
  | 105 => ⟨S2048, .i32⟩
  | 106 => ⟨S2048, .i1⟩
  | 107 => ⟨S_, .i32⟩
  | 108 => ⟨S_, .i1⟩
  | 109 => ⟨S2048, .i1⟩
  | 110 => ⟨S2048, .i1⟩
  | 111 => ⟨S2048, .i1⟩
  | 112 => ⟨S2048, .i32⟩
  | 113 => ⟨S2048, .i32⟩
  | 114 => ⟨S2048, .i32⟩
  | 115 => ⟨S2048, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S2048x1, .f32⟩
  | 125 => ⟨S1x16, .f32⟩
  | 126 => ⟨S2048x16, .f32⟩
  | 127 => ⟨S2048x16, .f32⟩
  | _ => ⟨S8x2048x2048, .f32⟩

abbrev hbmTy0_1 (i : Nat) : BufTy := match i % 128 with
  | 0 => ⟨S2048x16, .f32⟩
  | 1 => ⟨S2048x1, .f32⟩
  | 2 => ⟨S1x16, .f32⟩
  | 3 => ⟨S2048x16, .f32⟩
  | 4 => ⟨S2048x16, .f32⟩
  | 5 => ⟨S2048x16, .f32⟩
  | 6 => ⟨S2048x32, .f32⟩
  | 7 => ⟨S2048x32, .f32⟩
  | 8 => ⟨S2048x32, .f32⟩
  | 9 => ⟨S1x8x6x2048, .f32⟩
  | 10 => ⟨S8x6x2048, .f32⟩
  | 11 => ⟨S8x6x1x2048, .f32⟩
  | 12 => ⟨S1x2048, .f32⟩
  | 13 => ⟨S2048, .f32⟩
  | 14 => ⟨S8x2048x2048, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x2048, .f32⟩
  | 26 => ⟨S8x2048x2048, .f32⟩
  | 27 => ⟨S1x1x2048, .f32⟩
  | 28 => ⟨S8x2048x2048, .f32⟩
  | 29 => ⟨S8x2048x2048, .f32⟩
  | 30 => ⟨S8x1x1x2048, .f32⟩
  | 31 => ⟨S8x1x2048, .f32⟩
  | 32 => ⟨S8x1x1x2048, .f32⟩
  | 33 => ⟨S8x1x2048, .f32⟩
  | 34 => ⟨S_, .f32⟩
  | 35 => ⟨S8x1x2048, .f32⟩
  | 36 => ⟨S8x1x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S1x2048x5120, .f32⟩
  | 42 => ⟨S2048x5120, .f32⟩
  | 43 => ⟨S8x2048x5120, .f32⟩
  | 44 => ⟨S8x2048x512, .f32⟩
  | 45 => ⟨S8x2048x4x128, .f32⟩
  | 46 => ⟨S8x2048x256, .f32⟩
  | 47 => ⟨S8x2048x2x128, .f32⟩
  | 48 => ⟨S8x2048x256, .f32⟩
  | 49 => ⟨S8x2048x2x128, .f32⟩
  | 50 => ⟨S8x2048x512, .f32⟩
  | 51 => ⟨S8x2048x4x128, .f32⟩
  | 52 => ⟨S8x2048x512, .f32⟩
  | 53 => ⟨S8x2048x4x128, .f32⟩
  | 54 => ⟨S8x2048x512, .f32⟩
  | 55 => ⟨S8x2048x4x128, .f32⟩
  | 56 => ⟨S8x2048x512, .f32⟩
  | 57 => ⟨S8x2048x8x64, .f32⟩
  | 58 => ⟨S8x2048x512, .f32⟩
  | 59 => ⟨S8x2048x8x64, .f32⟩
  | 60 => ⟨S8x2048x512, .f32⟩
  | 61 => ⟨S8x2048x4x128, .f32⟩
  | 62 => ⟨S8x2048x512, .f32⟩
  | 63 => ⟨S8x2048x4x128, .f32⟩
  | 64 => ⟨S8x2048x256, .f32⟩
  | 65 => ⟨S8x2048x2x128, .f32⟩
  | 66 => ⟨S8x2048x256, .f32⟩
  | 67 => ⟨S8x2048x2x128, .f32⟩
  | 68 => ⟨S1x128, .f32⟩
  | 69 => ⟨S128, .f32⟩
  | 70 => ⟨S8x2048x4x128, .f32⟩
  | 71 => ⟨S_, .f32⟩
  | 72 => ⟨S8x2048x4, .f32⟩
  | 73 => ⟨S8x2048x4x1, .f32⟩
  | 74 => ⟨S_, .f32⟩
  | 75 => ⟨S8x2048x4x1, .f32⟩
  | 76 => ⟨S8x2048x4x1, .f32⟩
  | 77 => ⟨S_, .f32⟩
  | 78 => ⟨S8x2048x4x1, .f32⟩
  | 79 => ⟨S8x2048x4x1, .f32⟩
  | 80 => ⟨S8x2048x4x1, .f32⟩
  | 81 => ⟨S8x2048x4x128, .f32⟩
  | 82 => ⟨S8x2048x4x128, .f32⟩
  | 83 => ⟨S1x1x1x128, .f32⟩
  | 84 => ⟨S8x2048x4x128, .f32⟩
  | 85 => ⟨S8x2048x4x128, .f32⟩
  | 86 => ⟨S8x2048x4x64x2, .f32⟩
  | 87 => ⟨S8x2048x4x64x1, .f32⟩
  | 88 => ⟨S8x2048x4x64, .f32⟩
  | 89 => ⟨S8x2048x4x64x1, .f32⟩
  | 90 => ⟨S8x2048x4x64, .f32⟩
  | 91 => ⟨S1x2048x1x64, .f32⟩
  | 92 => ⟨S1x2048x1x64, .f32⟩
  | 93 => ⟨S8x2048x4x64, .f32⟩
  | 94 => ⟨S8x2048x4x64, .f32⟩
  | 95 => ⟨S8x2048x4x64, .f32⟩
  | 96 => ⟨S8x2048x4x64, .f32⟩
  | 97 => ⟨S8x2048x4x64, .f32⟩
  | 98 => ⟨S8x2048x4x64, .f32⟩
  | 99 => ⟨S8x2048x4x64, .f32⟩
  | 100 => ⟨S8x2048x4x64, .f32⟩
  | 101 => ⟨S8x2048x4x64, .f32⟩
  | 102 => ⟨S8x2048x4x64, .f32⟩
  | 103 => ⟨S8x2048x4x64x1, .f32⟩
  | 104 => ⟨S8x2048x4x64x1, .f32⟩
  | 105 => ⟨S8x2048x4x64x2, .f32⟩
  | 106 => ⟨S8x2048x4x128, .f32⟩
  | 107 => ⟨S1x128, .f32⟩
  | 108 => ⟨S128, .f32⟩
  | 109 => ⟨S8x2048x2x128, .f32⟩
  | 110 => ⟨S_, .f32⟩
  | 111 => ⟨S8x2048x2, .f32⟩
  | 112 => ⟨S8x2048x2x1, .f32⟩
  | 113 => ⟨S_, .f32⟩
  | 114 => ⟨S8x2048x2x1, .f32⟩
  | 115 => ⟨S8x2048x2x1, .f32⟩
  | 116 => ⟨S_, .f32⟩
  | 117 => ⟨S8x2048x2x1, .f32⟩
  | 118 => ⟨S8x2048x2x1, .f32⟩
  | 119 => ⟨S8x2048x2x1, .f32⟩
  | 120 => ⟨S8x2048x2x128, .f32⟩
  | 121 => ⟨S8x2048x2x128, .f32⟩
  | 122 => ⟨S1x1x1x128, .f32⟩
  | 123 => ⟨S8x2048x2x128, .f32⟩
  | 124 => ⟨S8x2048x2x128, .f32⟩
  | 125 => ⟨S8x2048x2x64x2, .f32⟩
  | 126 => ⟨S8x2048x2x64x1, .f32⟩
  | 127 => ⟨S8x2048x2x64, .f32⟩
  | _ => ⟨S8x2048x2048, .f32⟩

abbrev hbmTy0_2 (i : Nat) : BufTy := match i % 128 with
  | 0 => ⟨S8x2048x2x64x1, .f32⟩
  | 1 => ⟨S8x2048x2x64, .f32⟩
  | 2 => ⟨S1x2048x1x64, .f32⟩
  | 3 => ⟨S1x2048x1x64, .f32⟩
  | 4 => ⟨S8x2048x2x64, .f32⟩
  | 5 => ⟨S8x2048x2x64, .f32⟩
  | 6 => ⟨S8x2048x2x64, .f32⟩
  | 7 => ⟨S8x2048x2x64, .f32⟩
  | 8 => ⟨S8x2048x2x64, .f32⟩
  | 9 => ⟨S8x2048x2x64, .f32⟩
  | 10 => ⟨S8x2048x2x64, .f32⟩
  | 11 => ⟨S8x2048x2x64, .f32⟩
  | 12 => ⟨S8x2048x2x64, .f32⟩
  | 13 => ⟨S8x2048x2x64, .f32⟩
  | 14 => ⟨S8x2048x2x64x1, .f32⟩
  | 15 => ⟨S8x2048x2x64x1, .f32⟩
  | 16 => ⟨S8x2048x2x64x2, .f32⟩
  | 17 => ⟨S8x2048x2x128, .f32⟩
  | 18 => ⟨S8x2048x8x32x2, .f32⟩
  | 19 => ⟨S8x2048x8x32x1, .f32⟩
  | 20 => ⟨S8x2048x8x32, .f32⟩
  | 21 => ⟨S8x2048x8x32x1, .f32⟩
  | 22 => ⟨S8x2048x8x32, .f32⟩
  | 23 => ⟨S1x2048x1x32, .f32⟩
  | 24 => ⟨S1x2048x1x32, .f32⟩
  | 25 => ⟨S8x2048x8x32, .f32⟩
  | 26 => ⟨S8x2048x8x32, .f32⟩
  | 27 => ⟨S8x2048x8x32, .f32⟩
  | 28 => ⟨S8x2048x8x32, .f32⟩
  | 29 => ⟨S8x2048x8x32, .f32⟩
  | 30 => ⟨S8x2048x8x32, .f32⟩
  | 31 => ⟨S8x2048x8x32, .f32⟩
  | 32 => ⟨S8x2048x8x32, .f32⟩
  | 33 => ⟨S8x2048x8x32, .f32⟩
  | 34 => ⟨S8x2048x8x32, .f32⟩
  | 35 => ⟨S8x2048x8x32x1, .f32⟩
  | 36 => ⟨S8x2048x8x32x1, .f32⟩
  | 37 => ⟨S8x2048x8x32x2, .f32⟩
  | 38 => ⟨S8x2048x8x64, .f32⟩
  | 39 => ⟨S8x2048x8x32x2, .f32⟩
  | 40 => ⟨S8x2048x8x32x1, .f32⟩
  | 41 => ⟨S8x2048x8x32, .f32⟩
  | 42 => ⟨S8x2048x8x32x1, .f32⟩
  | 43 => ⟨S8x2048x8x32, .f32⟩
  | 44 => ⟨S1x2048x1x32, .f32⟩
  | 45 => ⟨S1x2048x1x32, .f32⟩
  | 46 => ⟨S8x2048x8x32, .f32⟩
  | 47 => ⟨S8x2048x8x32, .f32⟩
  | 48 => ⟨S8x2048x8x32, .f32⟩
  | 49 => ⟨S8x2048x8x32, .f32⟩
  | 50 => ⟨S8x2048x8x32, .f32⟩
  | 51 => ⟨S8x2048x8x32, .f32⟩
  | 52 => ⟨S8x2048x8x32, .f32⟩
  | 53 => ⟨S8x2048x8x32, .f32⟩
  | 54 => ⟨S8x2048x8x32, .f32⟩
  | 55 => ⟨S8x2048x8x32, .f32⟩
  | 56 => ⟨S8x2048x8x32x1, .f32⟩
  | 57 => ⟨S8x2048x8x32x1, .f32⟩
  | 58 => ⟨S8x2048x8x32x2, .f32⟩
  | 59 => ⟨S8x2048x8x64, .f32⟩
  | 60 => ⟨S8x2048x4x64x2, .f32⟩
  | 61 => ⟨S8x2048x4x64x1, .f32⟩
  | 62 => ⟨S8x2048x4x64, .f32⟩
  | 63 => ⟨S8x2048x4x64x1, .f32⟩
  | 64 => ⟨S8x2048x4x64, .f32⟩
  | 65 => ⟨S1x2048x1x64, .f32⟩
  | 66 => ⟨S1x2048x1x64, .f32⟩
  | 67 => ⟨S8x2048x4x64, .f32⟩
  | 68 => ⟨S8x2048x4x64, .f32⟩
  | 69 => ⟨S8x2048x4x64, .f32⟩
  | 70 => ⟨S8x2048x4x64, .f32⟩
  | 71 => ⟨S8x2048x4x64, .f32⟩
  | 72 => ⟨S8x2048x4x64, .f32⟩
  | 73 => ⟨S8x2048x4x64, .f32⟩
  | 74 => ⟨S8x2048x4x64, .f32⟩
  | 75 => ⟨S8x2048x4x64, .f32⟩
  | 76 => ⟨S8x2048x4x64, .f32⟩
  | 77 => ⟨S8x2048x4x64x1, .f32⟩
  | 78 => ⟨S8x2048x4x64x1, .f32⟩
  | 79 => ⟨S8x2048x4x64x2, .f32⟩
  | 80 => ⟨S8x2048x4x128, .f32⟩
  | 81 => ⟨S8x2048x2x64x2, .f32⟩
  | 82 => ⟨S8x2048x2x64x1, .f32⟩
  | 83 => ⟨S8x2048x2x64, .f32⟩
  | 84 => ⟨S8x2048x2x64x1, .f32⟩
  | 85 => ⟨S8x2048x2x64, .f32⟩
  | 86 => ⟨S1x2048x1x64, .f32⟩
  | 87 => ⟨S1x2048x1x64, .f32⟩
  | 88 => ⟨S8x2048x2x64, .f32⟩
  | 89 => ⟨S8x2048x2x64, .f32⟩
  | 90 => ⟨S8x2048x2x64, .f32⟩
  | 91 => ⟨S8x2048x2x64, .f32⟩
  | 92 => ⟨S8x2048x2x64, .f32⟩
  | 93 => ⟨S8x2048x2x64, .f32⟩
  | 94 => ⟨S8x2048x2x64, .f32⟩
  | 95 => ⟨S8x2048x2x64, .f32⟩
  | 96 => ⟨S8x2048x2x64, .f32⟩
  | 97 => ⟨S8x2048x2x64, .f32⟩
  | 98 => ⟨S8x2048x2x64x1, .f32⟩
  | 99 => ⟨S8x2048x2x64x1, .f32⟩
  | 100 => ⟨S8x2048x2x64x2, .f32⟩
  | 101 => ⟨S8x2048x2x128, .f32⟩
  | 102 => ⟨S_, .f32⟩
  | 103 => ⟨S8x2048x4x128, .f32⟩
  | 104 => ⟨S8x2048x4x128, .f32⟩
  | 105 => ⟨S_, .f32⟩
  | 106 => ⟨S8x2048x4x128, .f32⟩
  | 107 => ⟨S8x2048x4x128, .f32⟩
  | 108 => ⟨S_, .f32⟩
  | 109 => ⟨S8x2048x8x64, .f32⟩
  | 110 => ⟨S8x2048x8x64, .f32⟩
  | 111 => ⟨S_, .f32⟩
  | 112 => ⟨S8x2048x4x128, .f32⟩
  | 113 => ⟨S8x2048x4x128, .f32⟩
  | 114 => ⟨S8x2048x512, .f32⟩
  | 115 => ⟨S8x2048x256, .f32⟩
  | 116 => ⟨S8x2048x256, .f32⟩
  | 117 => ⟨S8x2048x512, .f32⟩
  | 118 => ⟨S8x2048x512, .f32⟩
  | 119 => ⟨S8x2048x512, .f32⟩
  | 120 => ⟨S8x2048x512, .f32⟩
  | 121 => ⟨S8x2048x512, .f32⟩
  | 122 => ⟨S8x2048x512, .f32⟩
  | 123 => ⟨S8x2048x512, .f32⟩
  | 124 => ⟨S8x2048x256, .f32⟩
  | 125 => ⟨S8x2048x256, .f32⟩
  | 126 => ⟨S8x2048x5120, .f32⟩
  | 127 => ⟨S8x2048x5120, .bf16⟩
  | _ => ⟨S8x2048x2048, .f32⟩

abbrev hbmTy0_3 (i : Nat) : BufTy := match i % 128 with
  | 0 => ⟨S16384x5120, .bf16⟩
  | 1 => ⟨S1x2048x2048, .f32⟩
  | 2 => ⟨S2048x2048, .f32⟩
  | 3 => ⟨S2048x2048, .bf16⟩
  | 4 => ⟨S1x2048x8192, .f32⟩
  | 5 => ⟨S2048x8192, .f32⟩
  | 6 => ⟨S2048x8192, .bf16⟩
  | 7 => ⟨S1x8192x2048, .f32⟩
  | 8 => ⟨S8192x2048, .f32⟩
  | 9 => ⟨S8192x2048, .bf16⟩
  | _ => ⟨S8x2048x2048, .f32⟩

abbrev hbmTy (i : Nat) : BufTy := match i / 128 with
  | 0 => hbmTy0_0 i
  | 1 => hbmTy0_1 i
  | 2 => hbmTy0_2 i
  | 3 => hbmTy0_3 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_v8 : Ref sig .tc := ⟨.hbm, 56, rfl⟩
abbrev main_cst_1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_2 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v25 : Ref sig .tc := ⟨.hbm, 91, rfl⟩
abbrev main_v26 : Ref sig .tc := ⟨.hbm, 92, rfl⟩
abbrev main_c_3 : Ref sig .tc := ⟨.hbm, 93, rfl⟩
abbrev main_call3_v0 : Ref sig .tc := ⟨.hbm, 94, rfl⟩
abbrev main_call3_c : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_1 : Ref sig .tc := ⟨.hbm, 101, rfl⟩
abbrev main_call3_v5 : Ref sig .tc := ⟨.hbm, 102, rfl⟩
abbrev main_call3_v6 : Ref sig .tc := ⟨.hbm, 103, rfl⟩
abbrev main_call3_c_2 : Ref sig .tc := ⟨.hbm, 104, rfl⟩
abbrev main_call3_v7 : Ref sig .tc := ⟨.hbm, 105, rfl⟩
abbrev main_call3_v8 : Ref sig .tc := ⟨.hbm, 106, rfl⟩
abbrev main_call3_c_3 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_cst_4 : Ref sig .tc := ⟨.hbm, 118, rfl⟩
abbrev main_v31 : Ref sig .tc := ⟨.hbm, 119, rfl⟩
abbrev main_v32 : Ref sig .tc := ⟨.hbm, 120, rfl⟩
abbrev main_cst_5 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_6 : Ref sig .tc := ⟨.hbm, 143, rfl⟩
abbrev main_v54 : Ref sig .tc := ⟨.hbm, 144, rfl⟩
abbrev main_v55 : Ref sig .tc := ⟨.hbm, 145, rfl⟩
abbrev main_cst_7 : Ref sig .tc := ⟨.hbm, 146, rfl⟩
abbrev main_v56 : Ref sig .tc := ⟨.hbm, 147, rfl⟩
abbrev main_v57 : Ref sig .tc := ⟨.hbm, 148, rfl⟩
abbrev main_cst_8 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_9 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_cst_10 : Ref sig .tc := ⟨.hbm, 199, rfl⟩
abbrev main_v106 : Ref sig .tc := ⟨.hbm, 200, rfl⟩
abbrev main_v107 : Ref sig .tc := ⟨.hbm, 201, rfl⟩
abbrev main_cst_11 : Ref sig .tc := ⟨.hbm, 202, rfl⟩
abbrev main_v108 : Ref sig .tc := ⟨.hbm, 203, rfl⟩
abbrev main_v109 : Ref sig .tc := ⟨.hbm, 204, rfl⟩
abbrev main_cst_12 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_cst_13 : Ref sig .tc := ⟨.hbm, 238, rfl⟩
abbrev main_v142 : Ref sig .tc := ⟨.hbm, 239, rfl⟩
abbrev main_v143 : Ref sig .tc := ⟨.hbm, 240, rfl⟩
abbrev main_cst_14 : Ref sig .tc := ⟨.hbm, 241, rfl⟩
abbrev main_v144 : Ref sig .tc := ⟨.hbm, 242, rfl⟩
abbrev main_v145 : Ref sig .tc := ⟨.hbm, 243, rfl⟩
abbrev main_cst_15 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_cst_16 : Ref sig .tc := ⟨.hbm, 358, rfl⟩
abbrev main_v259 : Ref sig .tc := ⟨.hbm, 359, rfl⟩
abbrev main_v260 : Ref sig .tc := ⟨.hbm, 360, rfl⟩
abbrev main_cst_17 : Ref sig .tc := ⟨.hbm, 361, rfl⟩
abbrev main_v261 : Ref sig .tc := ⟨.hbm, 362, rfl⟩
abbrev main_v262 : Ref sig .tc := ⟨.hbm, 363, rfl⟩
abbrev main_cst_18 : Ref sig .tc := ⟨.hbm, 364, rfl⟩
abbrev main_v263 : Ref sig .tc := ⟨.hbm, 365, rfl⟩
abbrev main_v264 : Ref sig .tc := ⟨.hbm, 366, rfl⟩
abbrev main_cst_19 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_v289 : Ref sig .tc := ⟨.hbm, 392, rfl⟩
abbrev main_v290 : Ref sig .tc := ⟨.hbm, 393, rfl⟩

abbrev nD : Nat := 1
abbrev τ : Topo := Topo.v7x

variable {F : FTy → Type} [FloatOps F]
-- ==== AttnD.lean ====
abbrev S8x2048x5120 : Shape := ⟨3, ![8, 2048, 5120]⟩
abbrev S8x256x5120 : Shape := ⟨3, ![8, 256, 5120]⟩
abbrev S2x4 : Shape := ⟨2, ![2, 4]⟩
abbrev S8x2048x512 : Shape := ⟨3, ![8, 2048, 512]⟩
abbrev S1x2048x256 : Shape := ⟨3, ![1, 2048, 256]⟩
abbrev S1x2048x128 : Shape := ⟨3, ![1, 2048, 128]⟩
abbrev S1x256x128 : Shape := ⟨3, ![1, 256, 128]⟩
abbrev S256x128 : Shape := ⟨2, ![256, 128]⟩
abbrev S512x512 : Shape := ⟨2, ![512, 512]⟩
abbrev S512x1 : Shape := ⟨2, ![512, 1]⟩
abbrev S1x1 : Shape := ⟨2, ![1, 1]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩

abbrev nBuf : Space → Nat
  | .hbm => 4
  | .vmem => 12
  | .smem => 1
  | _ => 0

abbrev bufTy : (tb : Table) → Fin (tcTables nBuf tb) → BufTy
  | .hbm, ⟨0, _⟩ => ⟨S8x2048x5120, .bf16⟩
  | .hbm, ⟨1, _⟩ => ⟨S8x256x5120, .bf16⟩
  | .hbm, ⟨2, _⟩ => ⟨S2x4, .f32⟩
  | .hbm, ⟨3, _⟩ => ⟨S8x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x256, .bf16⟩
  | .local _ .vmem, ⟨11, _⟩ => ⟨S1x2048x256, .bf16⟩
  | .local _ .smem, ⟨0, _⟩ => ⟨S2x4, .f32⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0_5 : Index := 0#32
  let arg1 : BitVec 32 := BitVec.ofNat 32 (i 1).val
  let c2_i32 : BitVec 32 := 2#32
  let v12 : BitVec 32 := Scalar.muli arg1 c2_i32
  let v13 : Index := Scalar.indexCast v12
  ![0, v13.toNat]
def k0_off2 (i : grid0.Coords) : Fin 2 → Nat :=
  let c0_7 : Index := 0#32
  let arg1 : BitVec 32 := BitVec.ofNat 32 (i 1).val
  let c2_i32_6 : BitVec 32 := 2#32
  let v15 : BitVec 32 := Scalar.muli arg1 c2_i32_6
  let c1_i32 : BitVec 32 := 1#32
  let v16 : BitVec 32 := Scalar.addi v15 c1_i32
  let v17 : Index := Scalar.indexCast v16
  ![0, v17.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnDIdeal.lean ====
variable {F : FTy → Type} [FloatOps F] [Named F]
def κ : String → Option EReal := fun
  | "log2e" => some (((Real.log 2)⁻¹ : ℝ) : EReal)
  | "mask" => some ⊥
  | _ => none
-- ==== WindowIdeal.lean ====
abbrev S8x2048x5120 : Shape := ⟨3, ![8, 2048, 5120]⟩
abbrev S8x256x5120 : Shape := ⟨3, ![8, 256, 5120]⟩
abbrev S2x4 : Shape := ⟨2, ![2, 4]⟩
abbrev S8x2048x512 : Shape := ⟨3, ![8, 2048, 512]⟩
abbrev S8x2048x4x128 : Shape := ⟨4, ![8, 2048, 4, 128]⟩
abbrev S8x2048x256 : Shape := ⟨3, ![8, 2048, 256]⟩
abbrev S8x2048x2x128 : Shape := ⟨4, ![8, 2048, 2, 128]⟩
abbrev S8x256x256 : Shape := ⟨3, ![8, 256, 256]⟩
abbrev S8x256x2x128 : Shape := ⟨4, ![8, 256, 2, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x256 : Shape := ⟨2, ![2048, 256]⟩
abbrev S2048x2304 : Shape := ⟨2, ![2048, 2304]⟩
abbrev S8x2304x2x128 : Shape := ⟨4, ![8, 2304, 2, 128]⟩
abbrev S1x4 : Shape := ⟨2, ![1, 4]⟩
abbrev S4 : Shape := ⟨1, ![4]⟩
abbrev S8x2048x2x2x128 : Shape := ⟨5, ![8, 2048, 2, 2, 128]⟩
abbrev S8x2x2304x2048x2 : Shape := ⟨5, ![8, 2, 2304, 2048, 2]⟩
abbrev S8x2x2x2048x2304 : Shape := ⟨5, ![8, 2, 2, 2048, 2304]⟩
abbrev S1x1x1x2048x2304 : Shape := ⟨5, ![1, 1, 1, 2048, 2304]⟩
abbrev S1x2x2x1x1 : Shape := ⟨5, ![1, 2, 2, 1, 1]⟩
abbrev S8x2x2x2048x1 : Shape := ⟨5, ![8, 2, 2, 2048, 1]⟩
abbrev S8x2x2x2048x2305 : Shape := ⟨5, ![8, 2, 2, 2048, 2305]⟩
abbrev S8x2x2x2048 : Shape := ⟨4, ![8, 2, 2, 2048]⟩
abbrev S8x2x128x2x2048 : Shape := ⟨5, ![8, 2, 128, 2, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x5120, .bf16⟩
  | .hbm, ⟨1, _⟩ => ⟨S8x256x5120, .bf16⟩
  | .hbm, ⟨2, _⟩ => ⟨S2x4, .f32⟩
  | .hbm, ⟨3, _⟩ => ⟨S8x2048x512, .bf16⟩
  | .hbm, ⟨4, _⟩ => ⟨S8x2048x512, .f32⟩
  | .hbm, ⟨5, _⟩ => ⟨S8x2048x4x128, .f32⟩
  | .hbm, ⟨6, _⟩ => ⟨S8x2048x256, .bf16⟩
  | .hbm, ⟨7, _⟩ => ⟨S8x2048x256, .f32⟩
  | .hbm, ⟨8, _⟩ => ⟨S8x2048x2x128, .f32⟩
  | .hbm, ⟨9, _⟩ => ⟨S8x2048x256, .bf16⟩
  | .hbm, ⟨10, _⟩ => ⟨S8x2048x256, .f32⟩
  | .hbm, ⟨11, _⟩ => ⟨S8x2048x2x128, .f32⟩
  | .hbm, ⟨12, _⟩ => ⟨S8x256x256, .bf16⟩
  | .hbm, ⟨13, _⟩ => ⟨S8x256x256, .f32⟩
  | .hbm, ⟨14, _⟩ => ⟨S8x256x2x128, .f32⟩
  | .hbm, ⟨15, _⟩ => ⟨S8x256x256, .bf16⟩
  | .hbm, ⟨16, _⟩ => ⟨S8x256x256, .f32⟩
  | .hbm, ⟨17, _⟩ => ⟨S8x256x2x128, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x256, .f32⟩
  | .hbm, ⟨35, _⟩ => ⟨S2048x2048, .f32⟩
  | .hbm, ⟨36, _⟩ => ⟨S2048x2304, .f32⟩
  | .hbm, ⟨37, _⟩ => ⟨S8x2304x2x128, .f32⟩
  | .hbm, ⟨38, _⟩ => ⟨S8x2304x2x128, .f32⟩
  | .hbm, ⟨39, _⟩ => ⟨S1x4, .f32⟩
  | .hbm, ⟨40, _⟩ => ⟨S4, .f32⟩
  | .hbm, ⟨41, _⟩ => ⟨S8x2048x2x2x128, .f32⟩
  | .hbm, ⟨42, _⟩ => ⟨S8x2x2304x2048x2, .f32⟩
  | .hbm, ⟨43, _⟩ => ⟨S8x2x2x2048x2304, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x2x2x2048x2304, .f32⟩
  | .hbm, ⟨48, _⟩ => ⟨S8x2x2x2048x2304, .f32⟩
  | .hbm, ⟨49, _⟩ => ⟨S1x1x1x2048x2304, .f32⟩
  | .hbm, ⟨50, _⟩ => ⟨S8x2x2x2048x2304, .f32⟩
  | .hbm, ⟨51, _⟩ => ⟨S8x2x2x2048x2304, .f32⟩
  | .hbm, ⟨52, _⟩ => ⟨S1x2x2x1x1, .f32⟩
  | .hbm, ⟨53, _⟩ => ⟨S8x2x2x2048x1, .f32⟩
  | .hbm, ⟨54, _⟩ => ⟨S8x2x2x2048x2305, .f32⟩
  | .hbm, ⟨55, _⟩ => ⟨S_, .f32⟩
  | .hbm, ⟨56, _⟩ => ⟨S8x2x2x2048, .f32⟩
  | .hbm, ⟨57, _⟩ => ⟨S_, .f32⟩
  | .hbm, ⟨58, _⟩ => ⟨S8x2x2x2048, .f32⟩
  | .hbm, ⟨59, _⟩ => ⟨S8x2x2x2048, .f32⟩
  | .hbm, ⟨60, _⟩ => ⟨S8x2x2x2048x1, .f32⟩
  | .hbm, ⟨61, _⟩ => ⟨S8x2x2x2048x2305, .f32⟩
  | .hbm, ⟨62, _⟩ => ⟨S8x2x2x2048x2305, .f32⟩
  | .hbm, ⟨63, _⟩ => ⟨S8x2x2x2048x2305, .f32⟩
  | .hbm, ⟨64, _⟩ => ⟨S_, .f32⟩
  | .hbm, ⟨65, _⟩ => ⟨S8x2x2x2048, .f32⟩
  | .hbm, ⟨66, _⟩ => ⟨S8x2x2x2048x1, .f32⟩
  | .hbm, ⟨67, _⟩ => ⟨S8x2x2x2048x2305, .f32⟩
  | .hbm, ⟨68, _⟩ => ⟨S8x2x2x2048x2305, .f32⟩
  | .hbm, ⟨69, _⟩ => ⟨S8x2x2x2048x2304, .f32⟩
  | .hbm, ⟨70, _⟩ => ⟨S8x2x128x2x2048, .f32⟩
  | .hbm, ⟨71, _⟩ => ⟨S8x2048x2x2x128, .f32⟩
  | .hbm, ⟨72, _⟩ => ⟨S8x2048x512, .f32⟩
  | .hbm, ⟨73, _⟩ => ⟨S8x2048x512, .bf16⟩
  | _, _ => ⟨S8x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Proof.PostCases.lean ====
/-
  What one grid point of the post call leaves behind: the value each of its three cases writes into the output block
  and into the two scratch buffers, as the payloads of the blocks it reads.
-/
module

public import proofs.«01_k».proof.Proof.Gen.PostIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.PostIdeal.Cases

open Cert.PostIdeal Cert.PostIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rows `512 k, …, 512 k + 511` of the output weight, as the reset reads them. -/
abbrev wRows0 (w : Vec F S2048x2048 .bf16) : Vec F S512x2048 .bf16 :=
  View.ld w (Rect.unit (s := S2048x2048) ![0, 0] S512x2048.size inb_S2048x2048_S512x2048_0_0)
@[inherit_doc wRows0] abbrev wRows1 (w : Vec F S2048x2048 .bf16) : Vec F S512x2048 .bf16 :=
  View.ld w (Rect.unit (s := S2048x2048) ![512, 0] S512x2048.size inb_S2048x2048_S512x2048_512_0)
@[inherit_doc wRows0] abbrev wRows2 (w : Vec F S2048x2048 .bf16) : Vec F S512x2048 .bf16 :=
  View.ld w (Rect.unit (s := S2048x2048) ![1024, 0] S512x2048.size inb_S2048x2048_S512x2048_1024_0)
@[inherit_doc wRows0] abbrev wRows3 (w : Vec F S2048x2048 .bf16) : Vec F S512x2048 .bf16 :=
  View.ld w (Rect.unit (s := S2048x2048) ![1536, 0] S512x2048.size inb_S2048x2048_S512x2048_1536_0)

/-- The residual stream the reset forms: the block `x` plus the gated mixing output of the four head groups. -/
def x1Of (x0 : Vec F S512x2048 .f32) (x1 x2 x3 x4 : Vec F S512x512 .bf16) (x5 : Vec F S2048x2048 .bf16)
    (x6 : Vec F S1x1x1x2048 .f32) : Vec F S512x2048 .f32 :=
  k0_pay5 x1 (wRows0 x5) x2 (wRows1 x5) x3 (wRows2 x5) x4 (wRows3 x5) x0 x6

variable (c : Dev nD) (i : grid0.Coords)
variable (a0 : Memref sig .tc .vmem S512x2048 .f32) (h0 : a0.IsWhole)
variable (a1 : Memref sig .tc .vmem S512x512 .bf16) (h1 : a1.IsWhole)
variable (a2 : Memref sig .tc .vmem S512x512 .bf16) (h2 : a2.IsWhole)
variable (a3 : Memref sig .tc .vmem S512x512 .bf16) (h3 : a3.IsWhole)
variable (a4 : Memref sig .tc .vmem S512x512 .bf16) (h4 : a4.IsWhole)
variable (a5 : Memref sig .tc .vmem S2048x2048 .bf16) (h5 : a5.IsWhole)
variable (a6 : Memref sig .tc .vmem S1x1x1x2048 .f32) (h6 : a6.IsWhole)
variable (a7 : Memref sig .tc .vmem S1x1x1x2048 .f32) (h7 : a7.IsWhole)
variable (a8 : Memref sig .tc .vmem S1x1x1x2048 .f32) (h8 : a8.IsWhole)
variable (a9 : Memref sig .tc .vmem S1x1x1x2048 .f32) (h9 : a9.IsWhole)
variable (a10 : Memref sig .tc .vmem S1x1x2048 .f32) (h10 : a10.IsWhole)
variable (a11 : Memref sig .tc .vmem S2048x1024 .bf16) (h11 : a11.IsWhole)
variable (a12 : Memref sig .tc .vmem S1024x2048 .bf16) (h12 : a12.IsWhole)
variable (a13 : Memref sig .tc .vmem S1x2048 .f32) (h13 : a13.IsWhole)
variable (a14 : Memref sig .tc .vmem S512x2048 .f32) (h14 : a14.IsWhole)
variable (a15 : Memref sig .tc .vmem S512x2048 .f32) (h15 : a15.IsWhole)
variable (a16 : Memref sig .tc .vmem S512x2048 .bf16) (h16 : a16.IsWhole)
variable (x0 : Vec F S512x2048 .f32)
variable (x1 : Vec F S512x512 .bf16)
variable (x2 : Vec F S512x512 .bf16)
variable (x3 : Vec F S512x512 .bf16)
variable (x4 : Vec F S512x512 .bf16)
variable (x5 : Vec F S2048x2048 .bf16)
variable (x6 : Vec F S1x1x1x2048 .f32)
variable (x7 : Vec F S1x1x1x2048 .f32)
variable (x8 : Vec F S1x1x1x2048 .f32)
variable (x9 : Vec F S1x1x1x2048 .f32)
variable (x10 : Vec F S1x1x2048 .f32)
variable (x11 : Vec F S2048x1024 .bf16)
variable (x12 : Vec F S1024x2048 .bf16)
variable (x13 : Vec F S1x2048 .f32)
variable (xo xs0 : Vec F S512x2048 .f32) (xs1 : Vec F S512x2048 .bf16)

/-- At a reset the first scratch buffer holds the new residual stream. -/
theorem sout_A_0 (hc0 : cond0_0 i) (hc1 : ¬cond0_1 i) :
    sout0_A_0 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = x1Of x0 x1 x2 x3 x4 x5 x6 := by
  unfold sout0_A_0
  rw [View.read_writes_eq_canon _ _ _ (scover0_A_0 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_unit_zero hz2]
  unfold k0_pay6 x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At a reset the second scratch buffer holds the normalised, modulated residual stream. -/
theorem sout_A_1 (hc0 : cond0_0 i) (hc1 : ¬cond0_1 i) :
    sout0_A_1 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = k0_pay1 (x1Of x0 x1 x2 x3 x4 x5 x6) x10 x8 x7 := by
  unfold sout0_A_1
  rw [View.read_writes_eq_canon _ _ _ (scover0_A_1 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_unit_zero hz2]
  unfold x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At a reset the output block holds the first hidden block's contribution, added to zero. -/
theorem out_A (hc0 : cond0_0 i) (hc1 : ¬cond0_1 i) :
    out0_A_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = k0_pay3 (k0_pay1 (x1Of x0 x1 x2 x3 x4 x5 x6) x10 x8 x7) x11 k0_pay2 x12 := by
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_cons_unit_zero (S := S512x2048) hz2]
  simp only [View.readCov_unit_zero (S := S512x2048) _ hz2]
  unfold x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- Between, the output block gains its hidden block's contribution. -/
theorem out_B (hc0 : ¬cond0_0 i) (hc1 : ¬cond0_1 i) :
    out0_B_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 xo xs0 xs1 = k0_pay3 xs1 x11 xo x12 := by
  unfold out0_B_14
  rw [View.read_writes_eq_canon _ _ _ (cover0_B_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13 xo xs0 xs1)]
  unfold kernelRun0_B
  dsimp only
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At the last hidden block the output block is also gated, added to the residual stream and normalised. -/
theorem out_C (hc0 : ¬cond0_0 i) (hc1 : cond0_1 i) :
    out0_C_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 xo xs0 xs1 = k0_pay4 xs0 x9 (k0_pay3 xs1 x11 xo x12) x13 := by
  unfold out0_C_14
  rw [View.read_writes_eq_canon _ _ _ (cover0_C_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13 xo xs0 xs1)]
  unfold kernelRun0_C
  dsimp only
  sl_unfold_words
  rw [View.canon_cons_unit_zero (S := S512x2048) hz2]
  simp only [View.readCov_unit_zero (S := S512x2048) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

end Cert.PostIdeal.Cases

end
-- ==== Proof.PostBlocks.lean ====
/-
  The blocks each grid point of the post call reads, as elements of the call's own arguments: point `t` works on the
  512 rows `512 (t / 8), …` and on the hidden columns `1024 (t % 8), …`.
-/
module

public import proofs.«01_k».proof.Proof.PostCases
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PostIdeal.Blocks

open Cert.PostIdeal Cert.PostIdeal.Gen

variable (m : (ℓ : Loc nD τ sig) → Buf (Elt Ideal) ℓ) (c : Dev nD)

theorem lt_N (t : Fin cfg0.N) : t.val < 256 := lt_of_lt_of_eq t.isLt N_0

/-- The batch element a point's rows belong to. -/
abbrev bat (t : Fin cfg0.N) : Fin 8 := ⟨t.val / 32, by have := lt_N t; omega⟩
/-- Row `p` of a point's block, as a sequence position. -/
abbrev pos (t : Fin cfg0.N) (p : Fin 512) : Fin 2048 := ⟨t.val / 8 % 4 * 512 + p.val, by omega⟩
/-- Column `n` of a point's hidden block. -/
abbrev hid (t : Fin cfg0.N) (n : Fin 1024) : Fin 8192 := ⟨t.val % 8 * 1024 + n.val, by omega⟩

theorem idx0 : ∀ t : Fin cfg0.N, (cfg0.win 0).index t 0 = t.val / 8 ∧ (cfg0.win 0).index t 1 = 0 := by
  decide +kernel
theorem idx1 : ∀ t : Fin cfg0.N, (cfg0.win 1).index t 0 = t.val / 8 ∧ (cfg0.win 1).index t 1 = 0 := by
  decide +kernel
theorem idx2 : ∀ t : Fin cfg0.N, (cfg0.win 2).index t 0 = t.val / 8 ∧ (cfg0.win 2).index t 1 = 0 := by
  decide +kernel
theorem idx3 : ∀ t : Fin cfg0.N, (cfg0.win 3).index t 0 = t.val / 8 ∧ (cfg0.win 3).index t 1 = 0 := by
  decide +kernel
theorem idx4 : ∀ t : Fin cfg0.N, (cfg0.win 4).index t 0 = t.val / 8 ∧ (cfg0.win 4).index t 1 = 0 := by
  decide +kernel
theorem idx5 : ∀ t : Fin cfg0.N, (cfg0.win 5).index t 0 = 0 ∧ (cfg0.win 5).index t 1 = 0 := by
  decide +kernel
theorem idx6 : ∀ t : Fin cfg0.N, (cfg0.win 6).index t 0 = 1 ∧ (cfg0.win 6).index t 1 = t.val / 32 * 6 + 2 ∧ (cfg0.win 6).index t 2 = 0 ∧ (cfg0.win 6).index t 3 = 0 := by
  decide +kernel
theorem idx7 : ∀ t : Fin cfg0.N, (cfg0.win 7).index t 0 = 1 ∧ (cfg0.win 7).index t 1 = t.val / 32 * 6 + 3 ∧ (cfg0.win 7).index t 2 = 0 ∧ (cfg0.win 7).index t 3 = 0 := by
  decide +kernel
theorem idx8 : ∀ t : Fin cfg0.N, (cfg0.win 8).index t 0 = 1 ∧ (cfg0.win 8).index t 1 = t.val / 32 * 6 + 4 ∧ (cfg0.win 8).index t 2 = 0 ∧ (cfg0.win 8).index t 3 = 0 := by
  decide +kernel
theorem idx9 : ∀ t : Fin cfg0.N, (cfg0.win 9).index t 0 = 1 ∧ (cfg0.win 9).index t 1 = t.val / 32 * 6 + 5 ∧ (cfg0.win 9).index t 2 = 0 ∧ (cfg0.win 9).index t 3 = 0 := by
  decide +kernel
theorem idx10 : ∀ t : Fin cfg0.N, (cfg0.win 10).index t 0 = 1 ∧ (cfg0.win 10).index t 1 = 0 ∧ (cfg0.win 10).index t 2 = 0 := by
  decide +kernel
theorem idx11 : ∀ t : Fin cfg0.N, (cfg0.win 11).index t 0 = 0 ∧ (cfg0.win 11).index t 1 = t.val % 8 := by
  decide +kernel
theorem idx12 : ∀ t : Fin cfg0.N, (cfg0.win 12).index t 0 = t.val % 8 ∧ (cfg0.win 12).index t 1 = 0 := by
  decide +kernel
theorem idx13 : ∀ t : Fin cfg0.N, (cfg0.win 13).index t 0 = 0 ∧ (cfg0.win 13).index t 1 = 0 := by
  decide +kernel

/-- The residual block. -/
theorem iblk0_apply (t : Fin cfg0.N) (p : Fin 512) (j : Fin 2048) :
    (iblk m c 0 t : Vec Ideal S512x2048 .f32) (ix2 p j) = m ((c : Thread nD τ).loc main_arg0) (ix3 (bat t) (pos t p) j) := by
  have ht := lt_N t
  blk_ext! [iblk, idx0 t]

/-- The block of head group 0. -/
theorem iblk1_apply (t : Fin cfg0.N) (p j : Fin 512) :
    (iblk m c 1 t : Vec Ideal S512x512 .bf16) (ix2 p j) = m ((c : Thread nD τ).loc main_arg1) (ix3 (bat t) (pos t p) j) := by
  have ht := lt_N t
  blk_ext! [iblk, idx1 t]

/-- The block of head group 1. -/
theorem iblk2_apply (t : Fin cfg0.N) (p j : Fin 512) :
    (iblk m c 2 t : Vec Ideal S512x512 .bf16) (ix2 p j) = m ((c : Thread nD τ).loc main_arg2) (ix3 (bat t) (pos t p) j) := by
  have ht := lt_N t
  blk_ext! [iblk, idx2 t]

/-- The block of head group 2. -/
theorem iblk3_apply (t : Fin cfg0.N) (p j : Fin 512) :
    (iblk m c 3 t : Vec Ideal S512x512 .bf16) (ix2 p j) = m ((c : Thread nD τ).loc main_arg3) (ix3 (bat t) (pos t p) j) := by
  have ht := lt_N t
  blk_ext! [iblk, idx3 t]

/-- The block of head group 3. -/
theorem iblk4_apply (t : Fin cfg0.N) (p j : Fin 512) :
    (iblk m c 4 t : Vec Ideal S512x512 .bf16) (ix2 p j) = m ((c : Thread nD τ).loc main_arg4) (ix3 (bat t) (pos t p) j) := by
  have ht := lt_N t
  blk_ext! [iblk, idx4 t]

/-- The output weight. -/
theorem iblk5_apply (t : Fin cfg0.N) (p j : Fin 2048) :
    (iblk m c 5 t : Vec Ideal S2048x2048 .bf16) (ix2 p j) = m ((c : Thread nD τ).loc main_arg5) (ix2 p j) := by
  have ht := lt_N t
  blk_ext! [iblk, idx5 t]

/-- Modulation row 2 of the point's batch element. -/
theorem iblk6_apply (t : Fin cfg0.N) (j : Fin 2048) :
    (iblk m c 6 t : Vec Ideal S1x1x1x2048 .f32) (ix4 0 0 0 j) = m ((c : Thread nD τ).loc main_arg6) (ix4 1 (⟨t.val / 32, by have := lt_N t; omega⟩ : Fin 16) 2 j) := by
  have ht := lt_N t
  blk_ext! [iblk, idx6 t]

/-- Modulation row 3 of the point's batch element. -/
theorem iblk7_apply (t : Fin cfg0.N) (j : Fin 2048) :
    (iblk m c 7 t : Vec Ideal S1x1x1x2048 .f32) (ix4 0 0 0 j) = m ((c : Thread nD τ).loc main_arg6) (ix4 1 (⟨t.val / 32, by have := lt_N t; omega⟩ : Fin 16) 3 j) := by
  have ht := lt_N t
  blk_ext! [iblk, idx7 t]

/-- Modulation row 4 of the point's batch element. -/
theorem iblk8_apply (t : Fin cfg0.N) (j : Fin 2048) :
    (iblk m c 8 t : Vec Ideal S1x1x1x2048 .f32) (ix4 0 0 0 j) = m ((c : Thread nD τ).loc main_arg6) (ix4 1 (⟨t.val / 32, by have := lt_N t; omega⟩ : Fin 16) 4 j) := by
  have ht := lt_N t
  blk_ext! [iblk, idx8 t]

/-- Modulation row 5 of the point's batch element. -/
theorem iblk9_apply (t : Fin cfg0.N) (j : Fin 2048) :
    (iblk m c 9 t : Vec Ideal S1x1x1x2048 .f32) (ix4 0 0 0 j) = m ((c : Thread nD τ).loc main_arg6) (ix4 1 (⟨t.val / 32, by have := lt_N t; omega⟩ : Fin 16) 5 j) := by
  have ht := lt_N t
  blk_ext! [iblk, idx9 t]

/-- The gain of the MLP norm. -/
theorem iblk10_apply (t : Fin cfg0.N) (j : Fin 2048) :
    (iblk m c 10 t : Vec Ideal S1x1x2048 .f32) (ix3 0 0 j) = m ((c : Thread nD τ).loc main_arg7) (ix2 1 j) := by
  have ht := lt_N t
  blk_ext! [iblk, idx10 t]

/-- The up weight's columns. -/
theorem iblk11_apply (t : Fin cfg0.N) (p : Fin 2048) (n : Fin 1024) :
    (iblk m c 11 t : Vec Ideal S2048x1024 .bf16) (ix2 p n) = m ((c : Thread nD τ).loc main_arg8) (ix2 p (hid t n)) := by
  have ht := lt_N t
  blk_ext! [iblk, idx11 t]

/-- The down weight's rows. -/
theorem iblk12_apply (t : Fin cfg0.N) (n : Fin 1024) (j : Fin 2048) :
    (iblk m c 12 t : Vec Ideal S1024x2048 .bf16) (ix2 n j) = m ((c : Thread nD τ).loc main_arg9) (ix2 (hid t n) j) := by
  have ht := lt_N t
  blk_ext! [iblk, idx12 t]

/-- The final gain. -/
theorem iblk13_apply (t : Fin cfg0.N) (j : Fin 2048) :
    (iblk m c 13 t : Vec Ideal S1x2048 .f32) (ix2 0 j) = m ((c : Thread nD τ).loc main_arg10) (ix1 j) := by
  have ht := lt_N t
  blk_ext! [iblk, idx13 t]

end Cert.PostIdeal.Blocks

end
-- ==== Proof.PostSpec.lean ====
/-
  The end of a layer, written for one token: the gated mixing output added to the residual stream, the normalised and
  modulated MLP with a squared rectifier, its gated sum, and the final normalisation. Both programs of the post claim
  are read as these functions.
-/
module

public import Idealize.ShloMosaic.Lib.Pointwise

@[expose] public section

noncomputable section

open Idealize.ShloMosaic
open scoped BigOperators

namespace Cert.PostSpec

/-- The reciprocal root mean square of a row of 2048 entries. -/
def inv (y : Fin 2048 → EReal) : EReal :=
  Ideal.rsqrt (Ideal.div (∑ x, y x * y x) (Ideal.ofBits FTy.f32 0x45000000#32) + Ideal.ofBits FTy.f32 0x358637BD#32)

/-- The row normalised, scaled by `g`, and modulated. -/
def modded (y g scale shift : Fin 2048 → EReal) (j : Fin 2048) : EReal :=
  y j * inv y * g j * (1 + scale j) + shift j

/-- One hidden unit: the squared rectifier of the row's product with the unit's column `u`. -/
def unit (h u : Fin 2048 → EReal) : EReal := max (∑ l, h l * u l) 0 * max (∑ l, h l * u l) 0

/-- The gated MLP output added to the row, normalised by the final gain. -/
def finish (y gate out g : Fin 2048 → EReal) (j : Fin 2048) : EReal :=
  (y j + gate j * out j) * inv (fun i => y i + gate i * out i) * g j

/-- The arguments of the call, read at indices. -/
structure Args where
  /-- the residual stream -/
  x : Fin 8 → Fin 2048 → Fin 2048 → EReal
  /-- the four head groups -/
  o : Fin 4 → Fin 8 → Fin 2048 → Fin 512 → EReal
  /-- the output weight -/
  wo : Fin 2048 → Fin 2048 → EReal
  /-- the six modulation rows of a batch element -/
  md : Fin 8 → Fin 6 → Fin 2048 → EReal
  /-- the gain of the MLP norm -/
  g : Fin 2048 → EReal
  /-- the up weight -/
  up : Fin 2048 → Fin 8192 → EReal
  /-- the down weight -/
  down : Fin 8192 → Fin 2048 → EReal
  /-- the final gain -/
  gf : Fin 2048 → EReal

namespace Args

variable (A : Args) (b : Fin 8) (s : Fin 2048)

/-- The product of head group `q` with its 512 rows of the output weight. -/
def part (q : Fin 4) (j : Fin 2048) : EReal :=
  ∑ k : Fin 512, A.o q b s k * A.wo ⟨q.val * 512 + k.val, by omega⟩ j

/-- The token's residual stream after mixing. -/
def y (j : Fin 2048) : EReal :=
  A.x b s j + A.md b 2 j * (A.part b s 0 j + A.part b s 1 j + A.part b s 2 j + A.part b s 3 j)

/-- The token's MLP input. -/
def h : Fin 2048 → EReal := modded (A.y b s) A.g (A.md b 4) (A.md b 3)

/-- Hidden unit `n` of the token. -/
def act (n : Fin 8192) : EReal := unit (A.h b s) (fun l => A.up l n)

/-- What hidden block `q` (1024 units) contributes to the MLP output. -/
def contrib (q : ℕ) (j : Fin 2048) : EReal :=
  ∑ k : Fin 1024, A.act b s ⟨q % 8 * 1024 + k.val, by omega⟩ * A.down ⟨q % 8 * 1024 + k.val, by omega⟩ j

/-- The MLP output. -/
def mlp (j : Fin 2048) : EReal := ∑ n : Fin 8192, A.act b s n * A.down n j

/-- The first layer's result for the token: the gated MLP output added to the residual stream. -/
def inner (j : Fin 2048) : EReal := A.y b s j + A.md b 5 j * A.mlp b s j

/-- The last layer's result for the token. -/
def result : Fin 2048 → EReal := finish (A.y b s) (A.md b 5) (A.mlp b s) A.gf

/-- A sum over 8192 positions is the sum of eight sums over 1024. -/
theorem sum_blocks (f : Fin 8192 → EReal) :
    ∑ q ∈ Finset.range 8, ∑ k : Fin 1024, f ⟨q % 8 * 1024 + k.val, by omega⟩ = ∑ n, f n := by
  rw [Finset.sum_range, ← (finProdFinEquiv (m := 8) (n := 1024)).sum_comp, Fintype.sum_prod_type]
  refine Finset.sum_congr rfl fun q _ => Finset.sum_congr rfl fun k _ => congrArg f (Fin.ext ?_)
  show q.val % 8 * 1024 + k.val = k.val + 1024 * q.val
  have := q.isLt
  omega

/-- The eight hidden blocks' contributions add up to the MLP output. -/
theorem sum_contrib (j : Fin 2048) : ∑ q ∈ Finset.range 8, A.contrib b s q j = A.mlp b s j :=
  sum_blocks fun n => A.act b s n * A.down n j

/-- A sum over 2048 positions is the sum of four sums over 512. -/
theorem sum_quarters (f : Fin 2048 → EReal) :
    ∑ n, f n = ∑ q : Fin 4, ∑ k : Fin 512, f ⟨q.val * 512 + k.val, by omega⟩ := by
  rw [← (finProdFinEquiv (m := 4) (n := 512)).sum_comp, Fintype.sum_prod_type]
  refine Finset.sum_congr rfl fun q _ => Finset.sum_congr rfl fun k _ => congrArg f (Fin.ext ?_)
  show k.val + 512 * q.val = q.val * 512 + k.val
  omega

end Args

end Cert.PostSpec

end
-- ==== Proof.PostPoint.lean ====
/-
  The post call, point by point: what the output block and the two scratch buffers hold after every grid point, as the
  functions of PostSpec, and with it the call's result array.
-/
module

public import proofs.«01_k».proof.Proof.PostBlocks
public import proofs.«01_k».proof.Proof.PostSpec
public import proofs.«01_k».proof.Proof.Gen.PostIdeal.Value

@[expose] public section

set_option maxRecDepth 16384

noncomputable section

open Idealize.ShloMosaic Idealize.ShloMosaic.TcCoe Idealize.SL.Sem
open scoped BigOperators

namespace Cert.PostIdeal.Point

open Cert.PostIdeal Cert.PostIdeal.Gen Cert.PostIdeal.Blocks Cert.PostIdeal.Cases Cert.PostSpec

variable (m : (ℓ : Loc nD τ sig) → Buf (Elt Ideal) ℓ) (c : Dev nD)

/-- The call's arguments on core `c`. -/
def args : Args where
  x b s j := m ((c : Thread nD τ).loc main_arg0) (ix3 b s j)
  o q b s k := match q with
    | 0 => m ((c : Thread nD τ).loc main_arg1) (ix3 b s k)
    | 1 => m ((c : Thread nD τ).loc main_arg2) (ix3 b s k)
    | 2 => m ((c : Thread nD τ).loc main_arg3) (ix3 b s k)
    | 3 => m ((c : Thread nD τ).loc main_arg4) (ix3 b s k)
  wo k j := m ((c : Thread nD τ).loc main_arg5) (ix2 k j)
  md b k j := m ((c : Thread nD τ).loc main_arg6) (ix4 1 (⟨b.val, by omega⟩ : Fin 16) k j)
  g j := m ((c : Thread nD τ).loc main_arg7) (ix2 1 j)
  up l n := m ((c : Thread nD τ).loc main_arg8) (ix2 l n)
  down n j := m ((c : Thread nD τ).loc main_arg9) (ix2 n j)
  gf j := m ((c : Thread nD τ).loc main_arg10) (ix1 j)

/-- The reset's residual block is the tokens' residual stream after mixing. -/
theorem x1Of_apply (t : Fin cfg0.N) (p : Fin 512) (j : Fin 2048) :
    x1Of (iblk m c 0 t) (iblk m c 1 t) (iblk m c 2 t) (iblk m c 3 t) (iblk m c 4 t) (iblk m c 5 t) (iblk m c 6 t) (ix2 p j)
      = (args m c).y (bat t) (pos t p) j := by
  unfold x1Of k0_pay5 wRows0 wRows1 wRows2 wRows3
  pointwise [iblk0_apply, iblk1_apply, iblk2_apply, iblk3_apply, iblk4_apply, iblk5_apply, iblk6_apply]
  rfl

/-- The reset's second scratch buffer is the tokens' MLP input. -/
theorem h_apply (t : Fin cfg0.N) (s : Vec Ideal S512x2048 .f32) (hs : ∀ p j, s (ix2 p j) = (args m c).y (bat t) (pos t p) j)
    (p : Fin 512) (j : Fin 2048) :
    k0_pay1 s (iblk m c 10 t) (iblk m c 8 t) (iblk m c 7 t) (ix2 p j) = (args m c).h (bat t) (pos t p) j := by
  unfold k0_pay1
  pointwise [iblk10_apply, iblk8_apply, iblk7_apply, hs]
  rfl

/-- One hidden block's step adds that block's contribution. -/
theorem step_apply (t : Fin cfg0.N) (s : Vec Ideal S512x2048 .bf16) (hs : ∀ p j, s (ix2 p j) = (args m c).h (bat t) (pos t p) j)
    (acc : Vec Ideal S512x2048 .f32) (p : Fin 512) (j : Fin 2048) :
    k0_pay3 s (iblk m c 11 t) acc (iblk m c 12 t) (ix2 p j) = acc (ix2 p j) + (args m c).contrib (bat t) (pos t p) (t.val % 8) j := by
  unfold k0_pay3
  pointwise [iblk11_apply, iblk12_apply, hs]
  unfold Args.contrib
  simp only [Nat.mod_mod]
  rfl

/-- The last step's normalisation. -/
theorem finish_apply (t : Fin cfg0.N) (s out : Vec Ideal S512x2048 .f32) (hs : ∀ p j, s (ix2 p j) = (args m c).y (bat t) (pos t p) j)
    (ho : ∀ p j, out (ix2 p j) = (args m c).mlp (bat t) (pos t p) j) (p : Fin 512) (j : Fin 2048) :
    k0_pay4 s (iblk m c 9 t) out (iblk m c 13 t) (ix2 p j) = (args m c).result (bat t) (pos t p) j := by
  unfold k0_pay4
  pointwise [iblk9_apply, iblk13_apply, hs, ho]
  rfl

/-- What holds after point `t`: the scratch buffers are the row block's residual stream and MLP input; the output block
    is the sum of the hidden blocks' contributions so far, or after the last hidden block the result. -/
structure Holds (t : Fin cfg0.N) (o s0 : Vec Ideal S512x2048 .f32) (s1 : Vec Ideal S512x2048 .bf16) : Prop where
  y : ∀ p j, s0 (ix2 p j) = (args m c).y (bat t) (pos t p) j
  h : ∀ p j, s1 (ix2 p j) = (args m c).h (bat t) (pos t p) j
  acc : t.val % 8 ≠ 7 → ∀ p j, o (ix2 p j)
    = ∑ q ∈ Finset.range (t.val % 8 + 1), (args m c).contrib (bat t) (pos t p) q j
  res : t.val % 8 = 7 → ∀ p j, o (ix2 p j) = (args m c).result (bat t) (pos t p) j

/-- A reset establishes what holds after a point. -/
theorem holds_reset (t : Fin cfg0.N) (h0 : t.val % 8 = 0) :
    Holds m c t (outsAt0 m c t.val t.isLt).1 (outsAt0 m c t.val t.isLt).2.1 (outsAt0 m c t.val t.isLt).2.2 := by
  have h1 : ¬t.val % 8 = 7 := by omega
  have ey := x1Of_apply m c t
  have eh := h_apply m c t _ ey
  rw [outsAt0_A m c t h0 h1]
  dsimp only
  rw [out_A, sout_A_0, sout_A_1]
  refine ⟨ey, eh, fun _ p j => ?_, fun h => absurd h h1⟩
  rw [step_apply m c t _ eh, h0]
  unfold k0_pay2
  pointwise
  rw [Finset.sum_range_one]

/-- Any later point of the row block keeps it. -/
theorem holds_step (t : Fin cfg0.N) (h0 : ¬t.val % 8 = 0)
    (ih : ∀ hn : t.val - 1 < cfg0.N, Holds m c ⟨t.val - 1, hn⟩ (outsAt0 m c (t.val - 1) hn).1
      (outsAt0 m c (t.val - 1) hn).2.1 (outsAt0 m c (t.val - 1) hn).2.2) :
    Holds m c t (outsAt0 m c t.val t.isLt).1 (outsAt0 m c t.val t.isLt).2.1 (outsAt0 m c t.val t.isLt).2.2 := by
  have hp : t.val - 1 < cfg0.N := lt_of_le_of_lt (Nat.sub_le _ _) t.isLt
  have ih := ih hp
  have eb : bat (⟨t.val - 1, hp⟩ : Fin cfg0.N) = bat t := Fin.ext (by show (t.val - 1) / 32 = t.val / 32; omega)
  have es : ∀ p, pos (⟨t.val - 1, hp⟩ : Fin cfg0.N) p = pos t p := fun p =>
    Fin.ext (by show (t.val - 1) / 8 % 4 * 512 + p.val = t.val / 8 % 4 * 512 + p.val; omega)
  have ey := ih.y
  have eh := ih.h
  have ea := ih.acc (by show (t.val - 1) % 8 ≠ 7; omega)
  have e8 : (t.val - 1) % 8 + 1 = t.val % 8 := by omega
  simp only [eb, es, e8] at ey eh ea
  have eo : ∀ p j, k0_pay3 (outsAt0 m c (t.val - 1) hp).2.2 (iblk m c 11 t) (outsAt0 m c (t.val - 1) hp).1 (iblk m c 12 t) (ix2 p j)
      = ∑ q ∈ Finset.range (t.val % 8 + 1), (args m c).contrib (bat t) (pos t p) q j := fun p j => by
    rw [step_apply m c t _ eh, ea, Finset.sum_range_succ]
  by_cases h1 : t.val % 8 = 7
  · rw [outsAt0_C m c t h0 h1]
    dsimp only
    rw [out_C]
    refine ⟨ey, eh, fun h => absurd h1 h, fun _ p j => finish_apply m c t _ _ ey (fun p j => ?_) p j⟩
    rw [eo, h1]
    exact Args.sum_contrib _ _ _ _
  · rw [outsAt0_B m c t h0 h1]
    dsimp only
    rw [out_B]
    exact ⟨ey, eh, fun _ => eo, fun h => absurd h h1⟩

/-- So it holds after every point. -/
theorem holds (n : ℕ) : ∀ hn : n < cfg0.N, Holds m c ⟨n, hn⟩ (outsAt0 m c n hn).1 (outsAt0 m c n hn).2.1 (outsAt0 m c n hn).2.2 := by
  induction n with
  | zero => exact fun hn => holds_reset m c ⟨0, hn⟩ rfl
  | succ n ih => exact fun hn =>
      if h0 : (n + 1) % 8 = 0 then holds_reset m c ⟨n + 1, hn⟩ h0 else holds_step m c ⟨n + 1, hn⟩ h0 ih

/-- THE KERNEL'S RESULT: row `r` of the result array is the layer's result for token `r % 2048` of batch element
    `r / 2048`. -/
theorem G14_apply (r : Fin 16384) (j : Fin 2048) :
    Value.G14 m c (ix2 r j) = (args m c).result ⟨r.val / 2048, by omega⟩ ⟨r.val % 2048, by omega⟩ j := by
  have hN : cfg0.N = 256 := N_0
  have hpt : Value.pt14Of (ix2 r j : S16384x2048.Idx) = 8 * (r.val / 512) + 7 := by
    show 8 * _ + 7 = _
    simp [Value.run14Of]
  have h : Value.pt14Of (ix2 r j : S16384x2048.Idx) < cfg0.N := by rw [hpt]; omega
  unfold Value.G14
  rw [dif_pos h, ← Value.outsAt0_sweep m c _ h]
  have e := (holds m c _ h).res (by show Value.pt14Of _ % 8 = 7; rw [hpt]; omega) ⟨r.val % 512, by omega⟩ j
  refine Eq.trans ?_ (e.trans ?_)
  · congr 1
    blk_ext
  · rw [show bat (⟨_, h⟩ : Fin cfg0.N) = ⟨r.val / 2048, by omega⟩ from
        Fin.ext (by show Value.pt14Of _ / 32 = _; rw [hpt]; show _ = r.val / 2048; omega),
      show pos (⟨_, h⟩ : Fin cfg0.N) ⟨r.val % 512, by omega⟩ = ⟨r.val % 2048, by omega⟩ from
        Fin.ext (by show Value.pt14Of _ / 8 % 4 * 512 + r.val % 512 = _; rw [hpt]; show _ = r.val % 2048; omega)]

end Cert.PostIdeal.Point

end
-- ==== Proof.PostRef.lean ====
/-
  The reference of the post claim, read at an element of its result: the layer's result for one token.
-/
module

public import proofs.«01_k».proof.Proof.PostSpec
public import proofs.«01_k».proof.Proof.Gen.LayerEndIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.LayerEndIdeal.Tokens

open Cert.LayerEndIdeal Cert.LayerEndIdeal.Gen Cert.LayerEndIdeal.Read Cert.PostSpec

variable (x0 : Vec Ideal S8x2048x2048 .f32) (x1 x2 x3 x4 : Vec Ideal S8x2048x512 .bf16)
  (x5 : Vec Ideal S2048x2048 .bf16) (x6 : Vec Ideal S2x16x6x2048 .f32) (x7 : Vec Ideal S2x2048 .f32)
  (x8 : Vec Ideal S2048x8192 .bf16) (x9 : Vec Ideal S8192x2048 .bf16) (x10 : Vec Ideal S2048 .f32)

/-- The reference's arguments. -/
def args : Args where
  x b s j := x0 (ix3 b s j)
  o q b s k := match q with
    | 0 => x1 (ix3 b s k)
    | 1 => x2 (ix3 b s k)
    | 2 => x3 (ix3 b s k)
    | 3 => x4 (ix3 b s k)
  wo k j := x5 (ix2 k j)
  md b k j := x6 (ix4 1 (⟨b.val, by omega⟩ : Fin 16) k j)
  g j := x7 (ix2 1 j)
  up l n := x8 (ix2 l n)
  down n j := x9 (ix2 n j)
  gf j := x10 (ix1 j)

/-- The modulation rows of the latent batch elements. -/
theorem v10_apply (b : Fin 8) (k : Fin 6) (j : Fin 2048) :
    val_main_v10 (F := Ideal) x6 (ix4 b k 0 j) = x6 (ix4 1 (⟨b.val, by omega⟩ : Fin 16) k j) := by
  unfold val_main_v10 val_main_v9 val_main_v1 val_main_v0
  pointwise

/-- The mixing output: the concatenated head groups times the output weight is the four groups' products. -/
theorem v13_apply (b : Fin 8) (s j : Fin 2048) :
    val_main_v13 (F := Ideal) x1 x2 x3 x4 x5 (ix3 b s j)
      = (args x0 x1 x2 x3 x4 x5 x6 x7 x8 x9 x10).part b s 0 j + (args x0 x1 x2 x3 x4 x5 x6 x7 x8 x9 x10).part b s 1 j
        + (args x0 x1 x2 x3 x4 x5 x6 x7 x8 x9 x10).part b s 2 j + (args x0 x1 x2 x3 x4 x5 x6 x7 x8 x9 x10).part b s 3 j := by
  unfold val_main_v13 val_main_v8 val_main_v7 val_main_v4
  pointwise
  rw [Args.sum_quarters, Fin.sum_univ_four]
  refine congrArg₂ (· + ·) (congrArg₂ (· + ·) (congrArg₂ (· + ·) ?_ ?_) ?_) ?_
  · refine Finset.sum_congr rfl fun k _ => congrArg (· * x5 (ix2 _ j)) ?_
    exact (dif_pos (show 0 * 512 + k.val < 512 by omega)).trans (congrArg x1 (congrArg (ix3 b s) (Fin.ext (show 0 * 512 + k.val = k.val by omega))))
  · refine Finset.sum_congr rfl fun k _ => congrArg (· * x5 (ix2 _ j)) ?_
    exact (dif_neg (show ¬1 * 512 + k.val < 512 by omega)).trans
      ((dif_pos (show 1 * 512 + k.val - 512 < 512 by omega)).trans (congrArg x2 (congrArg (ix3 b s) (Fin.ext (show 1 * 512 + k.val - 512 = k.val by omega)))))
  · refine Finset.sum_congr rfl fun k _ => congrArg (· * x5 (ix2 _ j)) ?_
    exact (dif_neg (show ¬2 * 512 + k.val < 512 by omega)).trans
      ((dif_neg (show ¬2 * 512 + k.val - 512 < 512 by omega)).trans
      ((dif_pos (show 2 * 512 + k.val - 512 - 512 < 512 by omega)).trans (congrArg x3 (congrArg (ix3 b s) (Fin.ext (show 2 * 512 + k.val - 512 - 512 = k.val by omega))))))
  · refine Finset.sum_congr rfl fun k _ => congrArg (· * x5 (ix2 _ j)) ?_
    exact (dif_neg (show ¬3 * 512 + k.val < 512 by omega)).trans
      ((dif_neg (show ¬3 * 512 + k.val - 512 < 512 by omega)).trans
      ((dif_neg (show ¬3 * 512 + k.val - 512 - 512 < 512 by omega)).trans
      (congrArg x4 (congrArg (ix3 b s) (Fin.ext (show 3 * 512 + k.val - 512 - 512 - 512 = k.val by omega))))))

/-- The residual stream after mixing. -/
theorem v16_apply (b : Fin 8) (s j : Fin 2048) :
    val_main_v16 (F := Ideal) x0 x1 x2 x3 x4 x5 x6 (ix3 b s j) = (args x0 x1 x2 x3 x4 x5 x6 x7 x8 x9 x10).y b s j := by
  unfold val_main_v16 val_main_v15 val_main_v14 val_main_v12 val_main_v11
  pointwise [v10_apply, v13_apply x0 x1 x2 x3 x4 x5 x6 x7 x8 x9 x10]
  rfl

/-- The MLP input. -/
theorem v41_apply (b : Fin 8) (s j : Fin 2048) :
    val_main_v41 (F := Ideal) x0 x1 x2 x3 x4 x5 x6 x7 (ix3 b s j) = (args x0 x1 x2 x3 x4 x5 x6 x7 x8 x9 x10).h b s j := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v3 val_main_v2 val_main_cst val_main_cst_0 val_main_cst_1 val_main_cst_2
  pointwise [v10_apply, v16_apply x0 x1 x2 x3 x4 x5 x6 x7 x8 x9 x10]
  rfl

/-- The MLP output. -/
theorem v45_apply (b : Fin 8) (s j : Fin 2048) :
    val_main_v45 (F := Ideal) x0 x1 x2 x3 x4 x5 x6 x7 x8 x9 (ix3 b s j) = (args x0 x1 x2 x3 x4 x5 x6 x7 x8 x9 x10).mlp b s j := by
  unfold val_main_v45 val_main_v44 val_main_v43 val_main_v42 val_main_v5 val_main_v6 val_main_call0_v0 val_main_call0_cst
  pointwise [v41_apply x0 x1 x2 x3 x4 x5 x6 x7 x8 x9 x10]
  rfl

/-- THE REFERENCE'S RESULT: row `r` is the layer's result for token `r % 2048` of batch element `r / 2048`. -/
theorem v62_apply (r : Fin 16384) (j : Fin 2048) :
    val_main_v62 (F := Ideal) x0 x1 x2 x3 x4 x5 x6 x7 x8 x9 x10 (ix2 r j)
      = (args x0 x1 x2 x3 x4 x5 x6 x7 x8 x9 x10).result ⟨r.val / 2048, by omega⟩ ⟨r.val % 2048, by omega⟩ j := by
  unfold val_main_v62 val_main_v61 val_main_v60 val_main_v59 val_main_v58 val_main_v57 val_main_v56 val_main_v55 val_main_v54 val_main_v53 val_main_v52 val_main_v51 val_main_v50 val_main_v49 val_main_v48 val_main_v47 val_main_v46 val_main_v18 val_main_v17 val_main_cst_3 val_main_cst_4 val_main_cst_5
  pointwise [v10_apply, v16_apply x0 x1 x2 x3 x4 x5 x6 x7 x8 x9 x10, v45_apply x0 x1 x2 x3 x4 x5 x6 x7 x8 x9 x10]
  rfl

end Cert.LayerEndIdeal.Tokens

end
-- ==== Proof.PostClaim.lean ====
/-
  The value claim of the post call: over the extended reals its result array is the reference's.
-/
module

public import proofs.«01_k».proof.Defs
public import proofs.«01_k».proof.Proof.PostPoint
public import proofs.«01_k».proof.Proof.PostRef
public import proofs.«01_k».proof.Proof.Gen.PostIdeal.Value
public import proofs.«01_k».proof.Proof.Gen.LayerEndIdeal.Run

@[expose] public section

set_option maxRecDepth 16384

noncomputable section

open Idealize.ShloMosaic Idealize.ShloMosaic.TcCoe Idealize.SL.Sem

namespace Cert.PostClaim

/-- The two programs end with the same array whenever their arguments agree. -/
theorem result_eq (m : (ℓ : Loc PostIdeal.nD PostIdeal.τ PostIdeal.sig) → Buf (Elt Ideal) ℓ)
    (m' : (ℓ : Loc LayerEndIdeal.nD LayerEndIdeal.τ LayerEndIdeal.sig) → Buf (Elt Ideal) ℓ) (c : Dev PostIdeal.nD)
    (e0 : m' ((c.tc : Thread LayerEndIdeal.nD LayerEndIdeal.τ).loc LayerEndIdeal.main_arg0) = m ((c.tc : Thread PostIdeal.nD PostIdeal.τ).loc PostIdeal.main_arg0))
    (e1 : m' ((c.tc : Thread LayerEndIdeal.nD LayerEndIdeal.τ).loc LayerEndIdeal.main_arg1) = m ((c.tc : Thread PostIdeal.nD PostIdeal.τ).loc PostIdeal.main_arg1))
    (e2 : m' ((c.tc : Thread LayerEndIdeal.nD LayerEndIdeal.τ).loc LayerEndIdeal.main_arg2) = m ((c.tc : Thread PostIdeal.nD PostIdeal.τ).loc PostIdeal.main_arg2))
    (e3 : m' ((c.tc : Thread LayerEndIdeal.nD LayerEndIdeal.τ).loc LayerEndIdeal.main_arg3) = m ((c.tc : Thread PostIdeal.nD PostIdeal.τ).loc PostIdeal.main_arg3))
    (e4 : m' ((c.tc : Thread LayerEndIdeal.nD LayerEndIdeal.τ).loc LayerEndIdeal.main_arg4) = m ((c.tc : Thread PostIdeal.nD PostIdeal.τ).loc PostIdeal.main_arg4))
    (e5 : m' ((c.tc : Thread LayerEndIdeal.nD LayerEndIdeal.τ).loc LayerEndIdeal.main_arg5) = m ((c.tc : Thread PostIdeal.nD PostIdeal.τ).loc PostIdeal.main_arg5))
    (e6 : m' ((c.tc : Thread LayerEndIdeal.nD LayerEndIdeal.τ).loc LayerEndIdeal.main_arg6) = m ((c.tc : Thread PostIdeal.nD PostIdeal.τ).loc PostIdeal.main_arg6))
    (e7 : m' ((c.tc : Thread LayerEndIdeal.nD LayerEndIdeal.τ).loc LayerEndIdeal.main_arg7) = m ((c.tc : Thread PostIdeal.nD PostIdeal.τ).loc PostIdeal.main_arg7))
    (e8 : m' ((c.tc : Thread LayerEndIdeal.nD LayerEndIdeal.τ).loc LayerEndIdeal.main_arg8) = m ((c.tc : Thread PostIdeal.nD PostIdeal.τ).loc PostIdeal.main_arg8))
    (e9 : m' ((c.tc : Thread LayerEndIdeal.nD LayerEndIdeal.τ).loc LayerEndIdeal.main_arg9) = m ((c.tc : Thread PostIdeal.nD PostIdeal.τ).loc PostIdeal.main_arg9))
    (e10 : m' ((c.tc : Thread LayerEndIdeal.nD LayerEndIdeal.τ).loc LayerEndIdeal.main_arg10) = m ((c.tc : Thread PostIdeal.nD PostIdeal.τ).loc PostIdeal.main_arg10)) :
    LayerEndIdeal.Value.res_main_v62 m' c = PostIdeal.Value.G14 m c := by
  rw [LayerEndIdeal.Read.val_main_v62_eq, e0, e1, e2, e3, e4, e5, e6, e7, e8, e9, e10]
  funext i
  idx_vars i
  rw [LayerEndIdeal.Tokens.v62_apply]
  exact (PostIdeal.Point.G14_apply m c _ _).symm

/-- THE CLAIM: the idealized call and the idealized reference agree, and neither changes its arguments. -/
theorem algebraic : Cert.algebraic_PostIdeal_LayerEndIdeal (hPostIdeal := Cert.PostIdeal.Gen.facts)
    (hLayerEndIdeal := Cert.LayerEndIdeal.Gen.facts) := by
  intro m g m' g' _ hag
  refine ⟨fun c => PostIdeal.Value.G14 m c, PostIdeal.Value.run m g, (θ_run _ _ _).mono (fun r h c => ?_) (LayerEndIdeal.Value.run m' g')⟩
  obtain ⟨e0, e1, e2, e3, e4, e5, e6, e7, e8, e9, e10⟩ := hag c
  exact ⟨(h c).1.trans (result_eq m m' c e0 e1 e2 e3 e4 e5 e6 e7 e8 e9 e10), (h c).2⟩

end Cert.PostClaim

end
-- ==== Proof.InnerCases.lean ====
/-
  What one grid point of the first layer's post call leaves behind: the value each of its three cases writes into the output block
  and into the two scratch buffers, as the payloads of the blocks it reads.
-/
module

public import proofs.«01_k».proof.Proof.Gen.PostInnerIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.PostInnerIdeal.Cases

open Cert.PostInnerIdeal Cert.PostInnerIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rows `512 k, …, 512 k + 511` of the output weight, as the reset reads them. -/
abbrev wRows0 (w : Vec F S2048x2048 .bf16) : Vec F S512x2048 .bf16 :=
  View.ld w (Rect.unit (s := S2048x2048) ![0, 0] S512x2048.size inb_S2048x2048_S512x2048_0_0)
@[inherit_doc wRows0] abbrev wRows1 (w : Vec F S2048x2048 .bf16) : Vec F S512x2048 .bf16 :=
  View.ld w (Rect.unit (s := S2048x2048) ![512, 0] S512x2048.size inb_S2048x2048_S512x2048_512_0)
@[inherit_doc wRows0] abbrev wRows2 (w : Vec F S2048x2048 .bf16) : Vec F S512x2048 .bf16 :=
  View.ld w (Rect.unit (s := S2048x2048) ![1024, 0] S512x2048.size inb_S2048x2048_S512x2048_1024_0)
@[inherit_doc wRows0] abbrev wRows3 (w : Vec F S2048x2048 .bf16) : Vec F S512x2048 .bf16 :=
  View.ld w (Rect.unit (s := S2048x2048) ![1536, 0] S512x2048.size inb_S2048x2048_S512x2048_1536_0)

/-- The residual stream the reset forms: the block `x` plus the gated mixing output of the four head groups. -/
def x1Of (x0 : Vec F S512x2048 .f32) (x1 x2 x3 x4 : Vec F S512x512 .bf16) (x5 : Vec F S2048x2048 .bf16)
    (x6 : Vec F S1x1x1x2048 .f32) : Vec F S512x2048 .f32 :=
  k0_pay5 x1 (wRows0 x5) x2 (wRows1 x5) x3 (wRows2 x5) x4 (wRows3 x5) x0 x6

variable (c : Dev nD) (i : grid0.Coords)
variable (a0 : Memref sig .tc .vmem S512x2048 .f32) (h0 : a0.IsWhole)
variable (a1 : Memref sig .tc .vmem S512x512 .bf16) (h1 : a1.IsWhole)
variable (a2 : Memref sig .tc .vmem S512x512 .bf16) (h2 : a2.IsWhole)
variable (a3 : Memref sig .tc .vmem S512x512 .bf16) (h3 : a3.IsWhole)
variable (a4 : Memref sig .tc .vmem S512x512 .bf16) (h4 : a4.IsWhole)
variable (a5 : Memref sig .tc .vmem S2048x2048 .bf16) (h5 : a5.IsWhole)
variable (a6 : Memref sig .tc .vmem S1x1x1x2048 .f32) (h6 : a6.IsWhole)
variable (a7 : Memref sig .tc .vmem S1x1x1x2048 .f32) (h7 : a7.IsWhole)
variable (a8 : Memref sig .tc .vmem S1x1x1x2048 .f32) (h8 : a8.IsWhole)
variable (a9 : Memref sig .tc .vmem S1x1x1x2048 .f32) (h9 : a9.IsWhole)
variable (a10 : Memref sig .tc .vmem S1x1x2048 .f32) (h10 : a10.IsWhole)
variable (a11 : Memref sig .tc .vmem S2048x1024 .bf16) (h11 : a11.IsWhole)
variable (a12 : Memref sig .tc .vmem S1024x2048 .bf16) (h12 : a12.IsWhole)
variable (a13 : Memref sig .tc .vmem S1x2048 .f32) (h13 : a13.IsWhole)
variable (a14 : Memref sig .tc .vmem S512x2048 .f32) (h14 : a14.IsWhole)
variable (a15 : Memref sig .tc .vmem S512x2048 .f32) (h15 : a15.IsWhole)
variable (a16 : Memref sig .tc .vmem S512x2048 .bf16) (h16 : a16.IsWhole)
variable (x0 : Vec F S512x2048 .f32)
variable (x1 : Vec F S512x512 .bf16)
variable (x2 : Vec F S512x512 .bf16)
variable (x3 : Vec F S512x512 .bf16)
variable (x4 : Vec F S512x512 .bf16)
variable (x5 : Vec F S2048x2048 .bf16)
variable (x6 : Vec F S1x1x1x2048 .f32)
variable (x7 : Vec F S1x1x1x2048 .f32)
variable (x8 : Vec F S1x1x1x2048 .f32)
variable (x9 : Vec F S1x1x1x2048 .f32)
variable (x10 : Vec F S1x1x2048 .f32)
variable (x11 : Vec F S2048x1024 .bf16)
variable (x12 : Vec F S1024x2048 .bf16)
variable (x13 : Vec F S1x2048 .f32)
variable (xo xs0 : Vec F S512x2048 .f32) (xs1 : Vec F S512x2048 .bf16)

/-- At a reset the first scratch buffer holds the new residual stream. -/
theorem sout_A_0 (hc0 : cond0_0 i) (hc1 : ¬cond0_1 i) :
    sout0_A_0 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = x1Of x0 x1 x2 x3 x4 x5 x6 := by
  unfold sout0_A_0
  rw [View.read_writes_eq_canon _ _ _ (scover0_A_0 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_unit_zero hz2]
  unfold k0_pay6 x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At a reset the second scratch buffer holds the normalised, modulated residual stream. -/
theorem sout_A_1 (hc0 : cond0_0 i) (hc1 : ¬cond0_1 i) :
    sout0_A_1 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = k0_pay1 (x1Of x0 x1 x2 x3 x4 x5 x6) x10 x8 x7 := by
  unfold sout0_A_1
  rw [View.read_writes_eq_canon _ _ _ (scover0_A_1 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_unit_zero hz2]
  unfold x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At a reset the output block holds the first hidden block's contribution, added to zero. -/
theorem out_A (hc0 : cond0_0 i) (hc1 : ¬cond0_1 i) :
    out0_A_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 = k0_pay3 (k0_pay1 (x1Of x0 x1 x2 x3 x4 x5 x6) x10 x8 x7) x11 k0_pay2 x12 := by
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13)]
  unfold kernelRun0_A
  dsimp only
  sl_unfold_words
  rw [View.canon_cons_unit_zero (S := S512x2048) hz2]
  simp only [View.readCov_unit_zero (S := S512x2048) _ hz2]
  unfold x1Of
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- Between, the output block gains its hidden block's contribution. -/
theorem out_B (hc0 : ¬cond0_0 i) (hc1 : ¬cond0_1 i) :
    out0_B_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 xo xs0 xs1 = k0_pay3 xs1 x11 xo x12 := by
  unfold out0_B_14
  rw [View.read_writes_eq_canon _ _ _ (cover0_B_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13 xo xs0 xs1)]
  unfold kernelRun0_B
  dsimp only
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

/-- At the last hidden block the output block is also gated and added to the residual stream. -/
theorem out_C (hc0 : ¬cond0_0 i) (hc1 : cond0_1 i) :
    out0_C_14 c i a0 h0 a1 h1 a2 h2 a3 h3 a4 h4 a5 h5 a6 h6 a7 h7 a8 h8 a9 h9 a10 h10 a11 h11 a12 h12 a13 h13 a14 h14 a15 h15 a16 h16 hc0 hc1
      x0 x1 x2 x3 x4 x5 x6 x7 x8 x9 x10 x11 x12 x13 xo xs0 xs1 = k0_pay4 xs0 x9 (k0_pay3 xs1 x11 xo x12) := by
  unfold out0_C_14
  rw [View.read_writes_eq_canon _ _ _ (cover0_C_14 c i a0 h0 a1 h1 a2 h2 a3 h3 a4 h4 a5 h5 a6 h6 a7 h7 a8 h8 a9 h9 a10 h10 a11 h11 a12 h12 a13 h13 a14 h14 a15 h15 a16 h16 hc0 hc1
    x0 x1 x2 x3 x4 x5 x6 x7 x8 x9 x10 x11 x12 x13 xo xs0 xs1)]
  unfold kernelRun0_C
  dsimp only
  sl_unfold_words
  rw [View.canon_cons_unit_zero (S := S512x2048) hz2]
  simp only [View.readCov_unit_zero (S := S512x2048) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) hz2, View.ld_unit_zero (S := S512x512) hz2, View.ld_unit_zero (S := S2048x1024) hz2,
    View.ld_unit_zero (S := S1024x2048) hz2, View.ld_unit_zero (S := S1x2048) hz2, View.ld_unit_zero (S := S1x1x2048) hz3,
    View.ld_unit_zero (S := S1x1x1x2048) hz4, shapeCast_self]

end Cert.PostInnerIdeal.Cases

end
-- ==== Proof.InnerBlocks.lean ====
/-
  The blocks each grid point of the first layer's post call reads, as elements of the call's own arguments: point `t` works on the
  512 rows `512 (t / 8), …` and on the hidden columns `1024 (t % 8), …`.
-/
module

public import proofs.«01_k».proof.Proof.InnerCases
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PostInnerIdeal.Blocks

open Cert.PostInnerIdeal Cert.PostInnerIdeal.Gen

variable (m : (ℓ : Loc nD τ sig) → Buf (Elt Ideal) ℓ) (c : Dev nD)

theorem lt_N (t : Fin cfg0.N) : t.val < 256 := lt_of_lt_of_eq t.isLt N_0

/-- The batch element a point's rows belong to. -/
abbrev bat (t : Fin cfg0.N) : Fin 8 := ⟨t.val / 32, by have := lt_N t; omega⟩
/-- Row `p` of a point's block, as a sequence position. -/
abbrev pos (t : Fin cfg0.N) (p : Fin 512) : Fin 2048 := ⟨t.val / 8 % 4 * 512 + p.val, by omega⟩
/-- Column `n` of a point's hidden block. -/
abbrev hid (t : Fin cfg0.N) (n : Fin 1024) : Fin 8192 := ⟨t.val % 8 * 1024 + n.val, by omega⟩

theorem idx0 : ∀ t : Fin cfg0.N, (cfg0.win 0).index t 0 = t.val / 8 ∧ (cfg0.win 0).index t 1 = 0 := by
  decide +kernel
theorem idx1 : ∀ t : Fin cfg0.N, (cfg0.win 1).index t 0 = t.val / 8 ∧ (cfg0.win 1).index t 1 = 0 := by
  decide +kernel
theorem idx2 : ∀ t : Fin cfg0.N, (cfg0.win 2).index t 0 = t.val / 8 ∧ (cfg0.win 2).index t 1 = 0 := by
  decide +kernel
theorem idx3 : ∀ t : Fin cfg0.N, (cfg0.win 3).index t 0 = t.val / 8 ∧ (cfg0.win 3).index t 1 = 0 := by
  decide +kernel
theorem idx4 : ∀ t : Fin cfg0.N, (cfg0.win 4).index t 0 = t.val / 8 ∧ (cfg0.win 4).index t 1 = 0 := by
  decide +kernel
theorem idx5 : ∀ t : Fin cfg0.N, (cfg0.win 5).index t 0 = 0 ∧ (cfg0.win 5).index t 1 = 0 := by
  decide +kernel
theorem idx6 : ∀ t : Fin cfg0.N, (cfg0.win 6).index t 0 = 0 ∧ (cfg0.win 6).index t 1 = t.val / 32 * 6 + 2 ∧ (cfg0.win 6).index t 2 = 0 ∧ (cfg0.win 6).index t 3 = 0 := by
  decide +kernel
theorem idx7 : ∀ t : Fin cfg0.N, (cfg0.win 7).index t 0 = 0 ∧ (cfg0.win 7).index t 1 = t.val / 32 * 6 + 3 ∧ (cfg0.win 7).index t 2 = 0 ∧ (cfg0.win 7).index t 3 = 0 := by
  decide +kernel
theorem idx8 : ∀ t : Fin cfg0.N, (cfg0.win 8).index t 0 = 0 ∧ (cfg0.win 8).index t 1 = t.val / 32 * 6 + 4 ∧ (cfg0.win 8).index t 2 = 0 ∧ (cfg0.win 8).index t 3 = 0 := by
  decide +kernel
theorem idx9 : ∀ t : Fin cfg0.N, (cfg0.win 9).index t 0 = 0 ∧ (cfg0.win 9).index t 1 = t.val / 32 * 6 + 5 ∧ (cfg0.win 9).index t 2 = 0 ∧ (cfg0.win 9).index t 3 = 0 := by
  decide +kernel
theorem idx10 : ∀ t : Fin cfg0.N, (cfg0.win 10).index t 0 = 0 ∧ (cfg0.win 10).index t 1 = 0 ∧ (cfg0.win 10).index t 2 = 0 := by
  decide +kernel
theorem idx11 : ∀ t : Fin cfg0.N, (cfg0.win 11).index t 0 = 0 ∧ (cfg0.win 11).index t 1 = t.val % 8 := by
  decide +kernel
theorem idx12 : ∀ t : Fin cfg0.N, (cfg0.win 12).index t 0 = t.val % 8 ∧ (cfg0.win 12).index t 1 = 0 := by
  decide +kernel

/-- The residual block. -/
theorem iblk0_apply (t : Fin cfg0.N) (p : Fin 512) (j : Fin 2048) :
    (iblk m c 0 t : Vec Ideal S512x2048 .f32) (ix2 p j) = m ((c : Thread nD τ).loc main_arg0) (ix3 (bat t) (pos t p) j) := by
  have ht := lt_N t
  blk_ext! [iblk, idx0 t]

/-- The block of head group 0. -/
theorem iblk1_apply (t : Fin cfg0.N) (p j : Fin 512) :
    (iblk m c 1 t : Vec Ideal S512x512 .bf16) (ix2 p j) = m ((c : Thread nD τ).loc main_arg1) (ix3 (bat t) (pos t p) j) := by
  have ht := lt_N t
  blk_ext! [iblk, idx1 t]

/-- The block of head group 1. -/
theorem iblk2_apply (t : Fin cfg0.N) (p j : Fin 512) :
    (iblk m c 2 t : Vec Ideal S512x512 .bf16) (ix2 p j) = m ((c : Thread nD τ).loc main_arg2) (ix3 (bat t) (pos t p) j) := by
  have ht := lt_N t
  blk_ext! [iblk, idx2 t]

/-- The block of head group 2. -/
theorem iblk3_apply (t : Fin cfg0.N) (p j : Fin 512) :
    (iblk m c 3 t : Vec Ideal S512x512 .bf16) (ix2 p j) = m ((c : Thread nD τ).loc main_arg3) (ix3 (bat t) (pos t p) j) := by
  have ht := lt_N t
  blk_ext! [iblk, idx3 t]

/-- The block of head group 3. -/
theorem iblk4_apply (t : Fin cfg0.N) (p j : Fin 512) :
    (iblk m c 4 t : Vec Ideal S512x512 .bf16) (ix2 p j) = m ((c : Thread nD τ).loc main_arg4) (ix3 (bat t) (pos t p) j) := by
  have ht := lt_N t
  blk_ext! [iblk, idx4 t]

/-- The output weight. -/
theorem iblk5_apply (t : Fin cfg0.N) (p j : Fin 2048) :
    (iblk m c 5 t : Vec Ideal S2048x2048 .bf16) (ix2 p j) = m ((c : Thread nD τ).loc main_arg5) (ix2 p j) := by
  have ht := lt_N t
  blk_ext! [iblk, idx5 t]

/-- Modulation row 2 of the point's batch element. -/
theorem iblk6_apply (t : Fin cfg0.N) (j : Fin 2048) :
    (iblk m c 6 t : Vec Ideal S1x1x1x2048 .f32) (ix4 0 0 0 j) = m ((c : Thread nD τ).loc main_arg6) (ix4 0 (⟨t.val / 32, by have := lt_N t; omega⟩ : Fin 16) 2 j) := by
  have ht := lt_N t
  blk_ext! [iblk, idx6 t]

/-- Modulation row 3 of the point's batch element. -/
theorem iblk7_apply (t : Fin cfg0.N) (j : Fin 2048) :
    (iblk m c 7 t : Vec Ideal S1x1x1x2048 .f32) (ix4 0 0 0 j) = m ((c : Thread nD τ).loc main_arg6) (ix4 0 (⟨t.val / 32, by have := lt_N t; omega⟩ : Fin 16) 3 j) := by
  have ht := lt_N t
  blk_ext! [iblk, idx7 t]

/-- Modulation row 4 of the point's batch element. -/
theorem iblk8_apply (t : Fin cfg0.N) (j : Fin 2048) :
    (iblk m c 8 t : Vec Ideal S1x1x1x2048 .f32) (ix4 0 0 0 j) = m ((c : Thread nD τ).loc main_arg6) (ix4 0 (⟨t.val / 32, by have := lt_N t; omega⟩ : Fin 16) 4 j) := by
  have ht := lt_N t
  blk_ext! [iblk, idx8 t]

/-- Modulation row 5 of the point's batch element. -/
theorem iblk9_apply (t : Fin cfg0.N) (j : Fin 2048) :
    (iblk m c 9 t : Vec Ideal S1x1x1x2048 .f32) (ix4 0 0 0 j) = m ((c : Thread nD τ).loc main_arg6) (ix4 0 (⟨t.val / 32, by have := lt_N t; omega⟩ : Fin 16) 5 j) := by
  have ht := lt_N t
  blk_ext! [iblk, idx9 t]

/-- The gain of the MLP norm. -/
theorem iblk10_apply (t : Fin cfg0.N) (j : Fin 2048) :
    (iblk m c 10 t : Vec Ideal S1x1x2048 .f32) (ix3 0 0 j) = m ((c : Thread nD τ).loc main_arg7) (ix2 0 j) := by
  have ht := lt_N t
  blk_ext! [iblk, idx10 t]

/-- The up weight's columns. -/
theorem iblk11_apply (t : Fin cfg0.N) (p : Fin 2048) (n : Fin 1024) :
    (iblk m c 11 t : Vec Ideal S2048x1024 .bf16) (ix2 p n) = m ((c : Thread nD τ).loc main_arg8) (ix2 p (hid t n)) := by
  have ht := lt_N t
  blk_ext! [iblk, idx11 t]

/-- The down weight's rows. -/
theorem iblk12_apply (t : Fin cfg0.N) (n : Fin 1024) (j : Fin 2048) :
    (iblk m c 12 t : Vec Ideal S1024x2048 .bf16) (ix2 n j) = m ((c : Thread nD τ).loc main_arg9) (ix2 (hid t n) j) := by
  have ht := lt_N t
  blk_ext! [iblk, idx12 t]

end Cert.PostInnerIdeal.Blocks

end
-- ==== Proof.InnerPoint.lean ====
/-
  The first layer's post call, point by point: what the output block and the two scratch buffers hold after every grid point, as the
  functions of PostSpec, and with it the call's result array.
-/
module

public import proofs.«01_k».proof.Proof.InnerBlocks
public import proofs.«01_k».proof.Proof.PostSpec
public import proofs.«01_k».proof.Proof.Gen.PostInnerIdeal.Value

@[expose] public section

set_option maxRecDepth 16384

noncomputable section

open Idealize.ShloMosaic Idealize.ShloMosaic.TcCoe Idealize.SL.Sem
open scoped BigOperators

namespace Cert.PostInnerIdeal.Point

open Cert.PostInnerIdeal Cert.PostInnerIdeal.Gen Cert.PostInnerIdeal.Blocks Cert.PostInnerIdeal.Cases Cert.PostSpec

variable (m : (ℓ : Loc nD τ sig) → Buf (Elt Ideal) ℓ) (c : Dev nD)

/-- The call's arguments on core `c`. -/
def args : Args where
  x b s j := m ((c : Thread nD τ).loc main_arg0) (ix3 b s j)
  o q b s k := match q with
    | 0 => m ((c : Thread nD τ).loc main_arg1) (ix3 b s k)
    | 1 => m ((c : Thread nD τ).loc main_arg2) (ix3 b s k)
    | 2 => m ((c : Thread nD τ).loc main_arg3) (ix3 b s k)
    | 3 => m ((c : Thread nD τ).loc main_arg4) (ix3 b s k)
  wo k j := m ((c : Thread nD τ).loc main_arg5) (ix2 k j)
  md b k j := m ((c : Thread nD τ).loc main_arg6) (ix4 0 (⟨b.val, by omega⟩ : Fin 16) k j)
  g j := m ((c : Thread nD τ).loc main_arg7) (ix2 0 j)
  up l n := m ((c : Thread nD τ).loc main_arg8) (ix2 l n)
  down n j := m ((c : Thread nD τ).loc main_arg9) (ix2 n j)
  gf j := m ((c : Thread nD τ).loc main_arg10) (ix1 j)

/-- The reset's residual block is the tokens' residual stream after mixing. -/
theorem x1Of_apply (t : Fin cfg0.N) (p : Fin 512) (j : Fin 2048) :
    x1Of (iblk m c 0 t) (iblk m c 1 t) (iblk m c 2 t) (iblk m c 3 t) (iblk m c 4 t) (iblk m c 5 t) (iblk m c 6 t) (ix2 p j)
      = (args m c).y (bat t) (pos t p) j := by
  unfold x1Of k0_pay5 wRows0 wRows1 wRows2 wRows3
  pointwise [iblk0_apply, iblk1_apply, iblk2_apply, iblk3_apply, iblk4_apply, iblk5_apply, iblk6_apply]
  rfl

/-- The reset's second scratch buffer is the tokens' MLP input. -/
theorem h_apply (t : Fin cfg0.N) (s : Vec Ideal S512x2048 .f32) (hs : ∀ p j, s (ix2 p j) = (args m c).y (bat t) (pos t p) j)
    (p : Fin 512) (j : Fin 2048) :
    k0_pay1 s (iblk m c 10 t) (iblk m c 8 t) (iblk m c 7 t) (ix2 p j) = (args m c).h (bat t) (pos t p) j := by
  unfold k0_pay1
  pointwise [iblk10_apply, iblk8_apply, iblk7_apply, hs]
  rfl

/-- One hidden block's step adds that block's contribution. -/
theorem step_apply (t : Fin cfg0.N) (s : Vec Ideal S512x2048 .bf16) (hs : ∀ p j, s (ix2 p j) = (args m c).h (bat t) (pos t p) j)
    (acc : Vec Ideal S512x2048 .f32) (p : Fin 512) (j : Fin 2048) :
    k0_pay3 s (iblk m c 11 t) acc (iblk m c 12 t) (ix2 p j) = acc (ix2 p j) + (args m c).contrib (bat t) (pos t p) (t.val % 8) j := by
  unfold k0_pay3
  pointwise [iblk11_apply, iblk12_apply, hs]
  unfold Args.contrib
  simp only [Nat.mod_mod]
  rfl

/-- The last step's gated sum. -/
theorem finish_apply (t : Fin cfg0.N) (s out : Vec Ideal S512x2048 .f32) (hs : ∀ p j, s (ix2 p j) = (args m c).y (bat t) (pos t p) j)
    (ho : ∀ p j, out (ix2 p j) = (args m c).mlp (bat t) (pos t p) j) (p : Fin 512) (j : Fin 2048) :
    k0_pay4 s (iblk m c 9 t) out (ix2 p j) = (args m c).inner (bat t) (pos t p) j := by
  unfold k0_pay4
  pointwise [iblk9_apply, hs, ho]
  rfl

/-- What holds after point `t`: the scratch buffers are the row block's residual stream and MLP input; the output block
    is the sum of the hidden blocks' contributions so far, or after the last hidden block the result. -/
structure Holds (t : Fin cfg0.N) (o s0 : Vec Ideal S512x2048 .f32) (s1 : Vec Ideal S512x2048 .bf16) : Prop where
  y : ∀ p j, s0 (ix2 p j) = (args m c).y (bat t) (pos t p) j
  h : ∀ p j, s1 (ix2 p j) = (args m c).h (bat t) (pos t p) j
  acc : t.val % 8 ≠ 7 → ∀ p j, o (ix2 p j)
    = ∑ q ∈ Finset.range (t.val % 8 + 1), (args m c).contrib (bat t) (pos t p) q j
  res : t.val % 8 = 7 → ∀ p j, o (ix2 p j) = (args m c).inner (bat t) (pos t p) j

/-- A reset establishes what holds after a point. -/
theorem holds_reset (t : Fin cfg0.N) (h0 : t.val % 8 = 0) :
    Holds m c t (outsAt0 m c t.val t.isLt).1 (outsAt0 m c t.val t.isLt).2.1 (outsAt0 m c t.val t.isLt).2.2 := by
  have h1 : ¬t.val % 8 = 7 := by omega
  have ey := x1Of_apply m c t
  have eh := h_apply m c t _ ey
  rw [outsAt0_A m c t h0 h1]
  dsimp only
  rw [out_A, sout_A_0, sout_A_1]
  refine ⟨ey, eh, fun _ p j => ?_, fun h => absurd h h1⟩
  rw [step_apply m c t _ eh, h0]
  unfold k0_pay2
  pointwise
  rw [Finset.sum_range_one]

/-- Any later point of the row block keeps it. -/
theorem holds_step (t : Fin cfg0.N) (h0 : ¬t.val % 8 = 0)
    (ih : ∀ hn : t.val - 1 < cfg0.N, Holds m c ⟨t.val - 1, hn⟩ (outsAt0 m c (t.val - 1) hn).1
      (outsAt0 m c (t.val - 1) hn).2.1 (outsAt0 m c (t.val - 1) hn).2.2) :
    Holds m c t (outsAt0 m c t.val t.isLt).1 (outsAt0 m c t.val t.isLt).2.1 (outsAt0 m c t.val t.isLt).2.2 := by
  have hp : t.val - 1 < cfg0.N := lt_of_le_of_lt (Nat.sub_le _ _) t.isLt
  have ih := ih hp
  have eb : bat (⟨t.val - 1, hp⟩ : Fin cfg0.N) = bat t := Fin.ext (by show (t.val - 1) / 32 = t.val / 32; omega)
  have es : ∀ p, pos (⟨t.val - 1, hp⟩ : Fin cfg0.N) p = pos t p := fun p =>
    Fin.ext (by show (t.val - 1) / 8 % 4 * 512 + p.val = t.val / 8 % 4 * 512 + p.val; omega)
  have ey := ih.y
  have eh := ih.h
  have ea := ih.acc (by show (t.val - 1) % 8 ≠ 7; omega)
  have e8 : (t.val - 1) % 8 + 1 = t.val % 8 := by omega
  simp only [eb, es, e8] at ey eh ea
  have eo : ∀ p j, k0_pay3 (outsAt0 m c (t.val - 1) hp).2.2 (iblk m c 11 t) (outsAt0 m c (t.val - 1) hp).1 (iblk m c 12 t) (ix2 p j)
      = ∑ q ∈ Finset.range (t.val % 8 + 1), (args m c).contrib (bat t) (pos t p) q j := fun p j => by
    rw [step_apply m c t _ eh, ea, Finset.sum_range_succ]
  by_cases h1 : t.val % 8 = 7
  · rw [outsAt0_C m c t h0 h1]
    dsimp only
    rw [out_C]
    refine ⟨ey, eh, fun h => absurd h1 h, fun _ p j => finish_apply m c t _ _ ey (fun p j => ?_) p j⟩
    rw [eo, h1]
    exact Args.sum_contrib _ _ _ _
  · rw [outsAt0_B m c t h0 h1]
    dsimp only
    rw [out_B]
    exact ⟨ey, eh, fun _ => eo, fun h => absurd h h1⟩

/-- So it holds after every point. -/
theorem holds (n : ℕ) : ∀ hn : n < cfg0.N, Holds m c ⟨n, hn⟩ (outsAt0 m c n hn).1 (outsAt0 m c n hn).2.1 (outsAt0 m c n hn).2.2 := by
  induction n with
  | zero => exact fun hn => holds_reset m c ⟨0, hn⟩ rfl
  | succ n ih => exact fun hn =>
      if h0 : (n + 1) % 8 = 0 then holds_reset m c ⟨n + 1, hn⟩ h0 else holds_step m c ⟨n + 1, hn⟩ h0 ih

/-- THE KERNEL'S RESULT: row `r` of the result array is the layer's result for token `r % 2048` of batch element
    `r / 2048`. -/
theorem G14_apply (r : Fin 16384) (j : Fin 2048) :
    Value.G14 m c (ix2 r j) = (args m c).inner ⟨r.val / 2048, by omega⟩ ⟨r.val % 2048, by omega⟩ j := by
  have hN : cfg0.N = 256 := N_0
  have hpt : Value.pt14Of (ix2 r j : S16384x2048.Idx) = 8 * (r.val / 512) + 7 := by
    show 8 * _ + 7 = _
    simp [Value.run14Of]
  have h : Value.pt14Of (ix2 r j : S16384x2048.Idx) < cfg0.N := by rw [hpt]; omega
  unfold Value.G14
  rw [dif_pos h, ← Value.outsAt0_sweep m c _ h]
  have e := (holds m c _ h).res (by show Value.pt14Of _ % 8 = 7; rw [hpt]; omega) ⟨r.val % 512, by omega⟩ j
  refine Eq.trans ?_ (e.trans ?_)
  · congr 1
    blk_ext
  · rw [show bat (⟨_, h⟩ : Fin cfg0.N) = ⟨r.val / 2048, by omega⟩ from
        Fin.ext (by show Value.pt14Of _ / 32 = _; rw [hpt]; show _ = r.val / 2048; omega),
      show pos (⟨_, h⟩ : Fin cfg0.N) ⟨r.val % 512, by omega⟩ = ⟨r.val % 2048, by omega⟩ from
        Fin.ext (by show Value.pt14Of _ / 8 % 4 * 512 + r.val % 512 = _; rw [hpt]; show _ = r.val % 2048; omega)]

end Cert.PostInnerIdeal.Point

end
-- ==== Proof.InnerRef.lean ====
/-
  The reference of the first layer's post claim, read at an element of its result: the layer's result for one token.
-/
module

public import proofs.«01_k».proof.Proof.PostSpec
public import proofs.«01_k».proof.Proof.Gen.InnerEndIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.InnerEndIdeal.Tokens

open Cert.InnerEndIdeal Cert.InnerEndIdeal.Gen Cert.InnerEndIdeal.Read Cert.PostSpec

variable (x0 : Vec Ideal S8x2048x2048 .f32) (x1 x2 x3 x4 : Vec Ideal S8x2048x512 .bf16)
  (x5 : Vec Ideal S2048x2048 .bf16) (x6 : Vec Ideal S2x16x6x2048 .f32) (x7 : Vec Ideal S2x2048 .f32)
  (x8 : Vec Ideal S2048x8192 .bf16) (x9 : Vec Ideal S8192x2048 .bf16) (x10 : Vec Ideal S2048 .f32)

/-- The reference's arguments. -/
def args : Args where
  x b s j := x0 (ix3 b s j)
  o q b s k := match q with
    | 0 => x1 (ix3 b s k)
    | 1 => x2 (ix3 b s k)
    | 2 => x3 (ix3 b s k)
    | 3 => x4 (ix3 b s k)
  wo k j := x5 (ix2 k j)
  md b k j := x6 (ix4 0 (⟨b.val, by omega⟩ : Fin 16) k j)
  g j := x7 (ix2 0 j)
  up l n := x8 (ix2 l n)
  down n j := x9 (ix2 n j)
  gf j := x10 (ix1 j)

/-- The modulation rows of the latent batch elements. -/
theorem v10_apply (b : Fin 8) (k : Fin 6) (j : Fin 2048) :
    val_main_v10 (F := Ideal) x6 (ix4 b k 0 j) = x6 (ix4 0 (⟨b.val, by omega⟩ : Fin 16) k j) := by
  unfold val_main_v10 val_main_v9 val_main_v1 val_main_v0
  pointwise

/-- The mixing output: the concatenated head groups times the output weight is the four groups' products. -/
theorem v13_apply (b : Fin 8) (s j : Fin 2048) :
    val_main_v13 (F := Ideal) x1 x2 x3 x4 x5 (ix3 b s j)
      = (args x0 x1 x2 x3 x4 x5 x6 x7 x8 x9 x10).part b s 0 j + (args x0 x1 x2 x3 x4 x5 x6 x7 x8 x9 x10).part b s 1 j
        + (args x0 x1 x2 x3 x4 x5 x6 x7 x8 x9 x10).part b s 2 j + (args x0 x1 x2 x3 x4 x5 x6 x7 x8 x9 x10).part b s 3 j := by
  unfold val_main_v13 val_main_v8 val_main_v7 val_main_v4
  pointwise
  rw [Args.sum_quarters, Fin.sum_univ_four]
  refine congrArg₂ (· + ·) (congrArg₂ (· + ·) (congrArg₂ (· + ·) ?_ ?_) ?_) ?_
  · refine Finset.sum_congr rfl fun k _ => congrArg (· * x5 (ix2 _ j)) ?_
    exact (dif_pos (show 0 * 512 + k.val < 512 by omega)).trans (congrArg x1 (congrArg (ix3 b s) (Fin.ext (show 0 * 512 + k.val = k.val by omega))))
  · refine Finset.sum_congr rfl fun k _ => congrArg (· * x5 (ix2 _ j)) ?_
    exact (dif_neg (show ¬1 * 512 + k.val < 512 by omega)).trans
      ((dif_pos (show 1 * 512 + k.val - 512 < 512 by omega)).trans (congrArg x2 (congrArg (ix3 b s) (Fin.ext (show 1 * 512 + k.val - 512 = k.val by omega)))))
  · refine Finset.sum_congr rfl fun k _ => congrArg (· * x5 (ix2 _ j)) ?_
    exact (dif_neg (show ¬2 * 512 + k.val < 512 by omega)).trans
      ((dif_neg (show ¬2 * 512 + k.val - 512 < 512 by omega)).trans
      ((dif_pos (show 2 * 512 + k.val - 512 - 512 < 512 by omega)).trans (congrArg x3 (congrArg (ix3 b s) (Fin.ext (show 2 * 512 + k.val - 512 - 512 = k.val by omega))))))
  · refine Finset.sum_congr rfl fun k _ => congrArg (· * x5 (ix2 _ j)) ?_
    exact (dif_neg (show ¬3 * 512 + k.val < 512 by omega)).trans
      ((dif_neg (show ¬3 * 512 + k.val - 512 < 512 by omega)).trans
      ((dif_neg (show ¬3 * 512 + k.val - 512 - 512 < 512 by omega)).trans
      (congrArg x4 (congrArg (ix3 b s) (Fin.ext (show 3 * 512 + k.val - 512 - 512 - 512 = k.val by omega))))))

/-- The residual stream after mixing. -/
theorem v16_apply (b : Fin 8) (s j : Fin 2048) :
    val_main_v16 (F := Ideal) x0 x1 x2 x3 x4 x5 x6 (ix3 b s j) = (args x0 x1 x2 x3 x4 x5 x6 x7 x8 x9 x10).y b s j := by
  unfold val_main_v16 val_main_v15 val_main_v14 val_main_v12 val_main_v11
  pointwise [v10_apply, v13_apply x0 x1 x2 x3 x4 x5 x6 x7 x8 x9 x10]
  rfl

/-- The MLP input. -/
theorem v41_apply (b : Fin 8) (s j : Fin 2048) :
    val_main_v41 (F := Ideal) x0 x1 x2 x3 x4 x5 x6 x7 (ix3 b s j) = (args x0 x1 x2 x3 x4 x5 x6 x7 x8 x9 x10).h b s j := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v3 val_main_v2 val_main_cst val_main_cst_0 val_main_cst_1 val_main_cst_2
  pointwise [v10_apply, v16_apply x0 x1 x2 x3 x4 x5 x6 x7 x8 x9 x10]
  rfl

/-- The MLP output. -/
theorem v45_apply (b : Fin 8) (s j : Fin 2048) :
    val_main_v45 (F := Ideal) x0 x1 x2 x3 x4 x5 x6 x7 x8 x9 (ix3 b s j) = (args x0 x1 x2 x3 x4 x5 x6 x7 x8 x9 x10).mlp b s j := by
  unfold val_main_v45 val_main_v44 val_main_v43 val_main_v42 val_main_v5 val_main_v6 val_main_call0_v0 val_main_call0_cst
  pointwise [v41_apply x0 x1 x2 x3 x4 x5 x6 x7 x8 x9 x10]
  rfl

/-- THE REFERENCE'S RESULT: row `r` is the layer's result for token `r % 2048` of batch element `r / 2048`. -/
theorem v49_apply (r : Fin 16384) (j : Fin 2048) :
    val_main_v49 (F := Ideal) x0 x1 x2 x3 x4 x5 x6 x7 x8 x9 (ix2 r j)
      = (args x0 x1 x2 x3 x4 x5 x6 x7 x8 x9 x10).inner ⟨r.val / 2048, by omega⟩ ⟨r.val % 2048, by omega⟩ j := by
  unfold val_main_v49 val_main_v48 val_main_v47 val_main_v46 val_main_v18 val_main_v17
  pointwise [v10_apply, v16_apply x0 x1 x2 x3 x4 x5 x6 x7 x8 x9 x10, v45_apply x0 x1 x2 x3 x4 x5 x6 x7 x8 x9 x10]
  rfl

end Cert.InnerEndIdeal.Tokens

end
-- ==== Proof.InnerClaim.lean ====
/-
  The value claim of the first layer's post call: over the extended reals its result array is the reference's.
-/
module

public import proofs.«01_k».proof.Defs
public import proofs.«01_k».proof.Proof.InnerPoint
public import proofs.«01_k».proof.Proof.InnerRef
public import proofs.«01_k».proof.Proof.Gen.PostInnerIdeal.Value
public import proofs.«01_k».proof.Proof.Gen.InnerEndIdeal.Run

@[expose] public section

set_option maxRecDepth 16384

noncomputable section

open Idealize.ShloMosaic Idealize.ShloMosaic.TcCoe Idealize.SL.Sem

namespace Cert.InnerClaim

/-- The two programs end with the same array whenever their arguments agree. -/
theorem result_eq (m : (ℓ : Loc PostInnerIdeal.nD PostInnerIdeal.τ PostInnerIdeal.sig) → Buf (Elt Ideal) ℓ)
    (m' : (ℓ : Loc InnerEndIdeal.nD InnerEndIdeal.τ InnerEndIdeal.sig) → Buf (Elt Ideal) ℓ) (c : Dev PostInnerIdeal.nD)
    (e0 : m' ((c.tc : Thread InnerEndIdeal.nD InnerEndIdeal.τ).loc InnerEndIdeal.main_arg0) = m ((c.tc : Thread PostInnerIdeal.nD PostInnerIdeal.τ).loc PostInnerIdeal.main_arg0))
    (e1 : m' ((c.tc : Thread InnerEndIdeal.nD InnerEndIdeal.τ).loc InnerEndIdeal.main_arg1) = m ((c.tc : Thread PostInnerIdeal.nD PostInnerIdeal.τ).loc PostInnerIdeal.main_arg1))
    (e2 : m' ((c.tc : Thread InnerEndIdeal.nD InnerEndIdeal.τ).loc InnerEndIdeal.main_arg2) = m ((c.tc : Thread PostInnerIdeal.nD PostInnerIdeal.τ).loc PostInnerIdeal.main_arg2))
    (e3 : m' ((c.tc : Thread InnerEndIdeal.nD InnerEndIdeal.τ).loc InnerEndIdeal.main_arg3) = m ((c.tc : Thread PostInnerIdeal.nD PostInnerIdeal.τ).loc PostInnerIdeal.main_arg3))
    (e4 : m' ((c.tc : Thread InnerEndIdeal.nD InnerEndIdeal.τ).loc InnerEndIdeal.main_arg4) = m ((c.tc : Thread PostInnerIdeal.nD PostInnerIdeal.τ).loc PostInnerIdeal.main_arg4))
    (e5 : m' ((c.tc : Thread InnerEndIdeal.nD InnerEndIdeal.τ).loc InnerEndIdeal.main_arg5) = m ((c.tc : Thread PostInnerIdeal.nD PostInnerIdeal.τ).loc PostInnerIdeal.main_arg5))
    (e6 : m' ((c.tc : Thread InnerEndIdeal.nD InnerEndIdeal.τ).loc InnerEndIdeal.main_arg6) = m ((c.tc : Thread PostInnerIdeal.nD PostInnerIdeal.τ).loc PostInnerIdeal.main_arg6))
    (e7 : m' ((c.tc : Thread InnerEndIdeal.nD InnerEndIdeal.τ).loc InnerEndIdeal.main_arg7) = m ((c.tc : Thread PostInnerIdeal.nD PostInnerIdeal.τ).loc PostInnerIdeal.main_arg7))
    (e8 : m' ((c.tc : Thread InnerEndIdeal.nD InnerEndIdeal.τ).loc InnerEndIdeal.main_arg8) = m ((c.tc : Thread PostInnerIdeal.nD PostInnerIdeal.τ).loc PostInnerIdeal.main_arg8))
    (e9 : m' ((c.tc : Thread InnerEndIdeal.nD InnerEndIdeal.τ).loc InnerEndIdeal.main_arg9) = m ((c.tc : Thread PostInnerIdeal.nD PostInnerIdeal.τ).loc PostInnerIdeal.main_arg9))
    (e10 : m' ((c.tc : Thread InnerEndIdeal.nD InnerEndIdeal.τ).loc InnerEndIdeal.main_arg10) = m ((c.tc : Thread PostInnerIdeal.nD PostInnerIdeal.τ).loc PostInnerIdeal.main_arg10)) :
    InnerEndIdeal.Value.res_main_v49 m' c = PostInnerIdeal.Value.G14 m c := by
  rw [InnerEndIdeal.Read.val_main_v49_eq, e0, e1, e2, e3, e4, e5, e6, e7, e8, e9]
  funext i
  idx_vars i
  rw [InnerEndIdeal.Tokens.v49_apply (x10 := m ((c.tc : Thread PostInnerIdeal.nD PostInnerIdeal.τ).loc PostInnerIdeal.main_arg10))]
  exact (PostInnerIdeal.Point.G14_apply m c _ _).symm

/-- THE CLAIM: the idealized call and the idealized reference agree, and neither changes its arguments. -/
theorem algebraic : Cert.algebraic_PostInnerIdeal_InnerEndIdeal (hPostInnerIdeal := Cert.PostInnerIdeal.Gen.facts)
    (hInnerEndIdeal := Cert.InnerEndIdeal.Gen.facts) := by
  intro m g m' g' _ hag
  refine ⟨fun c => PostInnerIdeal.Value.G14 m c, PostInnerIdeal.Value.run m g, (θ_run _ _ _).mono (fun r h c => ?_) (InnerEndIdeal.Value.run m' g')⟩
  obtain ⟨e0, e1, e2, e3, e4, e5, e6, e7, e8, e9, e10⟩ := hag c
  exact ⟨(h c).1.trans (result_eq m m' c e0 e1 e2 e3 e4 e5 e6 e7 e8 e9 e10), (h c).2⟩

end Cert.InnerClaim

end
-- ==== Proof.ProjSpec.lean ====
/-
  The input projection of a layer, written for one token: the normalised and modulated row, its product with the
  projection weight, and what becomes of each head of the product — the root-mean-square norm of the heads of the first
  attention, the rotation of adjacent pairs by the token's angles, the scaling of the queries.
-/
module

public import proofs.«01_k».proof.Proof.PostSpec

@[expose] public section

noncomputable section

open Idealize.ShloMosaic
open scoped BigOperators

namespace Cert.ProjSpec

/-- The reciprocal root mean square of a head of 128 entries. -/
def inv (v : Fin 128 → EReal) : EReal :=
  Ideal.rsqrt (Ideal.div (∑ x, v x * v x) (Ideal.ofBits FTy.f32 0x43000000#32) + Ideal.ofBits FTy.f32 0x358637BD#32)

/-- A head normalised and scaled by the gain `g`. -/
def rms (v g : Fin 128 → EReal) (d : Fin 128) : EReal := v d * inv v * g d

/-- The pair of a lane. -/
abbrev pair (d : Fin 128) : Fin 64 := ⟨d.val / 2, by omega⟩
/-- The lane after, around the end. -/
abbrev next (d : Fin 128) : Fin 128 := ⟨(d.val + 1) % 128, Nat.mod_lt _ (by norm_num)⟩
/-- The lane before, around the end. -/
abbrev prev (d : Fin 128) : Fin 128 := ⟨(d.val + 127) % 128, Nat.mod_lt _ (by norm_num)⟩

/-- Adjacent pairs of 128 lanes rotated by the angles with cosines `C` and sines `S`. -/
def rot (v : Fin 128 → EReal) (C S : Fin 64 → EReal) (d : Fin 128) : EReal :=
  if d.val % 2 = 0 then v d * C (pair d) - v (next d) * S (pair d) else v (prev d) * S (pair d) + v d * C (pair d)

/-- The rotation as one sum: the sine of a pair meets the lane after with a minus sign on the even lanes, the lane before
    on the odd ones, and zero elsewhere. -/
theorem rot_eq (v : Fin 128 → EReal) (C S : Fin 64 → EReal) (d : Fin 128) :
    v d * C (pair d) + v (next d) * (if d.val % 2 = 0 then -S (pair d) else 0)
      + v (prev d) * (if d.val % 2 = 0 then 0 else S (pair d)) = rot v C S d := by
  unfold rot
  split
  · rw [mul_zero, add_zero, mul_neg, sub_eq_add_neg]
  · rw [mul_zero, add_zero, add_comm]

/-- The head a column lies in, as 128 lanes. -/
def head (y : Fin 5120 → EReal) (n : Fin 5120) (d : Fin 128) : EReal := y ⟨n.val / 128 * 128 + d.val, by omega⟩
/-- The lane of a column within its head. -/
abbrev lane (n : Fin 5120) : Fin 128 := ⟨n.val % 128, Nat.mod_lt _ (by norm_num)⟩

/-- log2(e) / sqrt(128), as the programs hold it. -/
def scaleH : EReal := Ideal.ofBits FTy.f32 0x3E0293EE#32
/-- log2(e) / sqrt(64), as the programs hold it. -/
def scaleD : EReal := Ideal.ofBits FTy.f32 0x3E38AA3B#32

/-- The token's projected heads, from its 5120 products `y`, the two gains, and its cosines and sines for heads of 128
    (`C`, `S`) and of 64 (`C'`, `S'`, over two heads): four times queries, keys and values. -/
def out (y : Fin 5120 → EReal) (gq gk : Fin 128 → EReal) (C S C' S' : Fin 64 → EReal) (n : Fin 5120) : EReal :=
  if n.val < 512 then rot (rms (head y n) gq) C S (lane n) * scaleH
  else if n.val < 768 then rot (rms (head y n) gk) C S (lane n)
  else if n.val < 1024 then y n
  else if n.val < 1536 then y n * scaleH
  else if n.val < 2560 then y n
  else if n.val < 3072 then rot (head y n) C' S' (lane n) * scaleD
  else if n.val < 3584 then rot (head y n) C' S' (lane n)
  else if n.val < 4096 then y n
  else if n.val < 4608 then rot (head y n) C S (lane n) * scaleH
  else if n.val < 4864 then rot (head y n) C S (lane n)
  else y n

section Parts

variable (y : Fin 5120 → EReal) (gq gk : Fin 128 → EReal) (C S C' S' : Fin 64 → EReal) (n : Fin 5120)

/-- The queries of the first attention: normalised, rotated, scaled. -/
theorem out_q (h : n.val < 512) : out y gq gk C S C' S' n = rot (rms (head y n) gq) C S (lane n) * scaleH := if_pos h

/-- The keys of the first attention: normalised and rotated. -/
theorem out_k (h : 512 ≤ n.val) (h' : n.val < 768) : out y gq gk C S C' S' n = rot (rms (head y n) gk) C S (lane n) := by
  unfold out
  rw [if_neg (by omega), if_pos h']

/-- The values, and the keys of the second attention, are the products. -/
theorem out_v (h : 768 ≤ n.val ∧ n.val < 1024 ∨ 1536 ≤ n.val ∧ n.val < 2560 ∨ 3584 ≤ n.val ∧ n.val < 4096 ∨ 4864 ≤ n.val) :
    out y gq gk C S C' S' n = y n := by
  unfold out
  split_ifs <;> first | rfl | (exfalso; omega)

/-- The queries of the second attention: scaled. -/
theorem out_s (h : 1024 ≤ n.val) (h' : n.val < 1536) : out y gq gk C S C' S' n = y n * scaleH := by
  unfold out
  split_ifs <;> first | rfl | (exfalso; omega)

/-- The queries of the third attention, on heads of 64: rotated and scaled. -/
theorem out_dq (h : 2560 ≤ n.val) (h' : n.val < 3072) : out y gq gk C S C' S' n = rot (head y n) C' S' (lane n) * scaleD := by
  unfold out
  split_ifs <;> first | rfl | (exfalso; omega)

/-- The keys of the third attention: rotated. -/
theorem out_dk (h : 3072 ≤ n.val) (h' : n.val < 3584) : out y gq gk C S C' S' n = rot (head y n) C' S' (lane n) := by
  unfold out
  split_ifs <;> first | rfl | (exfalso; omega)

/-- The queries of the fourth attention: rotated and scaled. -/
theorem out_rq (h : 4096 ≤ n.val) (h' : n.val < 4608) : out y gq gk C S C' S' n = rot (head y n) C S (lane n) * scaleH := by
  unfold out
  split_ifs <;> first | rfl | (exfalso; omega)

/-- The keys of the fourth attention: rotated. -/
theorem out_rk (h : 4608 ≤ n.val) (h' : n.val < 4864) : out y gq gk C S C' S' n = rot (head y n) C S (lane n) := by
  unfold out
  split_ifs <;> first | rfl | (exfalso; omega)

end Parts

/-- A row's product with column `n` of the weight. -/
def prod (h : Fin 2048 → EReal) (w : Fin 2048 → Fin 5120 → EReal) (n : Fin 5120) : EReal := ∑ l, h l * w l n

end Cert.ProjSpec

end
-- ==== Proof.ProjTile.lean ====
/-
  The pieces a grid point of the projection call stores: each is a head of 128 columns of a product of the normalised
  rows with a block of 512 columns of the weight, taken as it is, scaled, rotated, or normalised and rotated.
-/
module

public import proofs.«01_k».proof.Proof.ProjSpec
public import proofs.«01_k».proof.Proof.Gen.ProjIdeal.Frame
public import Idealize.ShloMosaic.Lib.Pointwise
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open scoped BigOperators

namespace Cert.ProjIdeal.Tile

open Cert.ProjIdeal Cert.ProjIdeal.Gen Cert.ProjSpec

/-- The normalised and modulated rows of a block. -/
theorem rows_apply (x0 : Vec Ideal S512x2048 .f32) (x1 x2 : Vec Ideal S1x1x1x2048 .f32) (x3 : Vec Ideal S1x1x2048 .f32)
    (p : Fin 512) (l : Fin 2048) :
    k0_pay7 (k0_pay6 x0 x3) x2 x1 (ix2 p l)
      = PostSpec.modded (fun j => x0 (ix2 p j)) (fun j => x3 (ix3 0 0 j)) (fun j => x2 (ix4 0 0 0 j)) (fun j => x1 (ix4 0 0 0 j)) l := by
  unfold k0_pay7 k0_pay6
  pointwise
  rfl

/-- A block of 512 columns of the product. -/
theorem block_apply (H : Vec Ideal S512x2048 .bf16) (w : Vec Ideal S1x2048x512 .bf16) (p n : Fin 512) :
    k0_pay19 H w (ix2 p n) = ∑ l : Fin 2048, H (ix2 p l) * w (ix3 0 l n) := by
  unfold k0_pay19
  pointwise

/-- The lane after. -/
theorem roll_next (v : FVec Ideal S512x128 .f32) (p : Fin 512) (d : Fin 128) :
    dynamicRotate 1 127#32 none v rotates_S512x128_d1 (ix2 p d) = v (ix2 p (next d)) :=
  dynamicRotate_apply (1 : Fin 2) _ _ _ _ (ix2 p (next d)) fun b => by
    match b with
    | ⟨0, _⟩ => rfl
    | ⟨1, _⟩ =>
      show (d.val + 1) % 128 = (d.val + 128 - 127) % 128
      omega

/-- The lane before. -/
theorem roll_prev (v : FVec Ideal S512x128 .f32) (p : Fin 512) (d : Fin 128) :
    dynamicRotate 1 1#32 none v rotates_S512x128_d1 (ix2 p d) = v (ix2 p (prev d)) :=
  dynamicRotate_apply (1 : Fin 2) _ _ _ _ (ix2 p (prev d)) fun b => by
    match b with
    | ⟨0, _⟩ => rfl
    | ⟨1, _⟩ =>
      show (d.val + 127) % 128 = (d.val + 128 - 1) % 128
      omega

/-- Lanes times the cosines, plus the lanes after times the second table, plus the lanes before times the third. -/
def ropeV (v a b c : FVec Ideal S512x128 .f32) : FVec Ideal S512x128 .f32 :=
  addf (addf (mulf v (shapeCast S512x128 a shapeCasts_S512x128_S512x128))
      (mulf (dynamicRotate 1 127#32 none v rotates_S512x128_d1) (shapeCast S512x128 b shapeCasts_S512x128_S512x128)))
    (mulf (dynamicRotate 1 1#32 none v rotates_S512x128_d1) (shapeCast S512x128 c shapeCasts_S512x128_S512x128))

/-- A head normalised by its root mean square and scaled by the gain. -/
def rmsV (v : FVec Ideal S512x128 .f32) (g : Vec Ideal S1x1x128 .f32) : FVec Ideal S512x128 .f32 :=
  mulf (mulf v (broadcastTo S512x128 (rsqrt (addf (divf (shapeCast S512x1
        (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32))))
      broadcasts_S512x1_S512x128))
    (broadcastTo S512x128 (shapeCast S1x128 g shapeCasts_S1x1x128_S1x128) broadcasts_S1x128_S512x128)

/-- A head's lanes times the query scale `k`. -/
def scaleV (v : FVec Ideal S512x128 .f32) (k : BitVec 32) : FVec Ideal S512x128 .f32 :=
  mulf v (broadcast S512x128 (Scalar.ofBits .f32 k))

theorem rmsV_apply (v : FVec Ideal S512x128 .f32) (g : Vec Ideal S1x1x128 .f32) (p : Fin 512) (d : Fin 128) :
    rmsV v g (ix2 p d) = rms (fun j => v (ix2 p j)) (fun j => g (ix3 0 0 j)) d := by
  unfold rmsV
  pointwise
  rfl

theorem scaleV_apply (v : FVec Ideal S512x128 .f32) (k : BitVec 32) (i : S512x128.Idx) :
    scaleV v k i = v i * Ideal.ofBits FTy.f32 k := rfl

/-- With the three tables of a row's angles, the lanes are rotated in pairs. -/
theorem ropeV_apply (v a b c : FVec Ideal S512x128 .f32) (C S : Fin 64 → EReal) (p : Fin 512) (d : Fin 128)
    (ha : a (ix2 p d) = C (pair d)) (hb : b (ix2 p d) = if d.val % 2 = 0 then -S (pair d) else 0)
    (hc : c (ix2 p d) = if d.val % 2 = 0 then 0 else S (pair d)) :
    ropeV v a b c (ix2 p d) = rot (fun j => v (ix2 p j)) C S d := by
  rw [← rot_eq, ← ha, ← hb, ← hc]
  show v (ix2 p d) * shapeCast S512x128 a _ (ix2 p d) + dynamicRotate 1 127#32 none v _ (ix2 p d) * shapeCast S512x128 b _ (ix2 p d)
    + dynamicRotate 1 1#32 none v _ (ix2 p d) * shapeCast S512x128 c _ (ix2 p d) = _
  rw [roll_next, roll_prev, shapeCast_self, shapeCast_self, shapeCast_self]

end Cert.ProjIdeal.Tile

end
-- ==== Proof.ProjPieces.lean ====
/-
  What a grid point of the projection call stores: its forty pieces of 128 columns, put together, are the projected heads
  of the block's 512 tokens.
-/
module

public import proofs.«01_k».proof.Proof.ProjTile

@[expose] public section

set_option maxRecDepth 16384

noncomputable section

open Idealize.ShloMosaic Idealize.ShloMosaic.TcCoe Idealize.SL.Sem
open scoped BigOperators

namespace Cert.ProjIdeal.Tile

open Cert.ProjIdeal Cert.ProjIdeal.Gen Cert.ProjSpec

/-- The rows' products with a weight given as one member of a stack. -/
abbrev yOf (H : Vec Ideal S512x2048 .bf16) (x4 : Vec Ideal S1x2048x5120 .bf16) (p : Fin 512) : Fin 5120 → EReal :=
  prod (fun l => H (ix2 p l)) (fun l n => x4 (ix3 0 l n))

/-- The gain in row `r` of the gains' block. -/
abbrev gain (x6 : Vec Ideal S1x8x128 .f32) (r : Fin 8) (j : Fin 128) : EReal := x6 (ix3 0 r j)

/-- 128 columns from `o` on of the product with the weight's 512 columns from `b` on. -/
abbrev cut (H : Vec Ideal S512x2048 .bf16) (x4 : Vec Ideal S1x2048x5120 .bf16) (b o : ℕ)
    (inb : ∀ a, (![0, 0, b] : Fin 3 → ℕ) a + S1x2048x512.size a ≤ S1x2048x5120.size a) (sl : S512x512.Slices ![0, o] S512x128) :
    FVec Ideal S512x128 .f32 :=
  extractStridedSlice S512x128 ![0, o] (k0_pay19 H (View.ld x4 (Rect.unit (s := S1x2048x5120) ![0, 0, b] S1x2048x512.size inb))) sl

section Cut

variable (H : Vec Ideal S512x2048 .bf16) (x4 : Vec Ideal S1x2048x5120 .bf16) {b o : ℕ}
  (inb : ∀ a, (![0, 0, b] : Fin 3 → ℕ) a + S1x2048x512.size a ≤ S1x2048x5120.size a) (sl : S512x512.Slices ![0, o] S512x128)
  (p : Fin 512)

theorem cut_apply (d : Fin 128) (n : Fin 5120) (h : n.val = b + o + d.val) : cut H x4 b o inb sl (ix2 p d) = yOf H x4 p n := by
  have hb : b + 512 ≤ 5120 := inb 2
  have ho : o + 128 ≤ 512 := sl.2 1
  refine (extractStridedSlice_apply _ _ _ _ (ix2 p (⟨o + d.val, by omega⟩ : Fin 512)) fun a => ?_).trans ?_
  · match a with
    | ⟨0, _⟩ => exact (Nat.zero_add _).symm
    | ⟨1, _⟩ => rfl
  · rw [block_apply]
    refine Finset.sum_congr rfl fun l _ => congrArg (H (ix2 p l) * ·) ?_
    refine View.ld_unit_apply_of x4 _ _ _ _ (ix3 0 l n) fun a => ?_
    match a with
    | ⟨0, _⟩ => rfl
    | ⟨1, _⟩ => exact (Nat.zero_add _).symm
    | ⟨2, _⟩ => exact h.trans (Nat.add_assoc _ _ _)

/-- The cut's row is the head of any of its columns. -/
theorem cut_head (d : Fin 128) (n : Fin 5120) (h : n.val = b + o + d.val) (hbo : (b + o) % 128 = 0) :
    (fun j => cut H x4 b o inb sl (ix2 p j)) = head (yOf H x4 p) n :=
  funext fun j => cut_apply H x4 inb sl p j _ (by show n.val / 128 * 128 + j.val = _; omega)

theorem lane_eq (d : Fin 128) (n : Fin 5120) (h : n.val = b + o + d.val) (hbo : (b + o) % 128 = 0) : lane n = d :=
  Fin.ext (by show n.val % 128 = d.val; omega)

variable (x : S512x128.Idx) (n : Fin 5120) (h1 : p.val = (x 0).val) (h2 : n.val = b + o + (x 1).val)

theorem idx_eq (h1 : p.val = (x 0).val) : x = ix2 p (x 1) := by
  funext i
  match i with
  | ⟨0, _⟩ => exact Fin.ext h1.symm
  | ⟨1, _⟩ => rfl

include h1 h2

/-- A piece stored as it is. -/
theorem plain : truncf .bf16 (cut H x4 b o inb sl) bitsLt_bf16_f32 x = yOf H x4 p n := by
  rw [idx_eq p x h1]
  exact cut_apply H x4 inb sl p (x 1) n h2

/-- A piece stored times the query scale. -/
theorem scaled (k : BitVec 32) : truncf .bf16 (scaleV (cut H x4 b o inb sl) k) bitsLt_bf16_f32 x = yOf H x4 p n * Ideal.ofBits FTy.f32 k :=
  congrArg (· * Ideal.ofBits FTy.f32 k) (plain H x4 inb sl p x n h1 h2)

variable (ta tb tc : FVec Ideal S512x128 .f32) (C S : Fin 64 → EReal)
  (ha : ∀ d, ta (ix2 p d) = C (pair d)) (hb : ∀ d, tb (ix2 p d) = if d.val % 2 = 0 then -S (pair d) else 0)
  (hc : ∀ d, tc (ix2 p d) = if d.val % 2 = 0 then 0 else S (pair d)) (hbo : (b + o) % 128 = 0)

include ha hb hc hbo

/-- A piece rotated. -/
theorem roped : truncf .bf16 (ropeV (cut H x4 b o inb sl) ta tb tc) bitsLt_bf16_f32 x = rot (head (yOf H x4 p) n) C S (lane n) := by
  rw [idx_eq p x h1, lane_eq (x 1) n h2 hbo, ← cut_head H x4 inb sl p (x 1) n h2 hbo]
  exact ropeV_apply _ _ _ _ C S p (x 1) (ha _) (hb _) (hc _)

/-- A piece rotated and scaled. -/
theorem ropedScaled (k : BitVec 32) :
    truncf .bf16 (scaleV (ropeV (cut H x4 b o inb sl) ta tb tc) k) bitsLt_bf16_f32 x
      = rot (head (yOf H x4 p) n) C S (lane n) * Ideal.ofBits FTy.f32 k :=
  congrArg (· * Ideal.ofBits FTy.f32 k) (roped H x4 inb sl p x n h1 h2 ta tb tc C S ha hb hc hbo)

variable (g : Vec Ideal S1x1x128 .f32) (gv : Fin 128 → EReal) (hg : ∀ j, g (ix3 0 0 j) = gv j)

include hg

/-- A piece normalised and rotated. -/
theorem normed : truncf .bf16 (ropeV (rmsV (cut H x4 b o inb sl) g) ta tb tc) bitsLt_bf16_f32 x
    = rot (rms (head (yOf H x4 p) n) gv) C S (lane n) := by
  rw [idx_eq p x h1, lane_eq (x 1) n h2 hbo, ← cut_head H x4 inb sl p (x 1) n h2 hbo]
  refine (ropeV_apply _ _ _ _ C S p (x 1) (ha _) (hb _) (hc _)).trans ?_
  congr 1
  funext j
  rw [rmsV_apply]
  congr 1
  exact funext hg

/-- A piece normalised, rotated and scaled. -/
theorem normedScaled (k : BitVec 32) :
    truncf .bf16 (scaleV (ropeV (rmsV (cut H x4 b o inb sl) g) ta tb tc) k) bitsLt_bf16_f32 x
      = rot (rms (head (yOf H x4 p) n) gv) C S (lane n) * Ideal.ofBits FTy.f32 k :=
  congrArg (· * Ideal.ofBits FTy.f32 k) (normed H x4 inb sl p x n h1 h2 ta tb tc C S ha hb hc hbo g gv hg)

end Cut

/-- The rope block's row `p` holds the tables of the cosines and sines of the token's angles. -/
structure Tables (x5 : Vec Ideal S512x768 .f32) (p : Fin 512) (C S C' S' : Fin 64 → EReal) : Prop where
  a : ∀ d, View.ld x5 r0_11 (ix2 p d) = C (pair d)
  b : ∀ d, View.ld x5 r0_12 (ix2 p d) = if d.val % 2 = 0 then -S (pair d) else 0
  c : ∀ d, View.ld x5 r0_13 (ix2 p d) = if d.val % 2 = 0 then 0 else S (pair d)
  a' : ∀ d, View.ld x5 r0_40 (ix2 p d) = C' (pair d)
  b' : ∀ d, View.ld x5 r0_41 (ix2 p d) = if d.val % 2 = 0 then -S' (pair d) else 0
  c' : ∀ d, View.ld x5 r0_42 (ix2 p d) = if d.val % 2 = 0 then 0 else S' (pair d)

theorem gain0 (x6 : Vec Ideal S1x8x128 .f32) (j : Fin 128) : View.ld x6 r0_10 (ix3 0 0 j) = gain x6 0 j :=
  View.ld_unit_apply_of x6 _ _ _ _ (ix3 0 0 j) fun a => by
    match a with
    | ⟨0, _⟩ => rfl
    | ⟨1, _⟩ => rfl
    | ⟨2, _⟩ => exact (Nat.zero_add _).symm

theorem gain1 (x6 : Vec Ideal S1x8x128 .f32) (j : Fin 128) : View.ld x6 r0_19 (ix3 0 0 j) = gain x6 1 j :=
  View.ld_unit_apply_of x6 _ _ _ _ (ix3 0 1 j) fun a => by
    match a with
    | ⟨0, _⟩ => rfl
    | ⟨1, _⟩ => rfl
    | ⟨2, _⟩ => exact (Nat.zero_add _).symm

set_option maxHeartbeats 16000000 in
/-- WHAT A GRID POINT LEAVES in its block of the projection, at every token and column. -/
theorem out_apply (x0 : Vec Ideal S512x2048 .f32) (x1 x2 : Vec Ideal S1x1x1x2048 .f32) (x3 : Vec Ideal S1x1x2048 .f32)
    (x4 : Vec Ideal S1x2048x5120 .bf16) (x5 : Vec Ideal S512x768 .f32) (x6 : Vec Ideal S1x8x128 .f32) (x7 x8 x9)
    (p : Fin 512) (n : Fin 5120) (C S C' S' : Fin 64 → EReal) (T : Tables x5 p C S C' S') :
    out0_10 x0 x1 x2 x3 x4 x5 x6 x7 x8 x9 (ix2 p n)
      = out (yOf (k0_pay71 x0 x1 x2 x3 x4 x5 x6 x7 x8 x9) x4 p) (gain x6 0) (gain x6 1) C S C' S' n := by
  unfold out0_10
  canon_tiles x h
  all_goals
    have e1 : p.val = (x 0).val := by first | exact h0 | exact h0.trans (Nat.zero_add _)
    have e2 := h1
    have hx : (x 1).val < 128 := (x 1).isLt
    have e3 : n.val = (ix2 p n 1).val := rfl
    rw [← e3] at e2
    try unfold k0_pay56 k0_pay54 k0_pay55
    try unfold k0_pay49 k0_pay48
    try unfold k0_pay46 k0_pay45
    try unfold k0_pay18 k0_pay15 k0_pay16 k0_pay17
    try unfold k0_pay23 k0_pay20 k0_pay21 k0_pay22
    first
      | (rw [out_v _ _ _ _ _ _ _ n (by omega)]
         exact plain _ x4 _ _ p x n e1 (by omega))
      | (rw [out_s _ _ _ _ _ _ _ n (by omega) (by omega)]
         exact scaled _ x4 _ _ p x n e1 (by omega) _)
      | (rw [out_dk _ _ _ _ _ _ _ n (by omega) (by omega)]
         exact roped _ x4 _ _ p x n e1 (by omega) _ _ _ _ _ T.a' T.b' T.c' (by decide))
      | (rw [out_rk _ _ _ _ _ _ _ n (by omega) (by omega)]
         exact roped _ x4 _ _ p x n e1 (by omega) _ _ _ _ _ T.a T.b T.c (by decide))
      | (rw [out_dq _ _ _ _ _ _ _ n (by omega) (by omega)]
         exact ropedScaled _ x4 _ _ p x n e1 (by omega) _ _ _ _ _ T.a' T.b' T.c' (by decide) _)
      | (rw [out_rq _ _ _ _ _ _ _ n (by omega) (by omega)]
         exact ropedScaled _ x4 _ _ p x n e1 (by omega) _ _ _ _ _ T.a T.b T.c (by decide) _)
      | (rw [out_k _ _ _ _ _ _ _ n (by omega) (by omega)]
         exact normed _ x4 _ _ p x n e1 (by omega) _ _ _ _ _ T.a T.b T.c (by decide) _ _ (gain1 x6))
      | (rw [out_q _ _ _ _ _ _ _ n (by omega)]
         exact normedScaled _ x4 _ _ p x n e1 (by omega) _ _ _ _ _ T.a T.b T.c (by decide) _ _ (gain0 x6) _)

end Cert.ProjIdeal.Tile

end
-- ==== Proof.ProjTables.lean ====
/-
  The tables the host prepares for the projection call, read at an index: the cosines and sines of the tokens' angles are
  the reference's own; the rope block holds them per lane, the sines twice, once negated on the even lanes and once on the
  odd ones; the gains' block holds the two gains.
-/
module

public import proofs.«01_k».proof.Proof.Gen.ProjIdeal.Frame
public import proofs.«01_k».proof.Proof.Gen.HeadsIdeal.Read
public import proofs.«01_k».proof.Proof.ProjSpec
public import Idealize.ShloMosaic.Lib.Pointwise
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem

namespace Cert.ProjIdeal.Tables

open Cert.ProjIdeal Cert.ProjIdeal.Gen Cert.ProjSpec

variable (m : (ℓ : Loc nD τ sig) → Buf (Elt Ideal) ℓ) (c : Dev nD)

/-- The cosine of token `s`'s angle number `d`, for heads of 128. -/
def cosH (s : Fin 2048) (d : Fin 64) : EReal := HeadsIdeal.Read.val_main_v22 (F := Ideal) (ix2 s d)
/-- The sine of token `s`'s angle number `d`, for heads of 128. -/
def sinH (s : Fin 2048) (d : Fin 64) : EReal := HeadsIdeal.Read.val_main_v23 (F := Ideal) (ix2 s d)
/-- The cosine of token `s`'s angle number `d`, for heads of 64. -/
def cosD (s : Fin 2048) (d : Fin 32) : EReal := HeadsIdeal.Read.val_main_v46 (F := Ideal) (ix2 s d)
/-- The sine of token `s`'s angle number `d`, for heads of 64. -/
def sinD (s : Fin 2048) (d : Fin 32) : EReal := HeadsIdeal.Read.val_main_v47 (F := Ideal) (ix2 s d)

section Angles

open HeadsIdeal.Read

set_option maxHeartbeats 4000000 in
/-- The tokens' rows in the grid of 64 columns. -/
theorem V_v6 (s : Fin 2048) : (V m c main_v6 : S2048.Idx → EReal) (ix1 s) = (val_main_v2 (F := Ideal) (ix1 s) : EReal) := by
  unfold V
  after_reads_at
  unfold val_main_v2 val_main_v1 val_main_call0_v11 val_main_call0_v13 val_main_call0_v2 val_main_call0_v10
    val_main_call0_v6 val_main_call0_v12 val_main_call0_v1 val_main_v0 val_main_call0_v8 val_main_call0_v9
    val_main_call0_v3 val_main_call0_v5 val_main_call0_c_0 val_main_call0_v0 val_main_call0_v7 val_main_call0_c
    val_main_call0_v4 val_main_c
  pointwise
  rfl

set_option maxHeartbeats 4000000 in
/-- The tokens' columns. -/
theorem V_v8 (s : Fin 2048) : (V m c main_v8 : S2048.Idx → EReal) (ix1 s) = (val_main_v4 (F := Ideal) (ix1 s) : EReal) := by
  unfold V
  after_reads_at
  unfold val_main_v4 val_main_v3 val_main_call1_v12 val_main_call1_v14 val_main_call1_v4 val_main_call1_v11
    val_main_call1_v6 val_main_call1_v13 val_main_call1_v3 val_main_v0 val_main_call1_v10 val_main_call1_v8
    val_main_call1_v5 val_main_call1_v2 val_main_call1_v9 val_main_call1_v7 val_main_call1_c_1 val_main_call1_c_0
    val_main_call1_v0 val_main_call1_v1 val_main_call1_c_3 val_main_call1_c_2 val_main_c_0 val_main_call1_c
  pointwise
  rfl

set_option maxHeartbeats 4000000 in
/-- The frequencies, for heads of 128. -/
theorem V_v14 (d : Fin 32) : (V m c main_v14 : S32.Idx → EReal) (ix1 d) = (val_main_v10 (F := Ideal) (ix1 d) : EReal) := by
  unfold V
  after_reads_at
  unfold val_main_v10 val_main_v8 val_main_v9 val_main_v6 val_main_v7 val_main_cst_1 val_main_v5 val_main_cst
  pointwise

set_option maxHeartbeats 4000000 in
/-- The tokens' rows once more. -/
theorem V_v50 (s : Fin 2048) : (V m c main_v50 : S2048.Idx → EReal) (ix1 s) = (val_main_v26 (F := Ideal) (ix1 s) : EReal) := by
  unfold V
  after_reads_at
  unfold val_main_v26 val_main_v25 val_main_call2_v11 val_main_call2_v13 val_main_call2_v2 val_main_call2_v10
    val_main_call2_v6 val_main_call2_v12 val_main_call2_v1 val_main_v24 val_main_call2_v8 val_main_call2_v9
    val_main_call2_v3 val_main_call2_v5 val_main_call2_c_0 val_main_call2_v0 val_main_call2_v7 val_main_call2_c
    val_main_call2_v4 val_main_c_2
  pointwise
  rfl

set_option maxHeartbeats 4000000 in
/-- The tokens' columns once more. -/
theorem V_v52 (s : Fin 2048) : (V m c main_v52 : S2048.Idx → EReal) (ix1 s) = (val_main_v28 (F := Ideal) (ix1 s) : EReal) := by
  unfold V
  after_reads_at
  unfold val_main_v28 val_main_v27 val_main_call3_v12 val_main_call3_v14 val_main_call3_v4 val_main_call3_v11
    val_main_call3_v6 val_main_call3_v13 val_main_call3_v3 val_main_v24 val_main_call3_v10 val_main_call3_v8
    val_main_call3_v5 val_main_call3_v2 val_main_call3_v9 val_main_call3_v7 val_main_call3_c_1 val_main_call3_c_0
    val_main_call3_v0 val_main_call3_v1 val_main_call3_c_3 val_main_call3_c_2 val_main_c_3 val_main_call3_c
  pointwise
  rfl

set_option maxHeartbeats 4000000 in
/-- The frequencies, for heads of 64. -/
theorem V_v58 (d : Fin 16) : (V m c main_v58 : S16.Idx → EReal) (ix1 d) = (val_main_v34 (F := Ideal) (ix1 d) : EReal) := by
  unfold V
  after_reads_at
  unfold val_main_v34 val_main_v32 val_main_v33 val_main_v30 val_main_v31 val_main_cst_5 val_main_v29 val_main_cst_4
  pointwise

theorem cosH_eq (s : Fin 2048) (d : Fin 64) : (val_main_v22 (F := Ideal) (ix2 s d) : EReal)
    = Ideal.cos (if h : d.val < 32 then val_main_v2 (F := Ideal) (ix1 s) * val_main_v10 (F := Ideal) (ix1 ⟨d, h⟩)
        else val_main_v4 (F := Ideal) (ix1 s) * val_main_v10 (F := Ideal) (ix1 ⟨d - 32, by omega⟩)) := by
  unfold val_main_v22 val_main_v21 val_main_v15 val_main_v20 val_main_v13 val_main_v14 val_main_v18 val_main_v19
    val_main_v11 val_main_v12 val_main_v16 val_main_v17
  pointwise

theorem sinH_eq (s : Fin 2048) (d : Fin 64) : (val_main_v23 (F := Ideal) (ix2 s d) : EReal)
    = Ideal.sin (if h : d.val < 32 then val_main_v2 (F := Ideal) (ix1 s) * val_main_v10 (F := Ideal) (ix1 ⟨d, h⟩)
        else val_main_v4 (F := Ideal) (ix1 s) * val_main_v10 (F := Ideal) (ix1 ⟨d - 32, by omega⟩)) := by
  unfold val_main_v23 val_main_v21 val_main_v15 val_main_v20 val_main_v13 val_main_v14 val_main_v18 val_main_v19
    val_main_v11 val_main_v12 val_main_v16 val_main_v17
  pointwise

theorem cosD_eq (s : Fin 2048) (d : Fin 32) : (val_main_v46 (F := Ideal) (ix2 s d) : EReal)
    = Ideal.cos (if h : d.val < 16 then val_main_v26 (F := Ideal) (ix1 s) * val_main_v34 (F := Ideal) (ix1 ⟨d, h⟩)
        else val_main_v28 (F := Ideal) (ix1 s) * val_main_v34 (F := Ideal) (ix1 ⟨d - 16, by omega⟩)) := by
  unfold val_main_v46 val_main_v45 val_main_v39 val_main_v44 val_main_v37 val_main_v38 val_main_v42 val_main_v43
    val_main_v35 val_main_v36 val_main_v40 val_main_v41
  pointwise

theorem sinD_eq (s : Fin 2048) (d : Fin 32) : (val_main_v47 (F := Ideal) (ix2 s d) : EReal)
    = Ideal.sin (if h : d.val < 16 then val_main_v26 (F := Ideal) (ix1 s) * val_main_v34 (F := Ideal) (ix1 ⟨d, h⟩)
        else val_main_v28 (F := Ideal) (ix1 s) * val_main_v34 (F := Ideal) (ix1 ⟨d - 16, by omega⟩)) := by
  unfold val_main_v47 val_main_v45 val_main_v39 val_main_v44 val_main_v37 val_main_v38 val_main_v42 val_main_v43
    val_main_v35 val_main_v36 val_main_v40 val_main_v41
  pointwise

set_option maxHeartbeats 4000000 in
theorem V_v26 (s : Fin 2048) (d : Fin 64) : (V m c main_v26 : S2048x64.Idx → EReal) (ix2 s d) = cosH s d := by
  unfold cosH
  rw [cosH_eq]
  simp only [← V_v6 m c, ← V_v8 m c, ← V_v14 m c]
  unfold V
  after_reads_simp
  pointwise
  after_reads_at

set_option maxHeartbeats 4000000 in
theorem V_v29 (s : Fin 2048) (d : Fin 64) : (V m c main_v29 : S2048x64.Idx → EReal) (ix2 s d) = sinH s d := by
  unfold sinH
  rw [sinH_eq]
  simp only [← V_v6 m c, ← V_v8 m c, ← V_v14 m c]
  unfold V
  after_reads_simp
  pointwise
  after_reads_at

set_option maxHeartbeats 4000000 in
theorem V_v70 (s : Fin 2048) (d : Fin 32) : (V m c main_v70 : S2048x32.Idx → EReal) (ix2 s d) = cosD s d := by
  unfold cosD
  rw [cosD_eq]
  simp only [← V_v50 m c, ← V_v52 m c, ← V_v58 m c]
  unfold V
  after_reads_simp
  pointwise
  after_reads_at

set_option maxHeartbeats 4000000 in
theorem V_v73 (s : Fin 2048) (d : Fin 32) : (V m c main_v73 : S2048x32.Idx → EReal) (ix2 s d) = sinD s d := by
  unfold sinD
  rw [sinD_eq]
  simp only [← V_v50 m c, ← V_v52 m c, ← V_v58 m c]
  unfold V
  after_reads_simp
  pointwise
  after_reads_at

end Angles

set_option maxHeartbeats 4000000 in
/-- The even lanes of 128. -/
theorem V_v35 (d : Fin 128) : (V m c main_v35 : S128.Idx → BitVec 1) (ix1 d) = if d.val % 2 = 0 then 1#1 else 0#1 := by
  unfold V
  after_reads_at
  revert d
  decide

set_option maxHeartbeats 4000000 in
/-- The even lanes of 64. -/
theorem V_v79 (d : Fin 64) : (V m c main_v79 : S64.Idx → BitVec 1) (ix1 d) = if d.val % 2 = 0 then 1#1 else 0#1 := by
  unfold V
  after_reads_at
  revert d
  decide

theorem select_even_neg (d : ℕ) (a : EReal) :
    Scalar.select (if d % 2 = 0 then 1#1 else 0#1) (-a) 0 = if d % 2 = 0 then -a else 0 := by
  split <;> rfl

theorem select_even (d : ℕ) (a : EReal) :
    Scalar.select (if d % 2 = 0 then 1#1 else 0#1) 0 a = if d % 2 = 0 then 0 else a := by
  split <;> rfl

/-- The pair of a lane within its head of 64. -/
abbrev pair' (d : Fin 128) : Fin 32 := ⟨d.val % 64 / 2, by omega⟩

set_option maxHeartbeats 4000000 in
/-- Each pair's cosine on its two lanes. -/
theorem V_v41 (s : Fin 2048) (d : Fin 128) : (V m c main_v41 : S2048x128.Idx → EReal) (ix2 s d) = cosH s (pair d) := by
  rw [← V_v26 m c]
  unfold V
  after_reads_at

set_option maxHeartbeats 4000000 in
/-- Minus the sine on the even lanes. -/
theorem V_v44 (s : Fin 2048) (d : Fin 128) : (V m c main_v44 : S2048x128.Idx → EReal) (ix2 s d) = if d.val % 2 = 0 then -sinH s (pair d) else 0 := by
  rw [← select_even_neg, ← V_v35 m c, ← V_v29 m c]
  unfold V
  after_reads_at
  rw [show (id (constant (F := Ideal) S_ FTy.f32 0#32) ix0 : EReal) = 0 from Ideal.ofBits_zero_f32]

set_option maxHeartbeats 4000000 in
/-- The sine on the odd lanes. -/
theorem V_v47 (s : Fin 2048) (d : Fin 128) : (V m c main_v47 : S2048x128.Idx → EReal) (ix2 s d) = if d.val % 2 = 0 then 0 else sinH s (pair d) := by
  rw [← select_even, ← V_v35 m c, ← V_v29 m c]
  unfold V
  after_reads_at
  rw [show (id (constant (F := Ideal) S_ FTy.f32 0#32) ix0 : EReal) = 0 from Ideal.ofBits_zero_f32]

theorem par (d : Fin 128) : (⟨d.val % 64, Nat.mod_lt _ (by norm_num)⟩ : Fin 64).val % 2 = d.val % 2 := by
  show d.val % 64 % 2 = d.val % 2
  omega

set_option maxHeartbeats 4000000 in
/-- The same for heads of 64, over two heads: the cosines. -/
theorem V_v85 (s : Fin 2048) (d : Fin 128) : (V m c main_v85 : S2048x128.Idx → EReal) (ix2 s d) = cosD s (pair' d) := by
  rw [← V_v70 m c]
  unfold V
  after_reads_at

set_option maxHeartbeats 4000000 in
/-- Minus the sine on the even lanes. -/
theorem V_v88 (s : Fin 2048) (d : Fin 128) : (V m c main_v88 : S2048x128.Idx → EReal) (ix2 s d) = if d.val % 2 = 0 then -sinD s (pair' d) else 0 := by
  rw [← par d, ← select_even_neg, ← V_v79 m c ⟨d.val % 64, Nat.mod_lt _ (by norm_num)⟩, ← V_v73 m c]
  unfold V
  after_reads_at
  congr 1
  exact Ideal.ofBits_zero_f32

set_option maxHeartbeats 4000000 in
/-- The sine on the odd lanes. -/
theorem V_v91 (s : Fin 2048) (d : Fin 128) : (V m c main_v91 : S2048x128.Idx → EReal) (ix2 s d) = if d.val % 2 = 0 then 0 else sinD s (pair' d) := by
  rw [← par d, ← select_even, ← V_v79 m c ⟨d.val % 64, Nat.mod_lt _ (by norm_num)⟩, ← V_v73 m c]
  unfold V
  after_reads_at
  congr 1
  exact Ideal.ofBits_zero_f32

set_option maxHeartbeats 4000000 in
/-- The rope block's six tables side by side. -/
theorem V_v92 : V m c main_v92 = concatenate (α := EReal) S2048x768 1
    [⟨S2048x128, V m c main_v41⟩, ⟨S2048x128, V m c main_v44⟩, ⟨S2048x128, V m c main_v47⟩, ⟨S2048x128, V m c main_v85⟩,
      ⟨S2048x128, V m c main_v88⟩, ⟨S2048x128, V m c main_v91⟩]
    concatenates_S2048x128_S2048x128_S2048x128_S2048x128_S2048x128_S2048x128_S2048x768_d1 := by
  unfold V
  after_reads_simp [Matrix.cons_val_zero, Matrix.cons_val_one, Matrix.cons_val]
  rfl

/-- Six tables of 128 columns side by side. -/
abbrev six (T0 T1 T2 T3 T4 T5 : S2048x128.Idx → EReal) : S2048x768.Idx → EReal := concatenate (α := EReal) S2048x768 1
    [⟨S2048x128, T0⟩, ⟨S2048x128, T1⟩, ⟨S2048x128, T2⟩, ⟨S2048x128, T3⟩, ⟨S2048x128, T4⟩, ⟨S2048x128, T5⟩]
    concatenates_S2048x128_S2048x128_S2048x128_S2048x128_S2048x128_S2048x128_S2048x768_d1

section Six

variable (T0 T1 T2 T3 T4 T5 : S2048x128.Idx → EReal) (s : Fin 2048) (d : Fin 128)

theorem six_0 : six T0 T1 T2 T3 T4 T5 (ix2 s ⟨0 + d.val, by omega⟩) = T0 (ix2 s d) := by
  pointwise

theorem six_1 : six T0 T1 T2 T3 T4 T5 (ix2 s ⟨128 + d.val, by omega⟩) = T1 (ix2 s d) := by
  pointwise

theorem six_2 : six T0 T1 T2 T3 T4 T5 (ix2 s ⟨256 + d.val, by omega⟩) = T2 (ix2 s d) := by
  pointwise
  rw [dif_neg (by omega), dif_neg (by omega), dif_pos (by omega)]
  exact congrArg (fun k => T2 (ix2 s k)) (Fin.ext (by show 256 + d.val - 128 - 128 = d.val; omega))

theorem six_3 : six T0 T1 T2 T3 T4 T5 (ix2 s ⟨384 + d.val, by omega⟩) = T3 (ix2 s d) := by
  pointwise
  rw [dif_neg (by omega), dif_neg (by omega), dif_neg (by omega), dif_pos (by omega)]
  exact congrArg (fun k => T3 (ix2 s k)) (Fin.ext (by show 384 + d.val - 128 - 128 - 128 = d.val; omega))

theorem six_4 : six T0 T1 T2 T3 T4 T5 (ix2 s ⟨512 + d.val, by omega⟩) = T4 (ix2 s d) := by
  pointwise
  rw [dif_neg (by omega), dif_neg (by omega), dif_neg (by omega), dif_neg (by omega), dif_pos (by omega)]
  exact congrArg (fun k => T4 (ix2 s k)) (Fin.ext (by show 512 + d.val - 128 - 128 - 128 - 128 = d.val; omega))

theorem six_5 : six T0 T1 T2 T3 T4 T5 (ix2 s ⟨640 + d.val, by omega⟩) = T5 (ix2 s d) := by
  pointwise
  rw [dif_neg (by omega), dif_neg (by omega), dif_neg (by omega), dif_neg (by omega), dif_neg (by omega)]
  exact congrArg (fun k => T5 (ix2 s k)) (Fin.ext (by show 640 + d.val - 128 - 128 - 128 - 128 - 128 = d.val; omega))

end Six

theorem rope_a (s : Fin 2048) (d : Fin 128) :
    (V m c main_v92 : S2048x768.Idx → EReal) (ix2 s ⟨0 + d.val, by omega⟩) = V m c main_v41 (ix2 s d) := by
  rw [V_v92]
  exact six_0 _ _ _ _ _ _ s d

theorem rope_b (s : Fin 2048) (d : Fin 128) :
    (V m c main_v92 : S2048x768.Idx → EReal) (ix2 s ⟨128 + d.val, by omega⟩) = V m c main_v44 (ix2 s d) := by
  rw [V_v92]
  exact six_1 _ _ _ _ _ _ s d

theorem rope_c (s : Fin 2048) (d : Fin 128) :
    (V m c main_v92 : S2048x768.Idx → EReal) (ix2 s ⟨256 + d.val, by omega⟩) = V m c main_v47 (ix2 s d) := by
  rw [V_v92]
  exact six_2 _ _ _ _ _ _ s d

theorem rope_a' (s : Fin 2048) (d : Fin 128) :
    (V m c main_v92 : S2048x768.Idx → EReal) (ix2 s ⟨384 + d.val, by omega⟩) = V m c main_v85 (ix2 s d) := by
  rw [V_v92]
  exact six_3 _ _ _ _ _ _ s d

theorem rope_b' (s : Fin 2048) (d : Fin 128) :
    (V m c main_v92 : S2048x768.Idx → EReal) (ix2 s ⟨512 + d.val, by omega⟩) = V m c main_v88 (ix2 s d) := by
  rw [V_v92]
  exact six_4 _ _ _ _ _ _ s d

theorem rope_c' (s : Fin 2048) (d : Fin 128) :
    (V m c main_v92 : S2048x768.Idx → EReal) (ix2 s ⟨640 + d.val, by omega⟩) = V m c main_v91 (ix2 s d) := by
  rw [V_v92]
  exact six_5 _ _ _ _ _ _ s d

set_option maxHeartbeats 4000000 in
theorem V_v104_0 (d : Fin 128) : (V m c main_v104 : S2x8x128.Idx → EReal) (ix3 0 0 d) = m (c, Proc.tc.devRef main_arg4) (ix2 0 d) := by
  unfold V
  after_reads_simp [Matrix.cons_val_zero, Matrix.cons_val_one, Matrix.cons_val]
  simp -implicitDefEqProofs only [StableHlo.TRef.toBuf, StableHlo.TRef.ofBuf, cast_cast, cast_eq]
  pointwise

set_option maxHeartbeats 4000000 in
theorem V_v104_1 (d : Fin 128) : (V m c main_v104 : S2x8x128.Idx → EReal) (ix3 0 1 d) = m (c, Proc.tc.devRef main_arg5) (ix2 0 d) := by
  unfold V
  after_reads_simp [Matrix.cons_val_zero, Matrix.cons_val_one, Matrix.cons_val]
  simp -implicitDefEqProofs only [StableHlo.TRef.toBuf, StableHlo.TRef.ofBuf, cast_cast, cast_eq]
  pointwise

end Cert.ProjIdeal.Tables

end
-- ==== Proof.ProjHead.lean ====
/-
  The projection's result at one token and column, from the call's own arguments.
-/
module

public import proofs.«01_k».proof.Proof.ProjTables

@[expose] public section

noncomputable section

open Idealize.ShloMosaic
open scoped BigOperators

namespace Cert.ProjIdeal.Head

open Cert.ProjIdeal Cert.ProjIdeal.Tables Cert.ProjSpec

/-- The batch element among the modulation's rows. -/
abbrev bat' (b : Fin 8) : Fin 16 := ⟨b.val, by omega⟩

/-- The token's normalised and modulated row. -/
def row (x : S8x2048x2048.Idx → EReal) (md : S2x16x6x2048.Idx → EReal) (g : S2x2048.Idx → EReal) (b : Fin 8) (s : Fin 2048) :
    Fin 2048 → EReal :=
  PostSpec.modded (fun j => x (ix3 b s j)) (fun j => g (ix2 0 j)) (fun j => md (ix4 0 (bat' b) 1 j)) (fun j => md (ix4 0 (bat' b) 0 j))

/-- The cosines of token `s` over the two heads of 64 in 128 lanes. -/
def cosDD (s : Fin 2048) (j : Fin 64) : EReal := cosD s ⟨j.val % 32, Nat.mod_lt _ (by norm_num)⟩
/-- The sines of token `s` over the two heads of 64 in 128 lanes. -/
def sinDD (s : Fin 2048) (j : Fin 64) : EReal := sinD s ⟨j.val % 32, Nat.mod_lt _ (by norm_num)⟩

/-- The products of the token with the projection weight of the layer. -/
def prods (x : S8x2048x2048.Idx → EReal) (md : S2x16x6x2048.Idx → EReal) (g : S2x2048.Idx → EReal) (w : S2x2048x5120.Idx → EReal)
    (b : Fin 8) (s : Fin 2048) : Fin 5120 → EReal :=
  prod (row x md g b s) (fun l n => w (ix3 0 l n))

/-- THE RESULT at batch element `b`, position `s` and column `n`. -/
def headAt (x : S8x2048x2048.Idx → EReal) (md : S2x16x6x2048.Idx → EReal) (g : S2x2048.Idx → EReal) (w : S2x2048x5120.Idx → EReal)
    (gq gk : S2x128.Idx → EReal) (b : Fin 8) (s : Fin 2048) (n : Fin 5120) : EReal :=
  out (prods x md g w b s) (fun j => gq (ix2 0 j)) (fun j => gk (ix2 0 j)) (cosH s) (sinH s) (cosDD s) (sinDD s) n

end Cert.ProjIdeal.Head

end
-- ==== Proof.ProjBlocks.lean ====
/-
  The blocks each grid point of the projection call reads, as elements of the call's own arguments: point `t` works on
  512 tokens of batch element `t / 4`, and on a slice of each weight to be cast.
-/
module

public import proofs.«01_k».proof.Proof.ProjPieces
public import proofs.«01_k».proof.Proof.ProjTables
public import proofs.«01_k».proof.Proof.Gen.ProjIdeal.Value
public import Idealize.ShloMosaic.Lib.Claim

@[expose] public section

set_option maxRecDepth 16384

noncomputable section

open Idealize.ShloMosaic Idealize.ShloMosaic.TcCoe Idealize.SL.Sem
open scoped BigOperators

namespace Cert.ProjIdeal.Blocks

open Cert.ProjIdeal Cert.ProjIdeal.Gen Cert.ProjIdeal.Tables Cert.ProjIdeal.Tile Cert.ProjSpec

variable (m : (ℓ : Loc nD τ sig) → Buf (Elt Ideal) ℓ) (c : Dev nD)

theorem lt_N (t : Fin cfg0.N) : t.val < 32 := lt_of_lt_of_eq t.isLt N_0

/-- The batch element of a grid point's tokens. -/
abbrev bat (t : Fin cfg0.N) : Fin 8 := ⟨t.val / 4, by have := lt_N t; omega⟩
/-- The batch element among the modulation's rows. -/
abbrev bat' (b : Fin 8) : Fin 16 := ⟨b.val, by omega⟩
/-- Row `p` of a grid point's block, as a sequence position. -/
abbrev pos (t : Fin cfg0.N) (p : Fin 512) : Fin 2048 := ⟨t.val % 4 * 512 + p.val, by omega⟩

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = t.val / 4 * 6 ∧ (cfg0.win 1).index t 2 = 0 ∧ (cfg0.win 1).index t 3 = 0 := by
  decide +kernel
theorem idx2 : ∀ t : Fin cfg0.N, (cfg0.win 2).index t 0 = 0 ∧ (cfg0.win 2).index t 1 = t.val / 4 * 6 + 1 ∧ (cfg0.win 2).index t 2 = 0 ∧ (cfg0.win 2).index t 3 = 0 := by
  decide +kernel
theorem idx3 : ∀ t : Fin cfg0.N, (cfg0.win 3).index t 0 = 0 ∧ (cfg0.win 3).index t 1 = 0 ∧ (cfg0.win 3).index t 2 = 0 := by decide +kernel
theorem idx4 : ∀ t : Fin cfg0.N, (cfg0.win 4).index t 0 = 0 ∧ (cfg0.win 4).index t 1 = 0 ∧ (cfg0.win 4).index t 2 = 0 := by decide +kernel
theorem idx5 : ∀ t : Fin cfg0.N, (cfg0.win 5).index t 0 = t.val % 4 ∧ (cfg0.win 5).index t 1 = 0 := by decide +kernel
theorem idx6 : ∀ t : Fin cfg0.N, (cfg0.win 6).index t 0 = 0 ∧ (cfg0.win 6).index t 1 = 0 ∧ (cfg0.win 6).index t 2 = 0 := by decide +kernel
theorem idx7 : ∀ t : Fin cfg0.N, (cfg0.win 7).index t 0 = 0 ∧ (cfg0.win 7).index t 1 = t.val ∧ (cfg0.win 7).index t 2 = 0 := by decide +kernel
theorem idx8 : ∀ t : Fin cfg0.N, (cfg0.win 8).index t 0 = 0 ∧ (cfg0.win 8).index t 1 = t.val ∧ (cfg0.win 8).index t 2 = 0 := by decide +kernel
theorem idx9 : ∀ t : Fin cfg0.N, (cfg0.win 9).index t 0 = 0 ∧ (cfg0.win 9).index t 1 = t.val ∧ (cfg0.win 9).index t 2 = 0 := by decide +kernel
theorem idx10 : ∀ t : Fin cfg0.N, (cfg0.win 10).index t 0 = t.val ∧ (cfg0.win 10).index t 1 = 0 := by decide +kernel
theorem idx11 : ∀ t : Fin cfg0.N, (cfg0.win 11).index t 0 = t.val ∧ (cfg0.win 11).index t 1 = 0 := by decide +kernel
theorem idx12 : ∀ t : Fin cfg0.N, (cfg0.win 12).index t 0 = t.val ∧ (cfg0.win 12).index t 1 = 0 := by decide +kernel
theorem idx13 : ∀ t : Fin cfg0.N, (cfg0.win 13).index t 0 = t.val ∧ (cfg0.win 13).index t 1 = 0 := by decide +kernel

set_option maxHeartbeats 4000000 in
/-- The tokens as one list of rows. -/
theorem V_v0 : (V m c main_v0 : S16384x2048.Idx → EReal)
    = shapeCast S16384x2048 (m ((c : Thread nD τ).loc main_arg0) : S8x2048x2048.Idx → EReal) shapeCasts_S8x2048x2048_S16384x2048 := by
  unfold V
  after_reads_simp [Matrix.cons_val_zero, Matrix.cons_val_one, Matrix.cons_val]
  rfl

set_option maxHeartbeats 4000000 in
/-- The modulation rows as one list. -/
theorem V_v1 : (V m c main_v1 : S2x96x1x2048.Idx → EReal)
    = shapeCast S2x96x1x2048 (m ((c : Thread nD τ).loc main_arg1) : S2x16x6x2048.Idx → EReal) shapeCasts_S2x16x6x2048_S2x96x1x2048 := by
  unfold V
  after_reads_simp [Matrix.cons_val_zero, Matrix.cons_val_one, Matrix.cons_val]
  rfl

set_option maxHeartbeats 4000000 in
/-- The norm's gains. -/
theorem V_v2 : (V m c main_v2 : S2x1x2048.Idx → EReal)
    = shapeCast S2x1x2048 (m ((c : Thread nD τ).loc main_arg2) : S2x2048.Idx → EReal) shapeCasts_S2x2048_S2x1x2048 := by
  unfold V
  after_reads_simp [Matrix.cons_val_zero, Matrix.cons_val_one, Matrix.cons_val]
  rfl

/-- The tokens' block. -/
theorem iblk0_apply (t : Fin cfg0.N) (p : Fin 512) (j : Fin 2048) :
    (iblk m c 0 t : Vec Ideal S512x2048 .f32) (ix2 p j) = m ((c : Thread nD τ).loc main_arg0) (ix3 (bat t) (pos t p) j) := by
  have ht := lt_N t
  have e : (iblk m c 0 t : Vec Ideal S512x2048 .f32) (ix2 p j)
      = (V m c main_v0 : S16384x2048.Idx → EReal) (ix2 (⟨t.val * 512 + p.val, by omega⟩ : Fin 16384) j) := by
    blk_ext [iblk, idx0 t]
  rw [e, V_v0]
  exact shapeCast_apply _ _ _ (ix3 (bat t) (pos t p) j) (by
    rw [Shape.rowMajor_val_three, Shape.rowMajor_val_two]
    show (t.val / 4 * 2048 + (t.val % 4 * 512 + p.val)) * 2048 + j.val = (t.val * 512 + p.val) * 2048 + j.val
    omega)

/-- The shift. -/
theorem iblk1_apply (t : Fin cfg0.N) (j : Fin 2048) :
    (iblk m c 1 t : Vec Ideal S1x1x1x2048 .f32) (ix4 0 0 0 j) = m ((c : Thread nD τ).loc main_arg1) (ix4 0 (bat' (bat t)) 0 j) := by
  have ht := lt_N t
  have e : (iblk m c 1 t : Vec Ideal S1x1x1x2048 .f32) (ix4 0 0 0 j)
      = (V m c main_v1 : S2x96x1x2048.Idx → EReal) (ix4 0 (⟨t.val / 4 * 6, by omega⟩ : Fin 96) 0 j) := by
    blk_ext [iblk, idx1 t]
  rw [e, V_v1]
  exact shapeCast_apply _ _ _ (ix4 0 (bat' (bat t)) 0 j) (by
    rw [Shape.rowMajor_val_four, Shape.rowMajor_val_four]
    show ((0 * 16 + t.val / 4) * 6 + 0) * 2048 + j.val = ((0 * 96 + (t.val / 4 * 6)) * 1 + 0) * 2048 + j.val
    omega)

/-- The scale. -/
theorem iblk2_apply (t : Fin cfg0.N) (j : Fin 2048) :
    (iblk m c 2 t : Vec Ideal S1x1x1x2048 .f32) (ix4 0 0 0 j) = m ((c : Thread nD τ).loc main_arg1) (ix4 0 (bat' (bat t)) 1 j) := by
  have ht := lt_N t
  have e : (iblk m c 2 t : Vec Ideal S1x1x1x2048 .f32) (ix4 0 0 0 j)
      = (V m c main_v1 : S2x96x1x2048.Idx → EReal) (ix4 0 (⟨t.val / 4 * 6 + 1, by omega⟩ : Fin 96) 0 j) := by
    blk_ext [iblk, idx2 t]
  rw [e, V_v1]
  exact shapeCast_apply _ _ _ (ix4 0 (bat' (bat t)) 1 j) (by
    rw [Shape.rowMajor_val_four, Shape.rowMajor_val_four]
    show ((0 * 16 + t.val / 4) * 6 + 1) * 2048 + j.val = ((0 * 96 + (t.val / 4 * 6 + 1)) * 1 + 0) * 2048 + j.val
    omega)

/-- The norm's gain. -/
theorem iblk3_apply (t : Fin cfg0.N) (j : Fin 2048) :
    (iblk m c 3 t : Vec Ideal S1x1x2048 .f32) (ix3 0 0 j) = m ((c : Thread nD τ).loc main_arg2) (ix2 0 j) := by
  have ht := lt_N t
  have e : (iblk m c 3 t : Vec Ideal S1x1x2048 .f32) (ix3 0 0 j)
      = (V m c main_v2 : S2x1x2048.Idx → EReal) (ix3 0 0 j) := by
    blk_ext [iblk, idx3 t]
  rw [e, V_v2]
  pointwise

/-- The projection weight. -/
theorem iblk4_apply (t : Fin cfg0.N) (l : Fin 2048) (n : Fin 5120) :
    (iblk m c 4 t : Vec Ideal S1x2048x5120 .bf16) (ix3 0 l n) = m ((c : Thread nD τ).loc main_arg3) (ix3 0 l n) := by
  have ht := lt_N t
  blk_ext! [iblk, idx4 t]

/-- The rope block's rows are the tables' rows at the tokens' positions. -/
theorem iblk5_apply (t : Fin cfg0.N) (p : Fin 512) (k : Fin 768) :
    (iblk m c 5 t : Vec Ideal S512x768 .f32) (ix2 p k) = (V m c main_v92 : S2048x768.Idx → EReal) (ix2 (pos t p) k) := by
  have ht := lt_N t
  blk_ext [iblk, idx5 t]

/-- The gains' block. -/
theorem iblk6_apply (t : Fin cfg0.N) (r : Fin 8) (k : Fin 128) :
    (iblk m c 6 t : Vec Ideal S1x8x128 .f32) (ix3 0 r k) = (V m c main_v104 : S2x8x128.Idx → EReal) (ix3 0 r k) := by
  have ht := lt_N t
  blk_ext [iblk, idx6 t]

/-- The slices of the weights to be cast. -/
theorem iblk7_apply (t : Fin cfg0.N) (r : Fin 64) (j : Fin 2048) :
    (iblk m c 7 t : Vec Ideal S1x64x2048 .f32) (ix3 0 r j)
      = m ((c : Thread nD τ).loc main_arg6) (ix3 0 (⟨t.val * 64 + r.val, by have := lt_N t; omega⟩ : Fin 2048) j) := by
  have ht := lt_N t
  blk_ext! [iblk, idx7 t]

theorem iblk8_apply (t : Fin cfg0.N) (r : Fin 64) (j : Fin 8192) :
    (iblk m c 8 t : Vec Ideal S1x64x8192 .f32) (ix3 0 r j)
      = m ((c : Thread nD τ).loc main_arg7) (ix3 0 (⟨t.val * 64 + r.val, by have := lt_N t; omega⟩ : Fin 2048) j) := by
  have ht := lt_N t
  blk_ext! [iblk, idx8 t]

theorem iblk9_apply (t : Fin cfg0.N) (r : Fin 256) (j : Fin 2048) :
    (iblk m c 9 t : Vec Ideal S1x256x2048 .f32) (ix3 0 r j)
      = m ((c : Thread nD τ).loc main_arg8) (ix3 0 (⟨t.val * 256 + r.val, by have := lt_N t; omega⟩ : Fin 8192) j) := by
  have ht := lt_N t
  blk_ext! [iblk, idx9 t]

end Cert.ProjIdeal.Blocks

end
-- ==== Proof.ProjPoint.lean ====
/-
  The projection call's result arrays, element by element, from the call's own arguments: the projected heads, and the
  three weights cast.
-/
module

public import proofs.«01_k».proof.Proof.ProjPieces
public import proofs.«01_k».proof.Proof.ProjHead
public import proofs.«01_k».proof.Proof.ProjBlocks
public import proofs.«01_k».proof.Proof.Gen.ProjIdeal.Value
public import Idealize.ShloMosaic.Lib.Claim

@[expose] public section

set_option maxRecDepth 16384

noncomputable section

open Idealize.ShloMosaic Idealize.ShloMosaic.TcCoe Idealize.SL.Sem
open scoped BigOperators

namespace Cert.ProjIdeal.Point

open Cert.ProjIdeal Cert.ProjIdeal.Gen Cert.ProjIdeal.Tables Cert.ProjIdeal.Tile Cert.ProjIdeal.Head Cert.ProjSpec
open Cert.ProjIdeal.Blocks (lt_N bat pos idx10 idx11 idx12 idx13 iblk0_apply iblk1_apply iblk2_apply iblk3_apply iblk4_apply
  iblk5_apply iblk6_apply iblk7_apply iblk8_apply iblk9_apply)

variable (m : (ℓ : Loc nD τ sig) → Buf (Elt Ideal) ℓ) (c : Dev nD)

/-- A load of 128 columns of the rope block. -/
theorem ld_cols (x5 : Vec Ideal S512x768 .f32) (o : ℕ) (ho : o + 128 ≤ 768)
    (inb : ∀ a, (![0, o] : Fin 2 → ℕ) a + S512x128.size a ≤ S512x768.size a) (p : Fin 512) (d : Fin 128) :
    View.ld x5 (Rect.unit (s := S512x768) ![0, o] S512x128.size inb) (ix2 p d) = x5 (ix2 p ⟨o + d.val, by omega⟩) :=
  View.ld_unit_apply_of x5 _ _ _ _ (ix2 p ⟨o + d.val, by omega⟩) fun a => by
    match a with
    | ⟨0, _⟩ => exact (Nat.zero_add _).symm
    | ⟨1, _⟩ => rfl

theorem pair_eq (d : Fin 128) : pair' d = ⟨(pair d).val % 32, Nat.mod_lt _ (by norm_num)⟩ :=
  Fin.ext (by show d.val % 64 / 2 = d.val / 2 % 32; omega)

/-- A grid point's rope block holds its tokens' cosines and sines. -/
theorem tables (t : Fin cfg0.N) (p : Fin 512) :
    Tables (iblk m c 5 t) p (cosH (pos t p)) (sinH (pos t p)) (cosDD (pos t p)) (sinDD (pos t p)) where
  a d := (ld_cols _ 0 (by norm_num) _ p d).trans ((iblk5_apply m c t p _).trans ((rope_a m c _ d).trans (V_v41 m c _ d)))
  b d := (ld_cols _ 128 (by norm_num) _ p d).trans ((iblk5_apply m c t p _).trans ((rope_b m c _ d).trans (V_v44 m c _ d)))
  c d := (ld_cols _ 256 (by norm_num) _ p d).trans ((iblk5_apply m c t p _).trans ((rope_c m c _ d).trans (V_v47 m c _ d)))
  a' d := by
    refine (ld_cols _ 384 (by norm_num) _ p d).trans ((iblk5_apply m c t p _).trans ((rope_a' m c _ d).trans ((V_v85 m c _ d).trans ?_)))
    rw [pair_eq]
    rfl
  b' d := by
    refine (ld_cols _ 512 (by norm_num) _ p d).trans ((iblk5_apply m c t p _).trans ((rope_b' m c _ d).trans ((V_v88 m c _ d).trans ?_)))
    rw [pair_eq]
    rfl
  c' d := by
    refine (ld_cols _ 640 (by norm_num) _ p d).trans ((iblk5_apply m c t p _).trans ((rope_c' m c _ d).trans ((V_v91 m c _ d).trans ?_)))
    rw [pair_eq]
    rfl

/-- The modulated rows of a block, its operands loaded whole. -/
theorem rows (x0 : Vec Ideal S512x2048 .f32) (x1 x2 : Vec Ideal S1x1x1x2048 .f32) (x3 : Vec Ideal S1x1x2048 .f32) (x4 x5 x6 x7 x8 x9)
    (p : Fin 512) (l : Fin 2048) :
    k0_pay71 x0 x1 x2 x3 x4 x5 x6 x7 x8 x9 (ix2 p l)
      = PostSpec.modded (fun j => x0 (ix2 p j)) (fun j => x3 (ix3 0 0 j)) (fun j => x2 (ix4 0 0 0 j)) (fun j => x1 (ix4 0 0 0 j)) l := by
  refine (rows_apply (View.ld x0 r0_6) (View.ld x1 r0_8) (View.ld x2 r0_8) (View.ld x3 r0_7) p l).trans ?_
  have h0 : ∀ j, View.ld x0 r0_6 (ix2 p j) = x0 (ix2 p j) := fun j =>
    View.ld_unit_apply_of x0 _ _ _ _ (ix2 p j) fun a => by
      match a with
      | ⟨0, _⟩ => exact (Nat.zero_add _).symm
      | ⟨1, _⟩ => exact (Nat.zero_add _).symm
  have h3 : ∀ j, View.ld x3 r0_7 (ix3 0 0 j) = x3 (ix3 0 0 j) := fun j =>
    View.ld_unit_apply_of x3 _ _ _ _ (ix3 0 0 j) fun a => by
      match a with
      | ⟨0, _⟩ => rfl
      | ⟨1, _⟩ => rfl
      | ⟨2, _⟩ => exact (Nat.zero_add _).symm
  have h4 : ∀ (x : Vec Ideal S1x1x1x2048 .f32) j, View.ld x r0_8 (ix4 0 0 0 j) = x (ix4 0 0 0 j) := fun x j =>
    View.ld_unit_apply_of x _ _ _ _ (ix4 0 0 0 j) fun a => by
      match a with
      | ⟨0, _⟩ => rfl
      | ⟨1, _⟩ => rfl
      | ⟨2, _⟩ => rfl
      | ⟨3, _⟩ => exact (Nat.zero_add _).symm
  simp only [h0, h3]
  exact congrArg₂ (fun a b => PostSpec.modded _ _ a b l) (funext (h4 x2)) (funext (h4 x1))

/-- The result array as one function of the arguments. -/
def G10 : S16384x5120.Idx → EReal := fun i =>
  headAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(i 0).val / 2048, by have : (i 0).val < 16384 := (i 0).isLt; omega⟩ ⟨(i 0).val % 2048, Nat.mod_lt _ (by norm_num)⟩ (i 1)

/-- A grid point's block is its part of the projection. -/
theorem blk_eq (t : Fin cfg0.N) (p : Fin 512) (n : Fin 5120) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 p n)
      = headAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (bat t) (pos t p) n := by
  refine (out_apply _ _ _ _ _ _ _ _ _ _ p n _ _ _ _ (tables m c t p)).trans ?_
  have hy : yOf (k0_pay71 (iblk m c 0 t) (iblk m c 1 t) (iblk m c 2 t) (iblk m c 3 t) (iblk m c 4 t) (iblk m c 5 t) (iblk m c 6 t)
        (iblk m c 7 t) (iblk m c 8 t) (iblk m c 9 t)) (iblk m c 4 t) p
      = prods (m ((c : Thread nD τ).loc main_arg0)) (m ((c : Thread nD τ).loc main_arg1)) (m ((c : Thread nD τ).loc main_arg2))
          (m ((c : Thread nD τ).loc main_arg3)) (bat t) (pos t p) := by
    funext n
    unfold yOf prods
    refine congrArg (fun f => f n) (congrArg₂ prod (funext fun l => ?_) (funext fun l => funext fun n => iblk4_apply m c t l n))
    rw [rows]
    simp only [iblk0_apply, iblk1_apply, iblk2_apply, iblk3_apply]
    rfl
  have hq : gain (iblk m c 6 t) 0 = fun j => m ((c : Thread nD τ).loc main_arg4) (ix2 0 j) :=
    funext fun j => (iblk6_apply m c t 0 j).trans (V_v104_0 m c j)
  have hk : gain (iblk m c 6 t) 1 = fun j => m ((c : Thread nD τ).loc main_arg5) (ix2 0 j) :=
    funext fun j => (iblk6_apply m c t 1 j).trans (V_v104_1 m c j)
  unfold headAt
  rw [hy, hq, hk]

/-- The projection after the run. -/
theorem final10 : (dats m 0 c).arrAt 10 cfg0.N = G10 m c := by
  refine (dats m 0 c).arrAt_eq_of_covers 10 _ (by decide +kernel) fun t hf y => ?_
  blk_simp
  rw [after0_10]
  obtain ⟨p, n, rfl⟩ : ∃ (p : Fin 512) (n : Fin 5120), y = ix2 p n :=
    ⟨y 0, y 1, by funext i; match i with | ⟨0, _⟩ => rfl | ⟨1, _⟩ => rfl⟩
  have ht := lt_N t
  have e : (win0_10.blk t).view.emb (ix2 p n) = ix2 (⟨t.val * 512 + p.val, by omega⟩ : Fin 16384) n := by
    blk_ext! [idx10 t]
  rw [e]
  refine (blk_eq m c t p n).trans ?_
  unfold G10
  refine congrArg₂ (fun b s => headAt _ _ _ _ _ _ b s n) (Fin.ext ?_) (Fin.ext ?_)
  · show t.val / 4 = (t.val * 512 + p.val) / 2048
    omega
  · show t.val % 4 * 512 + p.val = (t.val * 512 + p.val) % 2048
    omega

/-- The output weight cast, as one function of the arguments. -/
def G11 : S2048x2048.Idx → EReal := fun i => (m ((c : Thread nD τ).loc main_arg6) : S2x2048x2048.Idx → EReal) (ix3 0 (i 0) (i 1))
/-- The up weight cast. -/
def G12 : S2048x8192.Idx → EReal := fun i => (m ((c : Thread nD τ).loc main_arg7) : S2x2048x8192.Idx → EReal) (ix3 0 (i 0) (i 1))
/-- The down weight cast. -/
def G13 : S8192x2048.Idx → EReal := fun i => (m ((c : Thread nD τ).loc main_arg8) : S2x8192x2048.Idx → EReal) (ix3 0 (i 0) (i 1))

theorem final11 : (dats m 0 c).arrAt 11 cfg0.N = G11 m c := by
  refine (dats m 0 c).arrAt_eq_of_covers 11 _ (by decide +kernel) fun t hf y => ?_
  blk_simp
  rw [after0_11]
  obtain ⟨p, n, rfl⟩ : ∃ (p : Fin 64) (n : Fin 2048), y = ix2 p n :=
    ⟨y 0, y 1, by funext i; match i with | ⟨0, _⟩ => rfl | ⟨1, _⟩ => rfl⟩
  have ht := lt_N t
  have e : (win0_11.blk t).view.emb (ix2 p n) = ix2 (⟨t.val * 64 + p.val, by omega⟩ : Fin 2048) n := by
    blk_ext! [idx11 t]
  rw [e]
  refine (Value.canon11_eq (View.ld (iblk m c 7 t) r0_0) (ix2 p n)).trans ?_
  refine (View.ld_unit_apply_of (iblk m c 7 t) _ _ _ _ (ix3 0 p n) fun a => ?_).trans (iblk7_apply m c t p n)
  match a with
  | ⟨0, _⟩ => rfl
  | ⟨1, _⟩ => exact (Nat.zero_add _).symm
  | ⟨2, _⟩ => exact (Nat.zero_add _).symm

theorem final12 : (dats m 0 c).arrAt 12 cfg0.N = G12 m c := by
  refine (dats m 0 c).arrAt_eq_of_covers 12 _ (by decide +kernel) fun t hf y => ?_
  blk_simp
  rw [after0_12]
  obtain ⟨p, n, rfl⟩ : ∃ (p : Fin 64) (n : Fin 8192), y = ix2 p n :=
    ⟨y 0, y 1, by funext i; match i with | ⟨0, _⟩ => rfl | ⟨1, _⟩ => rfl⟩
  have ht := lt_N t
  have e : (win0_12.blk t).view.emb (ix2 p n) = ix2 (⟨t.val * 64 + p.val, by omega⟩ : Fin 2048) n := by
    blk_ext! [idx12 t]
  rw [e]
  refine (Value.canon12_eq (View.ld (iblk m c 8 t) r0_2) (ix2 p n)).trans ?_
  refine (View.ld_unit_apply_of (iblk m c 8 t) _ _ _ _ (ix3 0 p n) fun a => ?_).trans (iblk8_apply m c t p n)
  match a with
  | ⟨0, _⟩ => rfl
  | ⟨1, _⟩ => exact (Nat.zero_add _).symm
  | ⟨2, _⟩ => exact (Nat.zero_add _).symm

theorem final13 : (dats m 0 c).arrAt 13 cfg0.N = G13 m c := by
  refine (dats m 0 c).arrAt_eq_of_covers 13 _ (by decide +kernel) fun t hf y => ?_
  blk_simp
  rw [after0_13]
  obtain ⟨p, n, rfl⟩ : ∃ (p : Fin 256) (n : Fin 2048), y = ix2 p n :=
    ⟨y 0, y 1, by funext i; match i with | ⟨0, _⟩ => rfl | ⟨1, _⟩ => rfl⟩
  have ht := lt_N t
  have e : (win0_13.blk t).view.emb (ix2 p n) = ix2 (⟨t.val * 256 + p.val, by omega⟩ : Fin 8192) n := by
    blk_ext! [idx13 t]
  rw [e]
  refine (Value.canon13_eq (View.ld (iblk m c 9 t) r0_4) (ix2 p n)).trans ?_
  refine (View.ld_unit_apply_of (iblk m c 9 t) _ _ _ _ (ix3 0 p n) fun a => ?_).trans (iblk9_apply m c t p n)
  match a with
  | ⟨0, _⟩ => rfl
  | ⟨1, _⟩ => exact (Nat.zero_add _).symm
  | ⟨2, _⟩ => exact (Nat.zero_add _).symm

end Cert.ProjIdeal.Point

end
-- ==== Proof.HeadsRef.lean ====
/-
  The reference of the projection claim, read at an element of its result: the projected heads of one token.
-/
module

public import proofs.«01_k».proof.Proof.ProjHead
public import proofs.«01_k».proof.Proof.Gen.HeadsIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.HeadsIdeal.Tokens

open Cert.HeadsIdeal Cert.HeadsIdeal.Gen Cert.HeadsIdeal.Read Cert.ProjSpec
open Cert.ProjIdeal.Head (bat' row prods headAt cosDD sinDD)
open Cert.ProjIdeal.Tables (cosH sinH cosD sinD)

variable (x0 : Vec Ideal S8x2048x2048 .f32) (x1 : Vec Ideal S2x16x6x2048 .f32) (x2 : Vec Ideal S2x2048 .f32)
  (x3 : Vec Ideal S2x2048x5120 .f32) (x4 x5 : Vec Ideal S2x128 .f32)

/-- The modulation rows of the latent batch elements. -/
theorem v50_apply (b : Fin 8) (k : Fin 6) (j : Fin 2048) :
    val_main_v50 (F := Ideal) x1 (ix4 b k 0 j) = x1 (ix4 0 (bat' b) k j) := by
  unfold val_main_v50 val_main_v49 val_main_v48
  pointwise

/-- The gain of the norm. -/
theorem v52_apply (j : Fin 2048) : val_main_v52 (F := Ideal) x2 (ix1 j) = x2 (ix2 0 j) := by
  unfold val_main_v52 val_main_v51
  pointwise

/-- The reciprocal root mean square of a token. -/
theorem v60_apply (b : Fin 8) (s : Fin 2048) :
    val_main_v60 (F := Ideal) x0 (ix3 b s 0) = PostSpec.inv (fun j => x0 (ix3 b s j)) := by
  unfold val_main_v60 val_main_v59 val_main_v58 val_main_v57 val_main_v56 val_main_v55 val_main_v54 val_main_v53
    val_main_cst_8 val_main_cst_7 val_main_cst_6
  pointwise
  rfl

/-- The token's normalised and modulated row. -/
theorem v75_apply (b : Fin 8) (s j : Fin 2048) :
    val_main_v75 (F := Ideal) x0 x1 x2 (ix3 b s j) = row x0 x1 x2 b s j := by
  unfold val_main_v75 val_main_v74 val_main_v73 val_main_v72 val_main_v71 val_main_v70 val_main_v69 val_main_v68 val_main_v67 val_main_v66
    val_main_v65 val_main_v64 val_main_v63 val_main_v62 val_main_v61 val_main_cst_9
  pointwise [v50_apply, v52_apply, v60_apply]
  rfl

/-- The projection. -/
theorem v78_apply (b : Fin 8) (s : Fin 2048) (n : Fin 5120) :
    val_main_v78 (F := Ideal) x0 x1 x2 x3 (ix3 b s n) = prods x0 x1 x2 x3 b s n := by
  unfold val_main_v78 val_main_v77 val_main_v76
  pointwise [v75_apply]
  rfl

/-- Rotated pairs of 128 lanes, as the programs write them: the first and the second of each pair. -/
theorem rot_pairs (v : Fin 128 → EReal) (C S : Fin 64 → EReal) (d : Fin 128) :
    (if _ : d.val % 2 < 1 then v ⟨d.val / 2 * 2, by omega⟩ * C ⟨d.val / 2, by omega⟩ - v ⟨d.val / 2 * 2 + 1, by omega⟩ * S ⟨d.val / 2, by omega⟩
      else v ⟨d.val / 2 * 2, by omega⟩ * S ⟨d.val / 2, by omega⟩ + v ⟨d.val / 2 * 2 + 1, by omega⟩ * C ⟨d.val / 2, by omega⟩) = rot v C S d := by
  unfold rot
  by_cases h : d.val % 2 = 0
  · rw [dif_pos (by omega), if_pos h]
    rw [show (⟨d.val / 2 * 2, by omega⟩ : Fin 128) = d from Fin.ext (by show d.val / 2 * 2 = d.val; omega),
      show (⟨d.val / 2 * 2 + 1, by omega⟩ : Fin 128) = next d from Fin.ext (by show d.val / 2 * 2 + 1 = (d.val + 1) % 128; omega)]
  · rw [dif_neg (by omega), if_neg h]
    rw [show (⟨d.val / 2 * 2, by omega⟩ : Fin 128) = prev d from Fin.ext (by show d.val / 2 * 2 = (d.val + 127) % 128; omega),
      show (⟨d.val / 2 * 2 + 1, by omega⟩ : Fin 128) = d from Fin.ext (by show d.val / 2 * 2 + 1 = d.val; omega)]

/-- Rotated pairs of 64 lanes, within the 128 lanes of two heads. -/
theorem rot_pairs64 (v : Fin 64 → EReal) (w : Fin 128 → EReal) (s : Fin 2048) (d : Fin 64) (e : Fin 128) (he : e.val % 64 = d.val)
    (hv : ∀ (x : Fin 64) (y : Fin 128), y.val = e.val / 64 * 64 + x.val → v x = w y) :
    (if _ : d.val % 2 < 1 then
        v ⟨d.val / 2 * 2, by omega⟩ * cosD s ⟨d.val / 2, by omega⟩ - v ⟨d.val / 2 * 2 + 1, by omega⟩ * sinD s ⟨d.val / 2, by omega⟩
      else v ⟨d.val / 2 * 2, by omega⟩ * sinD s ⟨d.val / 2, by omega⟩ + v ⟨d.val / 2 * 2 + 1, by omega⟩ * cosD s ⟨d.val / 2, by omega⟩)
      = rot w (cosDD s) (sinDD s) e := by
  rw [← rot_pairs]
  have e1 : v ⟨d.val / 2 * 2, by omega⟩ = w ⟨e.val / 2 * 2, by omega⟩ := hv _ _ (by show e.val / 2 * 2 = e.val / 64 * 64 + d.val / 2 * 2; omega)
  have e2 : v ⟨d.val / 2 * 2 + 1, by omega⟩ = w ⟨e.val / 2 * 2 + 1, by omega⟩ :=
    hv _ _ (by show e.val / 2 * 2 + 1 = e.val / 64 * 64 + (d.val / 2 * 2 + 1); omega)
  have e3 : (⟨d.val / 2, by omega⟩ : Fin 32) = ⟨e.val / 2 % 32, Nat.mod_lt _ (by norm_num)⟩ := Fin.ext (by show d.val / 2 = e.val / 2 % 32; omega)
  have ec : cosD s ⟨d.val / 2, by omega⟩ = cosDD s ⟨e.val / 2, by omega⟩ := congrArg (cosD s) e3
  have es : sinD s ⟨d.val / 2, by omega⟩ = sinDD s ⟨e.val / 2, by omega⟩ := congrArg (sinD s) e3
  by_cases h : d.val % 2 < 1
  · rw [dif_pos h, dif_pos (by omega)]
    exact congrArg₂ (· - ·) (congrArg₂ (· * ·) e1 ec) (congrArg₂ (· * ·) e2 es)
  · rw [dif_neg h, dif_neg (by omega)]
    exact congrArg₂ (· + ·) (congrArg₂ (· * ·) e1 es) (congrArg₂ (· * ·) e2 ec)

/-- Four queries of heads of 128 rotated. -/
theorem v138_apply (b : Fin 8) (s : Fin 2048) (h : Fin 4) (d : Fin 128) :
    val_main_v138 (F := Ideal) x0 x1 x2 x3 x4 (ix4 b s h d)
      = rot (fun d => val_main_v117 (F := Ideal) x0 x1 x2 x3 x4 (ix4 b s h d)) (cosH s) (sinH s) d := by
  unfold val_main_v138 val_main_v137 val_main_v136 val_main_v135 val_main_v134 val_main_v133 val_main_v132 val_main_v131
    val_main_v130 val_main_v129 val_main_v128 val_main_v127 val_main_v126 val_main_v125 val_main_v124 val_main_v123 val_main_v122
    val_main_v121 val_main_v120 val_main_v119 val_main_v118
  pointwise
  exact rot_pairs (fun d => val_main_v117 (F := Ideal) x0 x1 x2 x3 x4 (ix4 b s h d)) (cosH s) (sinH s) d

/-- Two keys of heads of 128 rotated. -/
theorem v174_apply (b : Fin 8) (s : Fin 2048) (h : Fin 2) (d : Fin 128) :
    val_main_v174 (F := Ideal) x0 x1 x2 x3 x5 (ix4 b s h d)
      = rot (fun d => val_main_v153 (F := Ideal) x0 x1 x2 x3 x5 (ix4 b s h d)) (cosH s) (sinH s) d := by
  unfold val_main_v174 val_main_v173 val_main_v172 val_main_v171 val_main_v170 val_main_v169 val_main_v168 val_main_v167
    val_main_v166 val_main_v165 val_main_v164 val_main_v163 val_main_v162 val_main_v161 val_main_v160 val_main_v159 val_main_v158
    val_main_v157 val_main_v156 val_main_v155 val_main_v154
  pointwise
  exact rot_pairs (fun d => val_main_v153 (F := Ideal) x0 x1 x2 x3 x5 (ix4 b s h d)) (cosH s) (sinH s) d

/-- Four queries of heads of 128 rotated. -/
theorem v237_apply (b : Fin 8) (s : Fin 2048) (h : Fin 4) (d : Fin 128) :
    val_main_v237 (F := Ideal) x0 x1 x2 x3 (ix4 b s h d)
      = rot (fun d => val_main_v98 (F := Ideal) x0 x1 x2 x3 (ix4 b s h d)) (cosH s) (sinH s) d := by
  unfold val_main_v237 val_main_v236 val_main_v235 val_main_v234 val_main_v233 val_main_v232 val_main_v231 val_main_v230
    val_main_v229 val_main_v228 val_main_v227 val_main_v226 val_main_v225 val_main_v224 val_main_v223 val_main_v222 val_main_v221
    val_main_v220 val_main_v219 val_main_v218 val_main_v217
  pointwise
  exact rot_pairs (fun d => val_main_v98 (F := Ideal) x0 x1 x2 x3 (ix4 b s h d)) (cosH s) (sinH s) d

/-- Two keys of heads of 128 rotated. -/
theorem v258_apply (b : Fin 8) (s : Fin 2048) (h : Fin 2) (d : Fin 128) :
    val_main_v258 (F := Ideal) x0 x1 x2 x3 (ix4 b s h d)
      = rot (fun d => val_main_v100 (F := Ideal) x0 x1 x2 x3 (ix4 b s h d)) (cosH s) (sinH s) d := by
  unfold val_main_v258 val_main_v257 val_main_v256 val_main_v255 val_main_v254 val_main_v253 val_main_v252 val_main_v251
    val_main_v250 val_main_v249 val_main_v248 val_main_v247 val_main_v246 val_main_v245 val_main_v244 val_main_v243 val_main_v242
    val_main_v241 val_main_v240 val_main_v239 val_main_v238
  pointwise
  exact rot_pairs (fun d => val_main_v100 (F := Ideal) x0 x1 x2 x3 (ix4 b s h d)) (cosH s) (sinH s) d

/-- Eight heads of 64 rotated, within the lanes of pairs of heads. -/
theorem v195_apply (b : Fin 8) (s : Fin 2048) (h : Fin 8) (d : Fin 64) (w : Fin 128 → EReal) (e : Fin 128) (he : e.val % 64 = d.val)
    (hw : ∀ (x : Fin 64) (y : Fin 128), y.val = e.val / 64 * 64 + x.val → val_main_v92 (F := Ideal) x0 x1 x2 x3 (ix4 b s h x) = w y) :
    val_main_v195 (F := Ideal) x0 x1 x2 x3 (ix4 b s h d) = rot w (cosDD s) (sinDD s) e := by
  unfold val_main_v195 val_main_v194 val_main_v193 val_main_v192 val_main_v191 val_main_v190 val_main_v189 val_main_v188
    val_main_v187 val_main_v186 val_main_v185 val_main_v184 val_main_v183 val_main_v182 val_main_v181 val_main_v180 val_main_v179
    val_main_v178 val_main_v177 val_main_v176 val_main_v175
  pointwise
  exact rot_pairs64 (fun d => val_main_v92 (F := Ideal) x0 x1 x2 x3 (ix4 b s h d)) w s d e he hw

/-- Eight heads of 64 rotated, within the lanes of pairs of heads. -/
theorem v216_apply (b : Fin 8) (s : Fin 2048) (h : Fin 8) (d : Fin 64) (w : Fin 128 → EReal) (e : Fin 128) (he : e.val % 64 = d.val)
    (hw : ∀ (x : Fin 64) (y : Fin 128), y.val = e.val / 64 * 64 + x.val → val_main_v94 (F := Ideal) x0 x1 x2 x3 (ix4 b s h x) = w y) :
    val_main_v216 (F := Ideal) x0 x1 x2 x3 (ix4 b s h d) = rot w (cosDD s) (sinDD s) e := by
  unfold val_main_v216 val_main_v215 val_main_v214 val_main_v213 val_main_v212 val_main_v211 val_main_v210 val_main_v209
    val_main_v208 val_main_v207 val_main_v206 val_main_v205 val_main_v204 val_main_v203 val_main_v202 val_main_v201 val_main_v200
    val_main_v199 val_main_v198 val_main_v197 val_main_v196
  pointwise
  exact rot_pairs64 (fun d => val_main_v94 (F := Ideal) x0 x1 x2 x3 (ix4 b s h d)) w s d e he hw

theorem v80_apply (b : Fin 8) (s : Fin 2048) (h : Fin 4) (d : Fin 128) (n : Fin 5120) (hn : n.val = 0 + h.val * 128 + d.val) :
    val_main_v80 (F := Ideal) x0 x1 x2 x3 (ix4 b s h d) = prods x0 x1 x2 x3 b s n := by
  unfold val_main_v80 val_main_v79
  pointwise [v78_apply]
  refine congrArg _ (Fin.ext ?_)
  dsimp only
  omega

theorem v82_apply (b : Fin 8) (s : Fin 2048) (h : Fin 2) (d : Fin 128) (n : Fin 5120) (hn : n.val = 512 + h.val * 128 + d.val) :
    val_main_v82 (F := Ideal) x0 x1 x2 x3 (ix4 b s h d) = prods x0 x1 x2 x3 b s n := by
  unfold val_main_v82 val_main_v81
  pointwise [v78_apply]
  refine congrArg _ (Fin.ext ?_)
  dsimp only
  omega

theorem v84_apply (b : Fin 8) (s : Fin 2048) (h : Fin 2) (d : Fin 128) (n : Fin 5120) (hn : n.val = 768 + h.val * 128 + d.val) :
    val_main_v84 (F := Ideal) x0 x1 x2 x3 (ix4 b s h d) = prods x0 x1 x2 x3 b s n := by
  unfold val_main_v84 val_main_v83
  pointwise [v78_apply]
  refine congrArg _ (Fin.ext ?_)
  dsimp only
  omega

theorem v86_apply (b : Fin 8) (s : Fin 2048) (h : Fin 4) (d : Fin 128) (n : Fin 5120) (hn : n.val = 1024 + h.val * 128 + d.val) :
    val_main_v86 (F := Ideal) x0 x1 x2 x3 (ix4 b s h d) = prods x0 x1 x2 x3 b s n := by
  unfold val_main_v86 val_main_v85
  pointwise [v78_apply]
  refine congrArg _ (Fin.ext ?_)
  dsimp only
  omega

theorem v88_apply (b : Fin 8) (s : Fin 2048) (h : Fin 4) (d : Fin 128) (n : Fin 5120) (hn : n.val = 1536 + h.val * 128 + d.val) :
    val_main_v88 (F := Ideal) x0 x1 x2 x3 (ix4 b s h d) = prods x0 x1 x2 x3 b s n := by
  unfold val_main_v88 val_main_v87
  pointwise [v78_apply]
  refine congrArg _ (Fin.ext ?_)
  dsimp only
  omega

theorem v90_apply (b : Fin 8) (s : Fin 2048) (h : Fin 4) (d : Fin 128) (n : Fin 5120) (hn : n.val = 2048 + h.val * 128 + d.val) :
    val_main_v90 (F := Ideal) x0 x1 x2 x3 (ix4 b s h d) = prods x0 x1 x2 x3 b s n := by
  unfold val_main_v90 val_main_v89
  pointwise [v78_apply]
  refine congrArg _ (Fin.ext ?_)
  dsimp only
  omega

theorem v92_apply (b : Fin 8) (s : Fin 2048) (h : Fin 8) (d : Fin 64) (n : Fin 5120) (hn : n.val = 2560 + h.val * 64 + d.val) :
    val_main_v92 (F := Ideal) x0 x1 x2 x3 (ix4 b s h d) = prods x0 x1 x2 x3 b s n := by
  unfold val_main_v92 val_main_v91
  pointwise [v78_apply]
  refine congrArg _ (Fin.ext ?_)
  dsimp only
  omega

theorem v94_apply (b : Fin 8) (s : Fin 2048) (h : Fin 8) (d : Fin 64) (n : Fin 5120) (hn : n.val = 3072 + h.val * 64 + d.val) :
    val_main_v94 (F := Ideal) x0 x1 x2 x3 (ix4 b s h d) = prods x0 x1 x2 x3 b s n := by
  unfold val_main_v94 val_main_v93
  pointwise [v78_apply]
  refine congrArg _ (Fin.ext ?_)
  dsimp only
  omega

theorem v96_apply (b : Fin 8) (s : Fin 2048) (h : Fin 4) (d : Fin 128) (n : Fin 5120) (hn : n.val = 3584 + h.val * 128 + d.val) :
    val_main_v96 (F := Ideal) x0 x1 x2 x3 (ix4 b s h d) = prods x0 x1 x2 x3 b s n := by
  unfold val_main_v96 val_main_v95
  pointwise [v78_apply]
  refine congrArg _ (Fin.ext ?_)
  dsimp only
  omega

theorem v98_apply (b : Fin 8) (s : Fin 2048) (h : Fin 4) (d : Fin 128) (n : Fin 5120) (hn : n.val = 4096 + h.val * 128 + d.val) :
    val_main_v98 (F := Ideal) x0 x1 x2 x3 (ix4 b s h d) = prods x0 x1 x2 x3 b s n := by
  unfold val_main_v98 val_main_v97
  pointwise [v78_apply]
  refine congrArg _ (Fin.ext ?_)
  dsimp only
  omega

theorem v100_apply (b : Fin 8) (s : Fin 2048) (h : Fin 2) (d : Fin 128) (n : Fin 5120) (hn : n.val = 4608 + h.val * 128 + d.val) :
    val_main_v100 (F := Ideal) x0 x1 x2 x3 (ix4 b s h d) = prods x0 x1 x2 x3 b s n := by
  unfold val_main_v100 val_main_v99
  pointwise [v78_apply]
  refine congrArg _ (Fin.ext ?_)
  dsimp only
  omega

theorem v102_apply (b : Fin 8) (s : Fin 2048) (h : Fin 2) (d : Fin 128) (n : Fin 5120) (hn : n.val = 4864 + h.val * 128 + d.val) :
    val_main_v102 (F := Ideal) x0 x1 x2 x3 (ix4 b s h d) = prods x0 x1 x2 x3 b s n := by
  unfold val_main_v102 val_main_v101
  pointwise [v78_apply]
  refine congrArg _ (Fin.ext ?_)
  dsimp only
  omega

/-- Heads normalised and scaled by the gain. -/
theorem v117_apply (b : Fin 8) (s : Fin 2048) (h : Fin 4) (d : Fin 128) :
    val_main_v117 (F := Ideal) x0 x1 x2 x3 x4 (ix4 b s h d)
      = rms (fun d => val_main_v80 (F := Ideal) x0 x1 x2 x3 (ix4 b s h d)) (fun j => x4 (ix2 0 j)) d := by
  unfold val_main_v117 val_main_v116 val_main_v115 val_main_v114 val_main_v113 val_main_v112 val_main_v111 val_main_v110
    val_main_v109 val_main_v108 val_main_v107 val_main_v106 val_main_v105 val_main_v104 val_main_v103 val_main_cst_12
    val_main_cst_11 val_main_cst_10
  pointwise
  rfl

/-- Heads normalised and scaled by the gain. -/
theorem v153_apply (b : Fin 8) (s : Fin 2048) (h : Fin 2) (d : Fin 128) :
    val_main_v153 (F := Ideal) x0 x1 x2 x3 x5 (ix4 b s h d)
      = rms (fun d => val_main_v82 (F := Ideal) x0 x1 x2 x3 (ix4 b s h d)) (fun j => x5 (ix2 0 j)) d := by
  unfold val_main_v153 val_main_v152 val_main_v151 val_main_v150 val_main_v149 val_main_v148 val_main_v147 val_main_v146
    val_main_v145 val_main_v144 val_main_v143 val_main_v142 val_main_v141 val_main_v140 val_main_v139 val_main_cst_15
    val_main_cst_14 val_main_cst_13
  pointwise
  rfl

section Parts

variable (b : Fin 8) (s : Fin 2048) (n : Fin 5120)

/-- The place of a column within a part of 512 or 256 columns: its head of 128 there. -/
theorem head_eq {H : ℕ} (Y : Fin 5120 → EReal) (base : ℕ) (u : Fin H → Fin 128 → EReal)
    (hu : ∀ h d (n : Fin 5120), n.val = base + h.val * 128 + d.val → u h d = Y n) (hb : base % 128 = 0)
    (h : Fin H) (n : Fin 5120) (hn : n.val / 128 = base / 128 + h.val) : u h = head Y n :=
  funext fun d => hu h d _ (by show n.val / 128 * 128 + d.val = base + h.val * 128 + d.val; omega)

/-- The queries of the first attention. -/
theorem v267_apply (j : Fin 512) (hn : n.val = 0 + j.val) :
    val_main_v267 (F := Ideal) x0 x1 x2 x3 x4 (ix3 b s j) = headAt x0 x1 x2 x3 x4 x5 b s n := by
  unfold headAt val_main_v267 val_main_v260 val_main_v259 val_main_cst_16
  rw [out_q _ _ _ _ _ _ _ n (by omega)]
  pointwise
  have hj : (⟨j.val % 128, Nat.mod_lt _ (by norm_num)⟩ : Fin 128) = lane n := Fin.ext (by show j.val % 128 = n.val % 128; omega)
  have hv := head_eq (H := 4) (prods x0 x1 x2 x3 b s) 0 (fun h d => val_main_v80 (F := Ideal) x0 x1 x2 x3 (ix4 b s h d))
    (fun h d n hn => v80_apply x0 x1 x2 x3 b s h d n hn) (by norm_num) ⟨j.val / 128, by omega⟩ n
    (by show n.val / 128 = _ + j.val / 128; omega)
  rw [v138_apply]
  rw [funext (v117_apply x0 x1 x2 x3 x4 b s ⟨j.val / 128, by omega⟩), hv, hj]
  rfl

/-- Its keys. -/
theorem v268_apply (j : Fin 256) (hn : n.val = 512 + j.val) :
    val_main_v268 (F := Ideal) x0 x1 x2 x3 x5 (ix3 b s j) = headAt x0 x1 x2 x3 x4 x5 b s n := by
  unfold headAt val_main_v268
  rw [out_k _ _ _ _ _ _ _ n (by omega) (by omega)]
  pointwise
  have hj : (⟨j.val % 128, Nat.mod_lt _ (by norm_num)⟩ : Fin 128) = lane n := Fin.ext (by show j.val % 128 = n.val % 128; omega)
  have hv := head_eq (H := 2) (prods x0 x1 x2 x3 b s) 512 (fun h d => val_main_v82 (F := Ideal) x0 x1 x2 x3 (ix4 b s h d))
    (fun h d n hn => v82_apply x0 x1 x2 x3 b s h d n hn) (by norm_num) ⟨j.val / 128, by omega⟩ n
    (by show n.val / 128 = _ + j.val / 128; omega)
  rw [v174_apply]
  rw [funext (v153_apply x0 x1 x2 x3 x5 b s ⟨j.val / 128, by omega⟩), hv, hj]

/-- Its values. -/
theorem v269_apply (j : Fin 256) (hn : n.val = 768 + j.val) :
    val_main_v269 (F := Ideal) x0 x1 x2 x3 (ix3 b s j) = headAt x0 x1 x2 x3 x4 x5 b s n := by
  unfold headAt val_main_v269
  rw [out_v _ _ _ _ _ _ _ n (by omega)]
  pointwise
  exact v84_apply x0 x1 x2 x3 b s _ _ n (by show n.val = 768 + j.val / 128 * 128 + j.val % 128; omega)

/-- The queries of the second attention. -/
theorem v270_apply (j : Fin 512) (hn : n.val = 1024 + j.val) :
    val_main_v270 (F := Ideal) x0 x1 x2 x3 (ix3 b s j) = headAt x0 x1 x2 x3 x4 x5 b s n := by
  unfold headAt val_main_v270 val_main_v262 val_main_v261 val_main_cst_17
  rw [out_s _ _ _ _ _ _ _ n (by omega) (by omega)]
  pointwise
  exact congrArg (· * scaleH) (v86_apply x0 x1 x2 x3 b s _ _ n (by show n.val = 1024 + j.val / 128 * 128 + j.val % 128; omega))

/-- Its keys. -/
theorem v271_apply (j : Fin 512) (hn : n.val = 1536 + j.val) :
    val_main_v271 (F := Ideal) x0 x1 x2 x3 (ix3 b s j) = headAt x0 x1 x2 x3 x4 x5 b s n := by
  unfold headAt val_main_v271
  rw [out_v _ _ _ _ _ _ _ n (by omega)]
  pointwise
  exact v88_apply x0 x1 x2 x3 b s _ _ n (by show n.val = 1536 + j.val / 128 * 128 + j.val % 128; omega)

/-- Its values. -/
theorem v272_apply (j : Fin 512) (hn : n.val = 2048 + j.val) :
    val_main_v272 (F := Ideal) x0 x1 x2 x3 (ix3 b s j) = headAt x0 x1 x2 x3 x4 x5 b s n := by
  unfold headAt val_main_v272
  rw [out_v _ _ _ _ _ _ _ n (by omega)]
  pointwise
  exact v90_apply x0 x1 x2 x3 b s _ _ n (by show n.val = 2048 + j.val / 128 * 128 + j.val % 128; omega)

/-- The queries of the third attention. -/
theorem v273_apply (j : Fin 512) (hn : n.val = 2560 + j.val) :
    val_main_v273 (F := Ideal) x0 x1 x2 x3 (ix3 b s j) = headAt x0 x1 x2 x3 x4 x5 b s n := by
  unfold headAt val_main_v273 val_main_v264 val_main_v263 val_main_cst_18
  rw [out_dq _ _ _ _ _ _ _ n (by omega) (by omega)]
  pointwise
  refine congrArg (· * scaleD) (v195_apply x0 x1 x2 x3 b s _ _ (head (prods x0 x1 x2 x3 b s) n) (lane n)
    (by show n.val % 128 % 64 = j.val % 64; omega) fun x y hy => v92_apply x0 x1 x2 x3 b s _ x _ ?_)
  have hy' : y.val = n.val % 128 / 64 * 64 + x.val := hy
  show n.val / 128 * 128 + y.val = 2560 + j.val / 64 * 64 + x.val
  omega

/-- Its keys. -/
theorem v274_apply (j : Fin 512) (hn : n.val = 3072 + j.val) :
    val_main_v274 (F := Ideal) x0 x1 x2 x3 (ix3 b s j) = headAt x0 x1 x2 x3 x4 x5 b s n := by
  unfold headAt val_main_v274
  rw [out_dk _ _ _ _ _ _ _ n (by omega) (by omega)]
  pointwise
  refine (v216_apply x0 x1 x2 x3 b s _ _ (head (prods x0 x1 x2 x3 b s) n) (lane n)
    (by show n.val % 128 % 64 = j.val % 64; omega) fun x y hy => v94_apply x0 x1 x2 x3 b s _ x _ ?_)
  have hy' : y.val = n.val % 128 / 64 * 64 + x.val := hy
  show n.val / 128 * 128 + y.val = 3072 + j.val / 64 * 64 + x.val
  omega

/-- Its values. -/
theorem v275_apply (j : Fin 512) (hn : n.val = 3584 + j.val) :
    val_main_v275 (F := Ideal) x0 x1 x2 x3 (ix3 b s j) = headAt x0 x1 x2 x3 x4 x5 b s n := by
  unfold headAt val_main_v275
  rw [out_v _ _ _ _ _ _ _ n (by omega)]
  pointwise
  exact v96_apply x0 x1 x2 x3 b s _ _ n (by show n.val = 3584 + j.val / 128 * 128 + j.val % 128; omega)

/-- The queries of the fourth attention. -/
theorem v276_apply (j : Fin 512) (hn : n.val = 4096 + j.val) :
    val_main_v276 (F := Ideal) x0 x1 x2 x3 (ix3 b s j) = headAt x0 x1 x2 x3 x4 x5 b s n := by
  unfold headAt val_main_v276 val_main_v266 val_main_v265 val_main_cst_19
  rw [out_rq _ _ _ _ _ _ _ n (by omega) (by omega)]
  pointwise
  have hj : (⟨j.val % 128, Nat.mod_lt _ (by norm_num)⟩ : Fin 128) = lane n := Fin.ext (by show j.val % 128 = n.val % 128; omega)
  have hv := head_eq (H := 4) (prods x0 x1 x2 x3 b s) 4096 (fun h d => val_main_v98 (F := Ideal) x0 x1 x2 x3 (ix4 b s h d))
    (fun h d n hn => v98_apply x0 x1 x2 x3 b s h d n hn) (by norm_num) ⟨j.val / 128, by omega⟩ n
    (by show n.val / 128 = _ + j.val / 128; omega)
  rw [v237_apply]
  rw [hv, hj]
  rfl

/-- Its keys. -/
theorem v277_apply (j : Fin 256) (hn : n.val = 4608 + j.val) :
    val_main_v277 (F := Ideal) x0 x1 x2 x3 (ix3 b s j) = headAt x0 x1 x2 x3 x4 x5 b s n := by
  unfold headAt val_main_v277
  rw [out_rk _ _ _ _ _ _ _ n (by omega) (by omega)]
  pointwise
  have hj : (⟨j.val % 128, Nat.mod_lt _ (by norm_num)⟩ : Fin 128) = lane n := Fin.ext (by show j.val % 128 = n.val % 128; omega)
  have hv := head_eq (H := 2) (prods x0 x1 x2 x3 b s) 4608 (fun h d => val_main_v100 (F := Ideal) x0 x1 x2 x3 (ix4 b s h d))
    (fun h d n hn => v100_apply x0 x1 x2 x3 b s h d n hn) (by norm_num) ⟨j.val / 128, by omega⟩ n
    (by show n.val / 128 = _ + j.val / 128; omega)
  rw [v258_apply]
  rw [hv, hj]

/-- Its values. -/
theorem v278_apply (j : Fin 256) (hn : n.val = 4864 + j.val) :
    val_main_v278 (F := Ideal) x0 x1 x2 x3 (ix3 b s j) = headAt x0 x1 x2 x3 x4 x5 b s n := by
  unfold headAt val_main_v278
  rw [out_v _ _ _ _ _ _ _ n (by omega)]
  pointwise
  exact v102_apply x0 x1 x2 x3 b s _ _ n (by show n.val = 4864 + j.val / 128 * 128 + j.val % 128; omega)

end Parts

end Cert.HeadsIdeal.Tokens

end
-- ==== Proof.HeadsJoin.lean ====
/-
  The parts of the reference's heads side by side, and the casts of the three weights it also returns.
-/
module

public import proofs.«01_k».proof.Proof.HeadsRef
public import proofs.«01_k».proof.Proof.Gen.HeadsIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.HeadsIdeal.Tokens

open Cert.HeadsIdeal Cert.HeadsIdeal.Gen Cert.HeadsIdeal.Read Cert.ProjSpec
open Cert.ProjIdeal.Head (headAt)

variable (x0 : Vec Ideal S8x2048x2048 .f32) (x1 : Vec Ideal S2x16x6x2048 .f32) (x2 : Vec Ideal S2x2048 .f32)
  (x3 : Vec Ideal S2x2048x5120 .f32) (x4 x5 : Vec Ideal S2x128 .f32)

section Parts

variable (b : Fin 8) (s : Fin 2048) (n : Fin 5120)

/-- Arrays side by side along the columns, read at a column of piece `k`. -/
theorem piece_at (xs : List ((s : Shape) × (s.Idx → EReal))) (h : Shape.Concatenates (xs.map (·.1)) S8x2048x5120 2)
    (k base w : Nat) (hk : k < xs.length) (x : (⟨3, ![8, 2048, w]⟩ : Shape).Idx → EReal) (hx : xs[k] = ⟨(⟨3, ![8, 2048, w]⟩ : Shape), x⟩)
    (hpre : (((xs.take k).map (·.1)).map fun s => if h : s.rank = S8x2048x5120.rank then s.size ((2 : Fin S8x2048x5120.rank).cast h.symm) else 0).sum = base)
    (b : Fin 8) (s : Fin 2048) (n : Fin 5120) (j : Fin w) (hj : n.val = base + j.val) :
    concatenate S8x2048x5120 2 xs h (ix3 b s n) = x (ix3 b s j) :=
  concatenate_apply_piece 2 xs h (ix3 b s n) k hk (⟨3, ![8, 2048, w]⟩ : Shape) x hx rfl base hpre (ix3 b s j)
    (fun c hc => by
      match c, hc with
      | ⟨0, _⟩, _ => rfl
      | ⟨1, _⟩, _ => rfl
      | ⟨2, _⟩, hc => exact absurd rfl hc)
    hj.symm

set_option maxHeartbeats 4000000 in
/-- Twelve parts side by side: each has the value at its own columns, so has the whole. -/
theorem twelve (T0 T3 T4 T5 T6 T7 T8 T9 : S8x2048x512.Idx → EReal) (T1 T2 T10 T11 : S8x2048x256.Idx → EReal) (v : EReal)
    (e0 : ∀ j : Fin 512, n.val = 0 + j.val → T0 (ix3 b s j) = v)
    (e1 : ∀ j : Fin 256, n.val = 512 + j.val → T1 (ix3 b s j) = v)
    (e2 : ∀ j : Fin 256, n.val = 768 + j.val → T2 (ix3 b s j) = v)
    (e3 : ∀ j : Fin 512, n.val = 1024 + j.val → T3 (ix3 b s j) = v)
    (e4 : ∀ j : Fin 512, n.val = 1536 + j.val → T4 (ix3 b s j) = v)
    (e5 : ∀ j : Fin 512, n.val = 2048 + j.val → T5 (ix3 b s j) = v)
    (e6 : ∀ j : Fin 512, n.val = 2560 + j.val → T6 (ix3 b s j) = v)
    (e7 : ∀ j : Fin 512, n.val = 3072 + j.val → T7 (ix3 b s j) = v)
    (e8 : ∀ j : Fin 512, n.val = 3584 + j.val → T8 (ix3 b s j) = v)
    (e9 : ∀ j : Fin 512, n.val = 4096 + j.val → T9 (ix3 b s j) = v)
    (e10 : ∀ j : Fin 256, n.val = 4608 + j.val → T10 (ix3 b s j) = v)
    (e11 : ∀ j : Fin 256, n.val = 4864 + j.val → T11 (ix3 b s j) = v)
    (h : Shape.Concatenates [S8x2048x512, S8x2048x256, S8x2048x256, S8x2048x512, S8x2048x512, S8x2048x512, S8x2048x512, S8x2048x512, S8x2048x512, S8x2048x512, S8x2048x256, S8x2048x256] S8x2048x5120 2) :
    concatenate (α := EReal) S8x2048x5120 2 [⟨S8x2048x512, T0⟩, ⟨S8x2048x256, T1⟩, ⟨S8x2048x256, T2⟩, ⟨S8x2048x512, T3⟩, ⟨S8x2048x512, T4⟩, ⟨S8x2048x512, T5⟩, ⟨S8x2048x512, T6⟩, ⟨S8x2048x512, T7⟩, ⟨S8x2048x512, T8⟩, ⟨S8x2048x512, T9⟩, ⟨S8x2048x256, T10⟩, ⟨S8x2048x256, T11⟩] h (ix3 b s n) = v := by
  have hn : n.val < 5120 := n.isLt
  by_cases h0 : n.val < 512
  · exact (piece_at _ _ 0 0 512 (by show 0 < 12; norm_num) T0 rfl rfl b s n ⟨n.val - 0, by omega⟩ (by dsimp only; omega)).trans (e0 _ (by dsimp only; omega))
  by_cases h1 : n.val < 768
  · exact (piece_at _ _ 1 512 256 (by show 1 < 12; norm_num) T1 rfl rfl b s n ⟨n.val - 512, by omega⟩ (by dsimp only; omega)).trans (e1 _ (by dsimp only; omega))
  by_cases h2 : n.val < 1024
  · exact (piece_at _ _ 2 768 256 (by show 2 < 12; norm_num) T2 rfl rfl b s n ⟨n.val - 768, by omega⟩ (by dsimp only; omega)).trans (e2 _ (by dsimp only; omega))
  by_cases h3 : n.val < 1536
  · exact (piece_at _ _ 3 1024 512 (by show 3 < 12; norm_num) T3 rfl rfl b s n ⟨n.val - 1024, by omega⟩ (by dsimp only; omega)).trans (e3 _ (by dsimp only; omega))
  by_cases h4 : n.val < 2048
  · exact (piece_at _ _ 4 1536 512 (by show 4 < 12; norm_num) T4 rfl rfl b s n ⟨n.val - 1536, by omega⟩ (by dsimp only; omega)).trans (e4 _ (by dsimp only; omega))
  by_cases h5 : n.val < 2560
  · exact (piece_at _ _ 5 2048 512 (by show 5 < 12; norm_num) T5 rfl rfl b s n ⟨n.val - 2048, by omega⟩ (by dsimp only; omega)).trans (e5 _ (by dsimp only; omega))
  by_cases h6 : n.val < 3072
  · exact (piece_at _ _ 6 2560 512 (by show 6 < 12; norm_num) T6 rfl rfl b s n ⟨n.val - 2560, by omega⟩ (by dsimp only; omega)).trans (e6 _ (by dsimp only; omega))
  by_cases h7 : n.val < 3584
  · exact (piece_at _ _ 7 3072 512 (by show 7 < 12; norm_num) T7 rfl rfl b s n ⟨n.val - 3072, by omega⟩ (by dsimp only; omega)).trans (e7 _ (by dsimp only; omega))
  by_cases h8 : n.val < 4096
  · exact (piece_at _ _ 8 3584 512 (by show 8 < 12; norm_num) T8 rfl rfl b s n ⟨n.val - 3584, by omega⟩ (by dsimp only; omega)).trans (e8 _ (by dsimp only; omega))
  by_cases h9 : n.val < 4608
  · exact (piece_at _ _ 9 4096 512 (by show 9 < 12; norm_num) T9 rfl rfl b s n ⟨n.val - 4096, by omega⟩ (by dsimp only; omega)).trans (e9 _ (by dsimp only; omega))
  by_cases h10 : n.val < 4864
  · exact (piece_at _ _ 10 4608 256 (by show 10 < 12; norm_num) T10 rfl rfl b s n ⟨n.val - 4608, by omega⟩ (by dsimp only; omega)).trans (e10 _ (by dsimp only; omega))
  exact (piece_at _ _ 11 4864 256 (by show 11 < 12; norm_num) T11 rfl rfl b s n ⟨n.val - 4864, by omega⟩ (by dsimp only; omega)).trans (e11 _ (by dsimp only; omega))

/-- The parts side by side. -/
theorem v279_apply : val_main_v279 (F := Ideal) x0 x1 x2 x3 x4 x5 (ix3 b s n) = headAt x0 x1 x2 x3 x4 x5 b s n := by
  unfold val_main_v279
  exact twelve b s n _ _ _ _ _ _ _ _ _ _ _ _ _
    (fun j hn => v267_apply x0 x1 x2 x3 x4 x5 b s n j hn)
    (fun j hn => v268_apply x0 x1 x2 x3 x4 x5 b s n j hn)
    (fun j hn => v269_apply x0 x1 x2 x3 x4 x5 b s n j hn)
    (fun j hn => v270_apply x0 x1 x2 x3 x4 x5 b s n j hn)
    (fun j hn => v271_apply x0 x1 x2 x3 x4 x5 b s n j hn)
    (fun j hn => v272_apply x0 x1 x2 x3 x4 x5 b s n j hn)
    (fun j hn => v273_apply x0 x1 x2 x3 x4 x5 b s n j hn)
    (fun j hn => v274_apply x0 x1 x2 x3 x4 x5 b s n j hn)
    (fun j hn => v275_apply x0 x1 x2 x3 x4 x5 b s n j hn)
    (fun j hn => v276_apply x0 x1 x2 x3 x4 x5 b s n j hn)
    (fun j hn => v277_apply x0 x1 x2 x3 x4 x5 b s n j hn)
    (fun j hn => v278_apply x0 x1 x2 x3 x4 x5 b s n j hn)
    _

end Parts

/-- THE REFERENCE'S HEADS at token `r` and column `n`. -/
theorem v281_apply (r : Fin 16384) (n : Fin 5120) :
    val_main_v281 (F := Ideal) x0 x1 x2 x3 x4 x5 (ix2 r n)
      = headAt x0 x1 x2 x3 x4 x5 ⟨r.val / 2048, by omega⟩ ⟨r.val % 2048, Nat.mod_lt _ (by norm_num)⟩ n := by
  unfold val_main_v281 val_main_v280
  pointwise [v279_apply]

/-- The output weight cast. -/
theorem v284_apply (x6 : Vec Ideal S2x2048x2048 .f32) (i : Fin 2048) (j : Fin 2048) :
    val_main_v284 (F := Ideal) x6 (ix2 i j) = x6 (ix3 0 i j) := by
  unfold val_main_v284 val_main_v283 val_main_v282
  pointwise

/-- The up weight cast. -/
theorem v287_apply (x7 : Vec Ideal S2x2048x8192 .f32) (i : Fin 2048) (j : Fin 8192) :
    val_main_v287 (F := Ideal) x7 (ix2 i j) = x7 (ix3 0 i j) := by
  unfold val_main_v287 val_main_v286 val_main_v285
  pointwise

/-- The down weight cast. -/
theorem v290_apply (x8 : Vec Ideal S2x8192x2048 .f32) (i : Fin 8192) (j : Fin 2048) :
    val_main_v290 (F := Ideal) x8 (ix2 i j) = x8 (ix3 0 i j) := by
  unfold val_main_v290 val_main_v289 val_main_v288
  pointwise

end Cert.HeadsIdeal.Tokens

end
-- ==== Proof.ProjClaim.lean ====
/-
  The value claim of the projection call: over the extended reals its four result arrays are the reference's.
-/
module

public import proofs.«01_k».proof.Defs
public import proofs.«01_k».proof.Proof.ProjPoint
public import proofs.«01_k».proof.Proof.HeadsJoin
public import proofs.«01_k».proof.Proof.Gen.ProjIdeal.Value
public import proofs.«01_k».proof.Proof.Gen.HeadsIdeal.Run

@[expose] public section

set_option maxRecDepth 16384

noncomputable section

open Idealize.ShloMosaic Idealize.ShloMosaic.TcCoe Idealize.SL.Sem

namespace Cert.ProjClaim

open HeadsIdeal.Read

section Results

variable (m : (ℓ : Loc ProjIdeal.nD ProjIdeal.τ ProjIdeal.sig) → Buf (Elt Ideal) ℓ)
  (m' : (ℓ : Loc HeadsIdeal.nD HeadsIdeal.τ HeadsIdeal.sig) → Buf (Elt Ideal) ℓ) (c : Dev ProjIdeal.nD)

/-- The projected heads agree whenever the arguments do. -/
theorem heads_eq
    (e0 : m' ((c.tc : Thread HeadsIdeal.nD HeadsIdeal.τ).loc HeadsIdeal.main_arg0) = m ((c.tc : Thread ProjIdeal.nD ProjIdeal.τ).loc ProjIdeal.main_arg0))
    (e1 : m' ((c.tc : Thread HeadsIdeal.nD HeadsIdeal.τ).loc HeadsIdeal.main_arg1) = m ((c.tc : Thread ProjIdeal.nD ProjIdeal.τ).loc ProjIdeal.main_arg1))
    (e2 : m' ((c.tc : Thread HeadsIdeal.nD HeadsIdeal.τ).loc HeadsIdeal.main_arg2) = m ((c.tc : Thread ProjIdeal.nD ProjIdeal.τ).loc ProjIdeal.main_arg2))
    (e3 : m' ((c.tc : Thread HeadsIdeal.nD HeadsIdeal.τ).loc HeadsIdeal.main_arg3) = m ((c.tc : Thread ProjIdeal.nD ProjIdeal.τ).loc ProjIdeal.main_arg3))
    (e4 : m' ((c.tc : Thread HeadsIdeal.nD HeadsIdeal.τ).loc HeadsIdeal.main_arg4) = m ((c.tc : Thread ProjIdeal.nD ProjIdeal.τ).loc ProjIdeal.main_arg4))
    (e5 : m' ((c.tc : Thread HeadsIdeal.nD HeadsIdeal.τ).loc HeadsIdeal.main_arg5) = m ((c.tc : Thread ProjIdeal.nD ProjIdeal.τ).loc ProjIdeal.main_arg5)) :
    val_main_v281 (F := Ideal) (m' ((c.tc : Thread HeadsIdeal.nD HeadsIdeal.τ).loc HeadsIdeal.main_arg0)) (m' ((c.tc : Thread HeadsIdeal.nD HeadsIdeal.τ).loc HeadsIdeal.main_arg1)) (m' ((c.tc : Thread HeadsIdeal.nD HeadsIdeal.τ).loc HeadsIdeal.main_arg2)) (m' ((c.tc : Thread HeadsIdeal.nD HeadsIdeal.τ).loc HeadsIdeal.main_arg3)) (m' ((c.tc : Thread HeadsIdeal.nD HeadsIdeal.τ).loc HeadsIdeal.main_arg4)) (m' ((c.tc : Thread HeadsIdeal.nD HeadsIdeal.τ).loc HeadsIdeal.main_arg5))
      = ProjIdeal.Point.G10 m c := by
  rw [e0, e1, e2, e3, e4, e5]
  funext i
  idx_vars i
  rw [HeadsIdeal.Tokens.v281_apply]
  rfl

/-- The output weights agree. -/
theorem out_eq (e : m' ((c.tc : Thread HeadsIdeal.nD HeadsIdeal.τ).loc HeadsIdeal.main_arg6) = m ((c.tc : Thread ProjIdeal.nD ProjIdeal.τ).loc ProjIdeal.main_arg6)) :
    val_main_v284 (F := Ideal) (m' ((c.tc : Thread HeadsIdeal.nD HeadsIdeal.τ).loc HeadsIdeal.main_arg6)) = ProjIdeal.Point.G11 m c := by
  rw [e]
  funext i
  idx_vars i
  rw [HeadsIdeal.Tokens.v284_apply]
  rfl

/-- The up weights agree. -/
theorem up_eq (e : m' ((c.tc : Thread HeadsIdeal.nD HeadsIdeal.τ).loc HeadsIdeal.main_arg7) = m ((c.tc : Thread ProjIdeal.nD ProjIdeal.τ).loc ProjIdeal.main_arg7)) :
    val_main_v287 (F := Ideal) (m' ((c.tc : Thread HeadsIdeal.nD HeadsIdeal.τ).loc HeadsIdeal.main_arg7)) = ProjIdeal.Point.G12 m c := by
  rw [e]
  funext i
  idx_vars i
  rw [HeadsIdeal.Tokens.v287_apply]
  rfl

/-- The down weights agree. -/
theorem down_eq (e : m' ((c.tc : Thread HeadsIdeal.nD HeadsIdeal.τ).loc HeadsIdeal.main_arg8) = m ((c.tc : Thread ProjIdeal.nD ProjIdeal.τ).loc ProjIdeal.main_arg8)) :
    val_main_v290 (F := Ideal) (m' ((c.tc : Thread HeadsIdeal.nD HeadsIdeal.τ).loc HeadsIdeal.main_arg8)) = ProjIdeal.Point.G13 m c := by
  rw [e]
  funext i
  idx_vars i
  rw [HeadsIdeal.Tokens.v290_apply]
  rfl

end Results

/-- THE CLAIM: the idealized call and the idealized reference agree, and neither changes its arguments. -/
theorem algebraic : Cert.algebraic_ProjIdeal_HeadsIdeal (hProjIdeal := Cert.ProjIdeal.Gen.facts)
    (hHeadsIdeal := Cert.HeadsIdeal.Gen.facts) := by
  intro m g m' g' _ hag
  refine ⟨fun c => ProjIdeal.Point.G10 m c, fun c => ProjIdeal.Point.G11 m c, fun c => ProjIdeal.Point.G12 m c, fun c => ProjIdeal.Point.G13 m c,
    (θ_run _ _ _).mono (fun r h c => ?_) (ProjIdeal.Value.run_blocks m g), (θ_run _ _ _).mono (fun r h c => ?_) (HeadsIdeal.Value.run m' g')⟩
  · obtain ⟨h0, h1, h2, h3, hk⟩ := h c
    exact ⟨h0.trans (ProjIdeal.Point.final10 m c), h1.trans (ProjIdeal.Point.final11 m c), h2.trans (ProjIdeal.Point.final12 m c),
      h3.trans (ProjIdeal.Point.final13 m c), hk⟩
  · obtain ⟨h0, h1, h2, h3, hk⟩ := h c
    obtain ⟨e0, e1, e2, e3, e4, e5, e6, e7, e8⟩ := hag c
    exact ⟨h0.trans ((val_main_v281_eq _).trans (heads_eq m m' c e0 e1 e2 e3 e4 e5)), h1.trans ((val_main_v284_eq _).trans (out_eq m m' c e6)),
      h2.trans ((val_main_v287_eq _).trans (up_eq m m' c e7)), h3.trans ((val_main_v290_eq _).trans (down_eq m m' c e8)), hk⟩

end Cert.ProjClaim

end
-- ==== Proof.Band.lean ====
/-
  The band `|i - j| ≤ 128` of a sliding window, as 32-bit words compute it.
-/
module
public import Idealize.ShloMosaic.PureOps.Ideal
@[expose] public section
noncomputable section
open Idealize.ShloMosaic
namespace Cert.Band

/-- The signed 32-bit reading of a small integer. -/
theorem toInt_ofInt_small (z : ℤ) (h1 : -4096 ≤ z) (h2 : z ≤ 4096) : (BitVec.ofInt 32 z).toInt = z := by
  rw [BitVec.toInt_ofInt]
  exact Int.bmod_eq_of_le (by norm_num; omega) (by norm_num; omega)

/-- `|z| ≤ 128` as the 32-bit comparison computes it. -/
theorem abs_le_bit (z : ℤ) (h1 : -2048 ≤ z) (h2 : z ≤ 2048) :
    IntOp.cmpi .sle (IntOp.absi (BitVec.ofInt 32 z)) 128#32 = 1#1 ↔ -128 ≤ z ∧ z ≤ 128 := by
  have hb : IntOp.absi (BitVec.ofInt 32 z) = BitVec.ofInt 32 |z| := by
    unfold IntOp.absi
    rw [BitVec.msb_eq_toInt, toInt_ofInt_small z (by omega) (by omega)]
    by_cases hz : z < 0
    · rw [if_pos (by simpa using hz), ← BitVec.ofInt_neg, abs_of_neg hz]
    · rw [if_neg (by simpa using hz), abs_of_nonneg (by omega)]
  have ha1 : |z| ≤ 2048 := abs_le.mpr ⟨by omega, h2⟩
  have ha0 : 0 ≤ |z| := abs_nonneg z
  rw [hb, ← abs_le]
  show BitVec.ofBool ((BitVec.ofInt 32 |z|).sle 128#32) = 1#1 ↔ _
  have : (BitVec.ofInt 32 |z|).sle 128#32 = decide (|z| ≤ 128) := by
    rw [BitVec.sle_eq_decide, toInt_ofInt_small _ (by omega) (by omega)]
    rfl
  rw [this]
  by_cases h : |z| ≤ 128 <;> simp [h]

/-- The kernel's mask bit of row `a` and window column `c`, at offset `off`. -/
theorem mask_bit (a c off : ℕ) (ha : a < 512) (hc : c < 512) (ho : off ≤ 256) :
    IntOp.cmpi .sle (IntOp.absi (IntOp.addi (IntOp.subi (IntOp.andi (BitVec.ofNat 32 a) 255#32) (BitVec.ofNat 32 c))
        (BitVec.ofNat 32 off))) 128#32 = 1#1 ↔ c ≤ a % 256 + off + 128 ∧ a % 256 + off ≤ c + 128 := by
  have e : IntOp.addi (IntOp.subi (IntOp.andi (BitVec.ofNat 32 a) 255#32) (BitVec.ofNat 32 c)) (BitVec.ofNat 32 off)
      = BitVec.ofInt 32 (((a % 256 : ℕ) : ℤ) - c + off) := by
    have e1 : IntOp.andi (BitVec.ofNat 32 a) 255#32 = BitVec.ofNat 32 (a % 256) := by
      apply BitVec.eq_of_toNat_eq
      show (BitVec.ofNat 32 a &&& 255#32).toNat = _
      rw [BitVec.toNat_and, BitVec.toNat_ofNat, BitVec.toNat_ofNat, BitVec.toNat_ofNat]
      rw [show (255 % 2 ^ 32 : ℕ) = 2 ^ 8 - 1 from rfl, Nat.and_two_pow_sub_one_eq_mod]
      omega
    rw [e1]
    show BitVec.ofNat 32 (a % 256) - BitVec.ofNat 32 c + BitVec.ofNat 32 off = _
    rw [sub_eq_add_neg (((a % 256 : ℕ) : ℤ)), BitVec.ofInt_add, BitVec.ofInt_add, BitVec.ofInt_neg, BitVec.ofInt_natCast, BitVec.ofInt_natCast,
      BitVec.ofInt_natCast, BitVec.sub_eq_add_neg]
  rw [e, abs_le_bit _ (by omega) (by omega)]
  omega

end Cert.Band
end
-- ==== Proof.Softmax.lean ====
/-
  The softmax of extended-real scores, written with powers of two and one division at the end against powers of e and a
  division per weight. Scores are finite or minus infinity (a masked key), at least one of them finite.
-/
module

public import Idealize.ShloMosaic.PureOps.Ideal

@[expose] public section

noncomputable section

open Idealize.ShloMosaic
open scoped BigOperators

namespace Cert.Softmax

/-- The natural logarithm of two, as an extended real. -/
abbrev ln2 : EReal := ((Real.log 2 : ℝ) : EReal)

/-- ATTENTION OVER TWO SETS OF KEYS AND A SINK: the scores `sw`, `sc` and the sink's `σ`, all in powers of two, share one
    maximum and one denominator; the sink has no value; one division at the end. -/
def attend {m n : ℕ} (σ : EReal) (sw vw : Fin m → EReal) (sc vc : Fin n → EReal) : EReal :=
  let M := max (max (Finset.univ.sup sw) (Finset.univ.sup sc)) σ
  Ideal.div (∑ c, Ideal.exp2 (sw c - M) * vw c + ∑ c, Ideal.exp2 (sc c - M) * vc c)
    (∑ c, Ideal.exp2 (sw c - M) + ∑ c, Ideal.exp2 (sc c - M) + Ideal.exp2 (σ - M))

/-- The pattern a maximum starts from denotes minus infinity. -/
theorem ofBits_bot : Ideal.ofBits .f32 0xFF800000#32 = ⊥ := by
  simp [Ideal.ofBits, Ideal.ieee]

/-- A maximum over an axis, as the `sup` of its scores. -/
theorem fold_max {ι : Type*} (s : Finset ι) (f : ι → EReal) : s.fold max ⊥ f = s.sup f := rfl

theorem log2_pos : (0 : ℝ) < Real.log 2 := Real.log_pos (by norm_num)

/-- A power of e with both terms scaled by `ln 2` is a power of two. -/
theorem exp_scaled (w : EReal) (hw : w ≠ ⊤) (M : ℝ) :
    Ideal.exp (w * ln2 - (M : EReal) * ln2) = Ideal.exp2 (w - (M : EReal)) := by
  induction w with
  | bot =>
    rw [EReal.bot_mul_coe_of_pos log2_pos, ← EReal.coe_mul, EReal.bot_sub, EReal.bot_sub]
    rfl
  | top => exact absurd rfl hw
  | coe r =>
    rw [← EReal.coe_mul, ← EReal.coe_mul, ← EReal.coe_sub, ← EReal.coe_sub]
    show ((Real.exp _ : ℝ) : EReal) = ((Real.rpow 2 _ : ℝ) : EReal)
    congr 1
    show _ = (2 : ℝ) ^ (r - M)
    rw [Real.rpow_def_of_pos (by norm_num)]
    congr 1
    ring

/-- A power of two of a score minus a finite maximum is a nonnegative real. -/
theorem exp2_real (w : EReal) (hw : w ≠ ⊤) (M : ℝ) : ∃ r : ℝ, 0 ≤ r ∧ Ideal.exp2 (w - (M : EReal)) = (r : EReal) := by
  induction w with
  | bot => exact ⟨0, le_rfl, by rw [EReal.bot_sub]; rfl⟩
  | top => exact absurd rfl hw
  | coe r => exact ⟨(2 : ℝ) ^ (r - M), by positivity, by rw [← EReal.coe_sub]; rfl⟩

/-- A finite score's power of two is positive. -/
theorem exp2_pos (w M : ℝ) : (0 : EReal) < Ideal.exp2 ((w : EReal) - (M : EReal)) := by
  rw [← EReal.coe_sub]
  exact EReal.coe_pos.mpr (Real.rpow_pos_of_pos (by norm_num) _)

/-- Scaling by a nonnegative real goes through a sum, whatever the infinities. -/
theorem sum_mul_coe {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, mul_comm _ (c : EReal), mul_comm _ (c : EReal), mul_comm _ (c : EReal),
      EReal.left_distrib_of_nonneg_of_ne_top (EReal.coe_nonneg.mpr hc) (EReal.coe_ne_top c)]

/-- Dividing every weight by a positive real denominator divides the weighted sum. -/
theorem sum_div_mul {ι : Type*} (s : Finset ι) (e v : ι → EReal) (d : ℝ) (hd : 0 < d) :
    ∑ i ∈ s, Ideal.div (e i) (d : EReal) * v i = Ideal.div (∑ i ∈ s, e i * v i) (d : EReal) := by
  rw [Ideal.div_coe hd.ne', ← sum_mul_coe s _ _ (by positivity)]
  refine Finset.sum_congr rfl fun i _ => ?_
  rw [Ideal.div_coe hd.ne', mul_assoc, mul_comm _ (v i), mul_assoc]

/-- Scaling by `ln 2` goes through a maximum. -/
theorem sup_mul {ι : Type*} (s : Finset ι) (w : ι → EReal) : s.sup (fun i => w i * ln2) = s.sup w * ln2 := by
  refine (Finset.comp_sup_eq_sup_comp_of_is_total (fun x : EReal => x * ln2) (fun a b h => ?_) ?_).symm
  · exact mul_le_mul_of_nonneg_right h (EReal.coe_nonneg.mpr log2_pos.le)
  · exact EReal.bot_mul_coe_of_pos log2_pos

variable {ι : Type*} [Fintype ι]

/-- The greatest score is finite when no score is `⊤` and one is finite. -/
theorem sup_real (w : ι → EReal) (hw : ∀ i, w i ≠ ⊤) (i₀ : ι) (h₀ : w i₀ ≠ ⊥) :
    ∃ M : ℝ, Finset.univ.sup w = (M : EReal) := by
  have hb : Finset.univ.sup w ≠ ⊥ := fun h => h₀ (le_bot_iff.mp (h ▸ Finset.le_sup (f := w) (Finset.mem_univ i₀)))
  have ht : Finset.univ.sup w ≠ ⊤ :=
    ((Finset.sup_lt_iff (by simp : (⊥ : EReal) < ⊤)).mpr fun i _ => lt_top_iff_ne_top.mpr (hw i)).ne
  exact ⟨_, (EReal.coe_toReal ht hb).symm⟩

/-- The denominator is a positive real. -/
theorem den_real (w : ι → EReal) (hw : ∀ i, w i ≠ ⊤) (i₀ : ι) (h₀ : w i₀ ≠ ⊥) (M : ℝ) :
    ∃ d : ℝ, 0 < d ∧ ∑ i, Ideal.exp2 (w i - (M : EReal)) = (d : EReal) := by
  choose r hr he using fun i => exp2_real (w i) (hw i) M
  refine ⟨∑ i, r i, Finset.sum_pos' (fun i _ => hr i) ⟨i₀, Finset.mem_univ _, ?_⟩, ?_⟩
  · have := exp2_pos (w i₀).toReal M
    rw [EReal.coe_toReal (hw i₀) h₀, he i₀] at this
    exact EReal.coe_pos.mp this
  · rw [Finset.sum_congr rfl fun i _ => he i]
    exact (map_sum (⟨⟨fun x : ℝ => (x : EReal), EReal.coe_zero⟩, EReal.coe_add⟩ : ℝ →+ EReal) r _).symm

/-- THE SOFTMAX, BOTH WAYS: weights that are powers of e of the scaled scores, each divided by their sum, against powers
    of two of the scores with one division of the weighted sum. -/
theorem attend_eq (w v : ι → EReal) (hw : ∀ i, w i ≠ ⊤) (i₀ : ι) (h₀ : w i₀ ≠ ⊥) :
    ∑ i, Ideal.div (Ideal.exp (w i * ln2 - Finset.univ.sup fun j => w j * ln2))
        (∑ k, Ideal.exp (w k * ln2 - Finset.univ.sup fun j => w j * ln2)) * v i
      = Ideal.div (∑ i, Ideal.exp2 (w i - Finset.univ.sup w) * v i) (∑ k, Ideal.exp2 (w k - Finset.univ.sup w)) := by
  obtain ⟨M, hM⟩ := sup_real w hw i₀ h₀
  obtain ⟨d, hd, he⟩ := den_real w hw i₀ h₀ M
  rw [sup_mul, hM]
  simp only [exp_scaled _ (hw _)]
  rw [he, sum_div_mul _ _ _ d hd]

variable {κ : Type*} [Fintype κ]

/-- Keys left out whose score is minus infinity change no maximum. -/
theorem sup_embed (e : κ → ι) (w : ι → EReal) (hout : ∀ i, i ∉ Set.range e → w i = ⊥) :
    Finset.univ.sup w = Finset.univ.sup fun k => w (e k) := by
  refine le_antisymm (Finset.sup_le fun i _ => ?_) (Finset.sup_le fun k _ => Finset.le_sup (f := w) (Finset.mem_univ _))
  by_cases hi : i ∈ Set.range e
  · obtain ⟨k, rfl⟩ := hi
    exact Finset.le_sup (f := fun k => w (e k)) (Finset.mem_univ k)
  · rw [hout i hi]; exact bot_le

/-- Keys left out whose score is minus infinity change neither sum. -/
theorem sum_embed (e : κ → ι) (he : Function.Injective e) (w v : ι → EReal) (hout : ∀ i, i ∉ Set.range e → w i = ⊥) (M : ℝ) :
    ∑ i, Ideal.exp2 (w i - (M : EReal)) * v i = ∑ k, Ideal.exp2 (w (e k) - (M : EReal)) * v (e k) := by
  refine (Fintype.sum_of_injective e he _ _ (fun i hi => ?_) fun _ => rfl).symm
  rw [hout i hi, EReal.bot_sub]
  exact zero_mul _

/-- The softmax over all keys is the softmax over the keys whose score is not minus infinity. -/
theorem attend_embed (e : κ → ι) (he : Function.Injective e) (w v : ι → EReal) (hout : ∀ i, i ∉ Set.range e → w i = ⊥)
    (hw : ∀ i, w i ≠ ⊤) (i₀ : ι) (h₀ : w i₀ ≠ ⊥) :
    Ideal.div (∑ i, Ideal.exp2 (w i - Finset.univ.sup w) * v i) (∑ i, Ideal.exp2 (w i - Finset.univ.sup w))
      = Ideal.div (∑ k, Ideal.exp2 (w (e k) - Finset.univ.sup fun k => w (e k)) * v (e k))
          (∑ k, Ideal.exp2 (w (e k) - Finset.univ.sup fun k => w (e k))) := by
  obtain ⟨M, hM⟩ := sup_real w hw i₀ h₀
  rw [← sup_embed e w hout, hM, sum_embed e he w v hout M]
  congr 1
  have := sum_embed e he w (fun _ => 1) hout M
  simpa only [mul_one] using this

end Cert.Softmax

end
-- ==== Proof.AttnDTile.lean ====
/-
  What the window attention call writes at one grid point (one batch element, one key-value head): the value at every
  row and column of its output block, from the blocks it reads. The kernel works on eight groups of 256 query rows, each
  against 512 consecutive keys and all context keys.
-/
module

public import proofs.«01_k».proof.Proof.Gen.AttnDIdeal.Value
public import proofs.«01_k».proof.Proof.Band
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Softmax

namespace Cert.AttnDIdeal.Tile

open Cert.AttnDIdeal Cert.AttnDIdeal.Gen

/-- The masked score stands for minus infinity. -/
theorem named_mask (w : BitVec 32) : Named.named (F := Ideal) (φ := .f32) κ "mask" w = (⊥ : EReal) := rfl

/-- The factor of the sink logit is `1 / ln 2`. -/
theorem named_log2e (w : BitVec 32) : Named.named (F := Ideal) (φ := .f32) κ "log2e" w = (((Real.log 2)⁻¹ : ℝ) : EReal) := rfl

/-- One group's tile, at a row (two query heads, one over the other) and a column: attention of that row's query over the
    window's keys left by the mask, the context keys and the sink. -/
theorem tile_apply (kc vc : FVec Ideal S256x128 .bf16) (σ : FVec Ideal S512x1 .f32) (kw vw : FVec Ideal S512x128 .bf16)
    (mask : IVec S512x512 1) (ql qh : Vec Ideal S1x256x128 .bf16) (r : Fin 512) (d : Fin 128) :
    k0_pay8 kc vc σ kw vw mask ql qh (ix2 r d)
      = attend (σ (ix2 r 0))
          (fun c : Fin 512 => Scalar.select (mask (ix2 r c))
            (∑ x : Fin 128, (if h : r.val < 256 then ql (ix3 0 ⟨r.val, h⟩ x) else qh (ix3 0 ⟨r.val - 256, by omega⟩ x)) * kw (ix2 c x)) ⊥)
          (fun c => vw (ix2 c d))
          (fun k : Fin 256 => ∑ x : Fin 128, (if h : r.val < 256 then ql (ix3 0 ⟨r.val, h⟩ x) else qh (ix3 0 ⟨r.val - 256, by omega⟩ x)) * kc (ix2 k x))
          (fun k => vc (ix2 k d)) := by
  unfold k0_pay8
  pointwise []
  rw [ofBits_bot]
  rfl

/-- The first key of the window of a query row. -/
def base (s : Fin 2048) : ℕ := min (s.val / 256 * 256 - 128) 1536

/-- Key `c` of the window of query row `s`. -/
abbrev win (s : Fin 2048) (c : Fin 512) : Fin 2048 := ⟨base s + c.val, by unfold base; omega⟩

/-- The value the block gets at row `s`, column `n`, from the sink pair and the blocks of queries, keys, values, context
    keys and context values: columns below 128 are the first query head, the rest the second. -/
def blk (σ0 σ1 : EReal) (x1 : Vec Ideal S1x2048x256 .bf16) (x2 x3 : Vec Ideal S1x2048x128 .bf16)
    (x4 x5 : Vec Ideal S1x256x128 .bf16) (s : Fin 2048) (g : Fin 2) (d : Fin 128) : EReal :=
  attend ((if g.val = 0 then σ0 else σ1) * (((Real.log 2)⁻¹ : ℝ) : EReal))
    (fun c : Fin 512 => if (win s c).val ≤ s.val + 128 ∧ s.val ≤ (win s c).val + 128 then
        ∑ x : Fin 128, x1 (ix3 0 s ⟨g.val * 128 + x.val, by omega⟩) * x2 (ix3 0 (win s c) x) else ⊥)
    (fun c => x3 (ix3 0 (win s c) d))
    (fun k : Fin 256 => ∑ x : Fin 128, x1 (ix3 0 s ⟨g.val * 128 + x.val, by omega⟩) * x4 (ix3 0 k x))
    (fun k => x5 (ix3 0 k d))

/-- The tile of the group whose queries start at `q0` and whose window starts at `k0`. -/
abbrev tile (a b : EReal) (x1 : Vec Ideal S1x2048x256 .bf16) (x2 x3 : Vec Ideal S1x2048x128 .bf16)
    (x4 x5 : Vec Ideal S1x256x128 .bf16) (q0 k0 off : ℕ) (hk : ∀ i, (![0, k0, 0] : Fin 3 → ℕ) i + (![1, 512, 128] : Fin 3 → ℕ) i ≤ S1x2048x128.size i)
    (hl : ∀ i, (![0, q0, 0] : Fin 3 → ℕ) i + (![1, 256, 128] : Fin 3 → ℕ) i ≤ S1x2048x256.size i)
    (hh : ∀ i, (![0, q0, 128] : Fin 3 → ℕ) i + (![1, 256, 128] : Fin 3 → ℕ) i ≤ S1x2048x256.size i) : FVec Ideal S512x128 .bf16 :=
  k0_pay8 (k0_pay1 x4) (k0_pay2 x5) (k0_pay4 a b)
    (k0_pay5 (View.ld x2 (Rect.unit (s := S1x2048x128) ![0, k0, 0] ![1, 512, 128] hk)))
    (k0_pay6 (View.ld x3 (Rect.unit (s := S1x2048x128) ![0, k0, 0] ![1, 512, 128] hk)))
    (cmpi .sle (absi (addi k0_pay3 (broadcast S512x512 (BitVec.ofNat 32 off)))) (broadcast S512x512 128#32))
    (View.ld x1 (Rect.unit (s := S1x2048x256) ![0, q0, 0] ![1, 256, 128] hl))
    (View.ld x1 (Rect.unit (s := S1x2048x256) ![0, q0, 128] ![1, 256, 128] hh))

/-- A load of a box of consecutive rows and columns, at an index. -/
theorem ld3 {A B n k : ℕ} (X : (⟨3, ![1, A, B]⟩ : Shape).Idx → EReal) (q o : ℕ) (h) (p : Fin n) (x : Fin k) (s : Fin A) (t : Fin B)
    (hs : s.val = q + p.val) (ht : t.val = o + x.val) :
    View.ld (Val := fun _ => EReal) (e' := EltTy.bf16) X (Rect.unit (s := ⟨3, ![1, A, B]⟩) ![0, q, o] ![1, n, k] h) (ix3 0 p x) = X (ix3 0 s t) :=
  View.ld_unit_apply_of (Val := fun _ => EReal) (e := EltTy.bf16) X ![0, q, o] ![1, n, k] h (ix3 0 p x) (ix3 0 s t) fun i => by
    match i with
    | ⟨0, _⟩ => rfl
    | ⟨1, _⟩ => exact hs
    | ⟨2, _⟩ => exact ht

variable (a b : EReal) (x1 : Vec Ideal S1x2048x256 .bf16) (x2 x3 : Vec Ideal S1x2048x128 .bf16) (x4 x5 : Vec Ideal S1x256x128 .bf16)

/-- The two heads' queries, one over the other. -/
theorem q_apply (q0 : ℕ) (hl) (hh) (r : Fin 512) (p : Fin 256) (g : Fin 2) (hr : r.val = g.val * 256 + p.val)
    (s : Fin 2048) (hs : s.val = q0 + p.val) (x : Fin 128) :
    (if h : r.val < 256 then View.ld x1 (Rect.unit (s := S1x2048x256) ![0, q0, 0] ![1, 256, 128] hl) (ix3 0 ⟨r.val, h⟩ x)
      else View.ld x1 (Rect.unit (s := S1x2048x256) ![0, q0, 128] ![1, 256, 128] hh) (ix3 0 ⟨r.val - 256, by omega⟩ x))
      = x1 (ix3 0 s ⟨g.val * 128 + x.val, by omega⟩) := by
  split
  · rename_i h
    exact ld3 x1 q0 0 hl (⟨r.val, h⟩ : Fin 256) x s ⟨g.val * 128 + x.val, by omega⟩ (by show s.val = q0 + r.val; omega)
      (by show g.val * 128 + x.val = 0 + x.val; omega)
  · exact ld3 x1 q0 128 hh (⟨r.val - 256, by omega⟩ : Fin 256) x s ⟨g.val * 128 + x.val, by omega⟩ (by show s.val = q0 + (r.val - 256); omega)
      (by show g.val * 128 + x.val = 128 + x.val; omega)

theorem cast_apply (v : Vec Ideal S1x512x128 .bf16) (c : Fin 512) (x : Fin 128) :
    shapeCast S512x128 v shapeCasts_S1x512x128_S512x128 (ix2 c x) = v (ix3 0 c x) := by
  pointwise []

/-- A window of keys or values. -/
theorem k_apply (y : Vec Ideal S1x2048x128 .bf16) (k0 : ℕ) (hk) (c : Fin 512) (x : Fin 128) (w : Fin 2048) (hw : w.val = k0 + c.val) :
    shapeCast S512x128 (View.ld y (Rect.unit (s := S1x2048x128) ![0, k0, 0] ![1, 512, 128] hk)) shapeCasts_S1x512x128_S512x128 (ix2 c x)
      = y (ix3 0 w x) :=
  (cast_apply _ c x).trans (ld3 y k0 0 hk c x w x hw (by omega))

/-- The context keys or values. -/
theorem kc_apply (y : Vec Ideal S1x256x128 .bf16) (k : Fin 256) (x : Fin 128) :
    shapeCast S256x128 y shapeCasts_S1x256x128_S256x128 (ix2 k x) = y (ix3 0 k x) := by
  pointwise []

/-- The sink logit of a row's head, in powers of two. -/
theorem sink_apply (r : Fin 512) (p : Fin 256) (g : Fin 2) (hr : r.val = g.val * 256 + p.val) :
    k0_pay4 (F := Ideal) a b (ix2 r 0) = (if g.val = 0 then a else b) * (((Real.log 2)⁻¹ : ℝ) : EReal) := by
  unfold k0_pay4
  pointwise []
  rw [named_log2e]
  congr 1
  unfold Scalar.select
  have e : IntOp.cmpi .slt (BitVec.ofNat 32 r.val) 256#32 = 1 ↔ r.val < 256 := by
    show BitVec.ofBool ((BitVec.ofNat 32 r.val).slt 256#32) = 1#1 ↔ _
    have : (BitVec.ofNat 32 r.val).slt 256#32 = decide (r.val < 256) := by
      rw [BitVec.slt_eq_decide, ← BitVec.ofInt_natCast, Band.toInt_ofInt_small _ (by omega) (by omega)]
      simp
    rw [this]
    by_cases h : r.val < 256 <;> simp [h]
  by_cases h : r.val < 256
  · rw [if_pos (e.mpr h), if_pos (by omega)]
  · rw [if_neg (fun h' => h (e.mp h')), if_neg (by omega)]

theorem rel_apply (r c : Fin 512) :
    k0_pay3 (ix2 r c) = IntOp.subi (IntOp.andi (BitVec.ofNat 32 r.val) 255#32) (BitVec.ofNat 32 c.val) := by
  unfold k0_pay3
  pointwise []

/-- The mask bit of a row and a window column. -/
theorem mask_apply (q0 k0 off : ℕ) (hq : q0 % 256 = 0) (hq' : q0 < 2048) (hbase : k0 = min (q0 - 128) 1536) (hoff : k0 + off = q0)
    (r : Fin 512) (p : Fin 256) (g : Fin 2) (hr : r.val = g.val * 256 + p.val) (s : Fin 2048) (hs : s.val = q0 + p.val) (c : Fin 512) (w : ℕ)
    (hw : w = k0 + c.val) :
    cmpi .sle (absi (addi k0_pay3 (broadcast S512x512 (BitVec.ofNat 32 off)))) (broadcast S512x512 128#32) (ix2 r c) = 1
        ↔ w ≤ s.val + 128 ∧ s.val ≤ w + 128 := by
  show IntOp.cmpi .sle (IntOp.absi (IntOp.addi (k0_pay3 (ix2 r c)) (BitVec.ofNat 32 off))) 128#32 = 1#1 ↔ _
  rw [rel_apply]
  refine (Band.mask_bit r.val c.val off r.isLt c.isLt (by omega)).trans ?_
  have : r.val % 256 = p.val := by omega
  rw [this]
  omega

/-- A group's tile at its row `g * 256 + p` is the block's value at query row `q0 + p` of head `g`. -/
theorem tile_eq (q0 k0 off : ℕ) (hk) (hl) (hh)
    (hq : q0 % 256 = 0) (hq' : q0 < 2048) (hbase : k0 = min (q0 - 128) 1536) (hoff : k0 + off = q0)
    (r : Fin 512) (p : Fin 256) (g : Fin 2) (hr : r.val = g.val * 256 + p.val) (d : Fin 128) (s : Fin 2048) (hs : s.val = q0 + p.val) :
    tile a b x1 x2 x3 x4 x5 q0 k0 off hk hl hh (ix2 r d) = blk a b x1 x2 x3 x4 x5 s g d := by
  have hb : base s = k0 := by unfold base; omega
  unfold tile
  rw [tile_apply]
  simp only [q_apply x1 q0 hl hh r p g hr s hs]
  unfold blk
  refine congr (congr (congr (congr (congrArg attend (sink_apply a b r p g hr)) ?_) ?_) ?_) ?_
  · funext c
    have e := mask_apply q0 k0 off hq hq' hbase hoff r p g hr s hs c (win s c).val (by rw [← hb])
    unfold Scalar.select
    by_cases h : (win s c).val ≤ s.val + 128 ∧ s.val ≤ (win s c).val + 128
    · rw [if_pos (e.mpr h), if_pos h]
      exact Finset.sum_congr rfl fun x _ => congrArg _ (k_apply x2 k0 hk c x _ (by rw [← hb]))
    · rw [if_neg (fun h' => h (e.mp h')), if_neg h]
  · funext c
    exact k_apply x3 k0 hk c d _ (by rw [← hb])
  · funext k
    exact Finset.sum_congr rfl fun x _ => congrArg _ (kc_apply x4 k x)
  · funext k
    exact kc_apply x5 k d

/-- The head of a block column. -/
abbrev hd (n : Fin 256) : Fin 2 := ⟨n.val / 128, by omega⟩
/-- The place of a block column within its head. -/
abbrev cl (n : Fin 256) : Fin 128 := ⟨n.val % 128, Nat.mod_lt _ (by norm_num)⟩

theorem lo_read (v : FVec Ideal S512x128 .bf16) (p : Fin 256) (d : Fin 128) :
    shapeCast S1x256x128 (extractStridedSlice S256x128 ![0, 0] v slices_S512x128_o0_0_S256x128) shapeCasts_S256x128_S1x256x128 (ix3 0 p d)
      = v (ix2 ⟨p.val, by omega⟩ d) := by
  pointwise []

theorem hi_read (v : FVec Ideal S512x128 .bf16) (p : Fin 256) (d : Fin 128) :
    shapeCast S1x256x128 (extractStridedSlice S256x128 ![256, 0] v slices_S512x128_o256_0_S256x128) shapeCasts_S256x128_S1x256x128 (ix3 0 p d)
      = v (ix2 ⟨256 + p.val, by omega⟩ d) := by
  pointwise []

/-- The lower half of a tile, stored at columns 0 to 127. -/
theorem lo (q0 k0 off : ℕ) (hk) (hl) (hh) (x : S1x256x128.Idx) (s : Fin 2048) (n : Fin 256)
    (h1 : s.val = q0 + (x 1).val) (h2 : n.val = (x 2).val)
    (hq : q0 % 256 = 0 := by decide) (hq' : q0 < 2048 := by decide) (hbase : k0 = min (q0 - 128) 1536 := by decide) (hoff : k0 + off = q0 := by decide) :
    shapeCast S1x256x128 (extractStridedSlice S256x128 ![0, 0] (tile a b x1 x2 x3 x4 x5 q0 k0 off hk hl hh) slices_S512x128_o0_0_S256x128)
        shapeCasts_S256x128_S1x256x128 x
      = blk a b x1 x2 x3 x4 x5 s (hd n) (cl n) := by
  obtain ⟨z, p, d, rfl⟩ : ∃ (z : Fin 1) (p : Fin 256) (d : Fin 128), x = ix3 z p d := ⟨x 0, x 1, x 2, by funext i; match i with | ⟨0, _⟩ => rfl | ⟨1, _⟩ => rfl | ⟨2, _⟩ => rfl⟩
  obtain rfl : z = 0 := Subsingleton.elim _ _
  have h1' : s.val = q0 + p.val := h1
  have h2' : n.val = d.val := h2
  rw [lo_read, tile_eq a b x1 x2 x3 x4 x5 q0 k0 off hk hl hh hq hq' hbase hoff _ p (hd n) (by show p.val = n.val / 128 * 256 + p.val; omega) d s h1']
  congr 1
  exact Fin.ext (by show d.val = n.val % 128; omega)

/-- The upper half of a tile, stored at columns 128 to 255. -/
theorem hi (q0 k0 off : ℕ) (hk) (hl) (hh) (x : S1x256x128.Idx) (s : Fin 2048) (n : Fin 256)
    (h1 : s.val = q0 + (x 1).val) (h2 : n.val = 128 + (x 2).val)
    (hq : q0 % 256 = 0 := by decide) (hq' : q0 < 2048 := by decide) (hbase : k0 = min (q0 - 128) 1536 := by decide) (hoff : k0 + off = q0 := by decide) :
    shapeCast S1x256x128 (extractStridedSlice S256x128 ![256, 0] (tile a b x1 x2 x3 x4 x5 q0 k0 off hk hl hh) slices_S512x128_o256_0_S256x128)
        shapeCasts_S256x128_S1x256x128 x
      = blk a b x1 x2 x3 x4 x5 s (hd n) (cl n) := by
  obtain ⟨z, p, d, rfl⟩ : ∃ (z : Fin 1) (p : Fin 256) (d : Fin 128), x = ix3 z p d := ⟨x 0, x 1, x 2, by funext i; match i with | ⟨0, _⟩ => rfl | ⟨1, _⟩ => rfl | ⟨2, _⟩ => rfl⟩
  obtain rfl : z = 0 := Subsingleton.elim _ _
  have h1' : s.val = q0 + p.val := h1
  have h2' : n.val = 128 + d.val := h2
  rw [hi_read, tile_eq a b x1 x2 x3 x4 x5 q0 k0 off hk hl hh hq hq' hbase hoff _ p (hd n) (by show 256 + p.val = n.val / 128 * 256 + p.val; omega) d s h1']
  congr 1
  exact Fin.ext (by show d.val = n.val % 128; omega)

end Cert.AttnDIdeal.Tile

end
-- ==== Proof.AttnDPoint.lean ====
/-
  The window attention call's result array, element by element, from the call's own arguments: grid point `t` works on
  batch element `t / 2` and key-value head `t % 2`.
-/
module

public import proofs.«01_k».proof.Proof.AttnDTile
public import Idealize.ShloMosaic.Lib.Claim

@[expose] public section

set_option maxRecDepth 16384

noncomputable section

open Idealize.ShloMosaic Idealize.ShloMosaic.TcCoe Idealize.SL.Sem
open Cert.Softmax

namespace Cert.AttnDIdeal.Tile

open Cert.AttnDIdeal Cert.AttnDIdeal.Gen

/-- The key-value head of a grid point. -/
abbrev kvh (i : grid0.Coords) : Fin 2 := ⟨(i 1).val, (i 1).isLt⟩

theorem off1 (i : grid0.Coords) : k0_off1 i = ![0, 2 * (kvh i).val] := by
  have h : ∀ j : Fin 2, (![0, (Scalar.indexCast (Scalar.muli (BitVec.ofNat 32 j.val) 2#32) : Index).toNat] : Fin 2 → ℕ) = ![0, 2 * j.val] := by
    decide
  exact h (kvh i)

theorem off2 (i : grid0.Coords) : k0_off2 i = ![0, 2 * (kvh i).val + 1] := by
  have h : ∀ j : Fin 2, (![0, (Scalar.indexCast (Scalar.addi (Scalar.muli (BitVec.ofNat 32 j.val) 2#32) 1#32) : Index).toNat] : Fin 2 → ℕ) = ![0, 2 * j.val + 1] := by
    decide
  exact h (kvh i)

/-- A single word of the sinks, at an index. -/
theorem ld_sink (x0 : Vec Ideal S2x4 .f32) (off : Fin 2 → ℕ) (k : ℕ) (hoff : off = ![0, k]) (inb) (h) (hk : k < 4) :
    View.ld x0 (Rect.unit (s := S2x4) off S1x1.size inb) (Shape.Idx.first h) = x0 (ix2 0 ⟨k, hk⟩) := by
  subst hoff
  exact View.ld_unit_apply_of x0 _ _ _ _ (ix2 0 ⟨k, hk⟩) fun a => by
    match a with
    | ⟨0, _⟩ => rfl
    | ⟨1, _⟩ => rfl

set_option maxHeartbeats 4000000 in
/-- WHAT A GRID POINT LEAVES in its output block, at every row and column. -/
theorem out_apply (c : Dev nD) (i : grid0.Coords) (arg2 : Memref sig .tc .smem S2x4 .f32) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x256 .bf16) (harg8 : arg8.IsWhole)
    (x0 : Vec Ideal S2x4 .f32) (x1 : Vec Ideal S1x2048x256 .bf16) (x2 : Vec Ideal S1x2048x128 .bf16) (x3 : Vec Ideal S1x2048x128 .bf16) (x4 : Vec Ideal S1x256x128 .bf16) (x5 : Vec Ideal S1x256x128 .bf16) (y : S1x2048x256.Idx) :
  out0_A_6 c i arg2 harg2 arg3 harg3 arg4 harg4 arg5 harg5 arg6 harg6 arg7 harg7 arg8 harg8 x0 x1 x2 x3 x4 x5 y
   = blk (x0 (ix2 0 ⟨2 * (kvh i).val, by omega⟩)) (x0 (ix2 0 ⟨2 * (kvh i).val + 1, by omega⟩)) x1 x2 x3 x4 x5 (y 1) (hd (y 2)) (cl (y 2)) := by
  frame_out
  rw [ld_sink x0 _ _ (off1 i) _ _ (by omega), ld_sink x0 _ _ (off2 i) _ _ (by omega)]
  canon_tiles x h
  all_goals first
    | (have e : (y 2).val = 128 + (x 2).val := h2
       refine hi _ _ x1 x2 x3 x4 x5 _ _ _ _ _ _ x (y 1) (y 2) h1 e)
    | (have e : (y 2).val = (x 2).val := h2
       refine lo _ _ x1 x2 x3 x4 x5 _ _ _ _ _ _ x (y 1) (y 2) h1 e)
    | (have e : (y 2).val = 128 + (x 2).val := h2
       have e1 : (y 1).val = 0 + (x 1).val := h1.trans (Nat.zero_add _).symm
       refine hi _ _ x1 x2 x3 x4 x5 _ _ _ _ _ _ x (y 1) (y 2) e1 e)
    | (have e : (y 2).val = (x 2).val := h2
       have e1 : (y 1).val = 0 + (x 1).val := h1.trans (Nat.zero_add _).symm
       refine lo _ _ x1 x2 x3 x4 x5 _ _ _ _ _ _ x (y 1) (y 2) e1 e)

variable (m : (ℓ : Loc nD τ sig) → Buf (Elt Ideal) ℓ) (c : Dev nD)

theorem lt_N (t : Fin cfg0.N) : t.val < 16 := lt_of_lt_of_eq t.isLt N_0

/-- The batch element of a grid point. -/
abbrev bat (t : Fin cfg0.N) : Fin 8 := ⟨t.val / 2, by have := lt_N t; omega⟩
/-- A column of the projection: `base` plus 128 per head plus the place within the head. -/
abbrev col (b h : ℕ) (x : Fin 128) (hb : b + h * 128 + 128 ≤ 5120 := by omega) : Fin 5120 := ⟨b + h * 128 + x.val, by omega⟩

theorem idx0 : ∀ t : Fin cfg0.N, (cfg0.win 0).index t 0 = 0 ∧ (cfg0.win 0).index t 1 = 0 := by decide +kernel
theorem idx1 : ∀ t : Fin cfg0.N, (cfg0.win 1).index t 0 = t.val / 2 ∧ (cfg0.win 1).index t 1 = 0 ∧ (cfg0.win 1).index t 2 = 16 + t.val % 2 := by
  decide +kernel
theorem idx2 : ∀ t : Fin cfg0.N, (cfg0.win 2).index t 0 = t.val / 2 ∧ (cfg0.win 2).index t 1 = 0 ∧ (cfg0.win 2).index t 2 = 36 + t.val % 2 := by
  decide +kernel
theorem idx3 : ∀ t : Fin cfg0.N, (cfg0.win 3).index t 0 = t.val / 2 ∧ (cfg0.win 3).index t 1 = 0 ∧ (cfg0.win 3).index t 2 = 38 + t.val % 2 := by
  decide +kernel
theorem idx4 : ∀ t : Fin cfg0.N, (cfg0.win 4).index t 0 = t.val / 2 ∧ (cfg0.win 4).index t 1 = 0 ∧ (cfg0.win 4).index t 2 = 36 + t.val % 2 := by
  decide +kernel
theorem idx5 : ∀ t : Fin cfg0.N, (cfg0.win 5).index t 0 = t.val / 2 ∧ (cfg0.win 5).index t 1 = 0 ∧ (cfg0.win 5).index t 2 = 38 + t.val % 2 := by
  decide +kernel
theorem idx6 : ∀ t : Fin cfg0.N, (cfg0.win 6).index t 0 = t.val / 2 ∧ (cfg0.win 6).index t 1 = 0 ∧ (cfg0.win 6).index t 2 = t.val % 2 := by
  decide +kernel
theorem coord1 : ∀ t : Fin cfg0.N, (kvh (grid0.coords t)).val = t.val % 2 := by
  decide +kernel

theorem iblk0_apply (t : Fin cfg0.N) (r : Fin 2) (j : Fin 4) :
    (iblk m c 0 t : S2x4.Idx → EReal) (ix2 r j) = m ((c.tc : Thread nD τ).loc main_arg2) (ix2 r j) := by
  have ht := lt_N t
  blk_ext! [iblk, idx0 t]

theorem iblk1_apply (t : Fin cfg0.N) (s : Fin 2048) (n : Fin 256) :
    (iblk m c 1 t : S1x2048x256.Idx → EReal) (ix3 0 s n)
      = m ((c.tc : Thread nD τ).loc main_arg0) (ix3 (bat t) s ⟨4096 + t.val % 2 * 256 + n.val, by omega⟩) := by
  have ht := lt_N t
  blk_ext! [iblk, idx1 t]

theorem iblk2_apply (t : Fin cfg0.N) (s : Fin 2048) (n : Fin 128) :
    (iblk m c 2 t : S1x2048x128.Idx → EReal) (ix3 0 s n)
      = m ((c.tc : Thread nD τ).loc main_arg0) (ix3 (bat t) s (col 4608 (t.val % 2) n)) := by
  have ht := lt_N t
  blk_ext! [iblk, idx2 t]

theorem iblk3_apply (t : Fin cfg0.N) (s : Fin 2048) (n : Fin 128) :
    (iblk m c 3 t : S1x2048x128.Idx → EReal) (ix3 0 s n)
      = m ((c.tc : Thread nD τ).loc main_arg0) (ix3 (bat t) s (col 4864 (t.val % 2) n)) := by
  have ht := lt_N t
  blk_ext! [iblk, idx3 t]

theorem iblk4_apply (t : Fin cfg0.N) (s : Fin 256) (n : Fin 128) :
    (iblk m c 4 t : S1x256x128.Idx → EReal) (ix3 0 s n)
      = m ((c.tc : Thread nD τ).loc main_arg1) (ix3 (bat t) s (col 4608 (t.val % 2) n)) := by
  have ht := lt_N t
  blk_ext! [iblk, idx4 t]

theorem iblk5_apply (t : Fin cfg0.N) (s : Fin 256) (n : Fin 128) :
    (iblk m c 5 t : S1x256x128.Idx → EReal) (ix3 0 s n)
      = m ((c.tc : Thread nD τ).loc main_arg1) (ix3 (bat t) s (col 4864 (t.val % 2) n)) := by
  have ht := lt_N t
  blk_ext! [iblk, idx5 t]

/-- THE RESULT at batch element `b`, position `s`, query head `j` and place `d` of the head. -/
def headAt (p : S8x2048x5120.Idx → EReal) (pc : S8x256x5120.Idx → EReal) (sink : S2x4.Idx → EReal)
    (b : Fin 8) (s : Fin 2048) (j : Fin 4) (d : Fin 128) : EReal :=
  attend (sink (ix2 0 j) * (((Real.log 2)⁻¹ : ℝ) : EReal))
    (fun k : Fin 512 => if (win s k).val ≤ s.val + 128 ∧ s.val ≤ (win s k).val + 128 then
        ∑ x : Fin 128, p (ix3 b s (col 4096 j.val x)) * p (ix3 b (win s k) (col 4608 (j.val / 2) x)) else ⊥)
    (fun k => p (ix3 b (win s k) (col 4864 (j.val / 2) d)))
    (fun k : Fin 256 => ∑ x : Fin 128, p (ix3 b s (col 4096 j.val x)) * pc (ix3 b k (col 4608 (j.val / 2) x)))
    (fun k => pc (ix3 b k (col 4864 (j.val / 2) d)))

/-- The result array as one function of the arguments. -/
def G6 : S8x2048x512.Idx → EReal := fun i =>
  headAt (m ((c.tc : Thread nD τ).loc main_arg0)) (m ((c.tc : Thread nD τ).loc main_arg1)) (m ((c.tc : Thread nD τ).loc main_arg2))
    (i 0) (i 1) ⟨(i 2).val / 128, by have : (i 2).val < 512 := (i 2).isLt; omega⟩ ⟨(i 2).val % 128, Nat.mod_lt _ (by norm_num)⟩

/-- A grid point's block is its part of the result. -/
theorem blk_eq (t : Fin cfg0.N) (s : Fin 2048) (g : Fin 2) (d : Fin 128) (j : Fin 4) (hj : j.val = t.val % 2 * 2 + g.val)
    (k0 k1 : Fin 4) (h0 : k0.val = 2 * (t.val % 2)) (h1 : k1.val = 2 * (t.val % 2) + 1) :
    blk ((iblk m c 0 t : S2x4.Idx → EReal) (ix2 0 k0)) ((iblk m c 0 t : S2x4.Idx → EReal) (ix2 0 k1))
        (iblk m c 1 t) (iblk m c 2 t) (iblk m c 3 t) (iblk m c 4 t) (iblk m c 5 t) s g d
      = headAt (m ((c.tc : Thread nD τ).loc main_arg0)) (m ((c.tc : Thread nD τ).loc main_arg1)) (m ((c.tc : Thread nD τ).loc main_arg2))
          (bat t) s j d := by
  have hq : ∀ x : Fin 128, (iblk m c 1 t : S1x2048x256.Idx → EReal) (ix3 0 s ⟨g.val * 128 + x.val, by omega⟩)
      = m ((c.tc : Thread nD τ).loc main_arg0) (ix3 (bat t) s (col 4096 j.val x)) := fun x =>
    (iblk1_apply m c t s _).trans (congrArg (fun n => m ((c.tc : Thread nD τ).loc main_arg0) (ix3 (bat t) s n)) (Fin.ext (by
      show 4096 + t.val % 2 * 256 + (g.val * 128 + x.val) = 4096 + j.val * 128 + x.val
      omega)))
  have hh : t.val % 2 = j.val / 2 := by omega
  have hs : (if g.val = 0 then (iblk m c 0 t : S2x4.Idx → EReal) (ix2 0 k0) else (iblk m c 0 t : S2x4.Idx → EReal) (ix2 0 k1))
      = m ((c.tc : Thread nD τ).loc main_arg2) (ix2 0 j) := by
    rw [iblk0_apply, iblk0_apply]
    split
    · rw [show k0 = j from Fin.ext (by omega)]
    · rw [show k1 = j from Fin.ext (by omega)]
  unfold blk headAt
  rw [hs]
  simp only [hq, iblk2_apply, iblk3_apply, iblk4_apply, iblk5_apply, hh]

/-- The output array after the run. -/
theorem final (m : (ℓ : Loc nD τ sig) → Buf (Elt Ideal) ℓ) (c : Dev nD) : (dats m 0 c).arrAt 6 cfg0.N = G6 m c := by
  refine (dats m 0 c).arrAt_eq_of_covers 6 _ (by decide +kernel) fun t hf y => ?_
  blk_simp
  rw [after0_6]
  obtain ⟨z, s, n, rfl⟩ : ∃ (z : Fin 1) (s : Fin 2048) (n : Fin 256), y = ix3 z s n :=
    ⟨y 0, y 1, y 2, by funext i; match i with | ⟨0, _⟩ => rfl | ⟨1, _⟩ => rfl | ⟨2, _⟩ => rfl⟩
  obtain rfl : z = 0 := Subsingleton.elim _ _
  have ht := lt_N t
  have e : (win0_6.blk t).view.emb (ix3 (0 : Fin 1) s n) = ix3 (bat t) s (⟨t.val % 2 * 256 + n.val, by omega⟩ : Fin 512) := by
    blk_ext! [idx6 t]
  rw [e]
  refine (out_apply ..).trans ?_
  refine (blk_eq m c t s (hd n) (cl n) ⟨(t.val % 2 * 256 + n.val) / 128, by omega⟩
    (by show (t.val % 2 * 256 + n.val) / 128 = t.val % 2 * 2 + n.val / 128; omega) _ _
    (by show 2 * (kvh (grid0.coords t)).val = _; rw [coord1]) (by show 2 * (kvh (grid0.coords t)).val + 1 = _; rw [coord1])).trans ?_
  unfold G6
  show headAt _ _ _ _ _ _ _ = headAt _ _ _ _ _ _ _
  congr 1
  exact Fin.ext (by show n.val % 128 = (t.val % 2 * 256 + n.val) % 128; omega)

end Cert.AttnDIdeal.Tile

end
-- ==== Proof.AttnDSoftmax.lean ====
/-
  The softmax of the windowed attention over all keys, the context and the sink, as the attention over the keys of a window, the
  context and the sink: a key outside the band has logit `⊥`, so its weight is zero.
-/
module
public import proofs.«01_k».proof.Proof.Softmax
@[expose] public section
noncomputable section
open Idealize.ShloMosaic
open scoped BigOperators
namespace Cert.Softmax

/-- A context key's place among all logits. -/
abbrev ctx (k : Fin 256) : Fin 2305 := ⟨2048 + k.val, by omega⟩

/-- A latent key's place among all logits. -/
abbrev lat (k : Fin 2048) : Fin 2305 := ⟨k.val, by omega⟩

/-- The sink's place among all logits. -/
abbrev snk : Fin 2305 := ⟨2304, by omega⟩

/-- The places of a window of latent keys, the context keys and the sink. -/
def place {m : ℕ} (e : Fin m → Fin 2048) : (Fin m ⊕ Fin 256) ⊕ Unit → Fin 2305
  | .inl (.inl c) => lat (e c)
  | .inl (.inr k) => ctx k
  | .inr _ => snk

theorem place_injective {m : ℕ} (e : Fin m → Fin 2048) (he : Function.Injective e) : Function.Injective (place e) := by
  rintro ((a | a) | a) ((b | b) | b) h <;> have h := congrArg Fin.val h <;> simp only [place] at h
  · rw [he (Fin.ext h)]
  · omega
  · omega
  · omega
  · rw [show a = b from Fin.ext (by omega)]
  · omega
  · omega
  · omega
  · rfl

/-- The reference's softmax of the logits `w · ln 2`, less its sink column, applied to the values. -/
theorem softmax_attend {m : ℕ} (e : Fin m → Fin 2048) (he : Function.Injective e) (L w : Fin 2305 → EReal) (v : Fin 2304 → EReal)
    (hL : ∀ k, L k = w k * ln2) (hw : ∀ k, w k ≠ ⊤) (hs : w snk ≠ ⊥) (hout : ∀ k : Fin 2048, k ∉ Set.range e → w (lat k) = ⊥) :
    ∑ k : Fin 2304, v k * Ideal.div (Ideal.exp (L k.castSucc - Finset.univ.sup L)) (∑ j, Ideal.exp (L j - Finset.univ.sup L))
      = attend (w snk) (fun c => w (lat (e c))) (fun c => v ⟨(e c).val, by omega⟩)
          (fun k => w (ctx k)) (fun k => v ⟨2048 + k.val, by omega⟩) := by
  obtain rfl : L = fun k => w k * ln2 := funext hL
  let v' : Fin 2305 → EReal := Fin.snoc (α := fun _ => EReal) v 0
  have h1 := attend_eq w v' hw snk hs
  rw [Fin.sum_univ_castSucc (n := 2304)] at h1
  simp only [v', Fin.snoc_castSucc, Fin.snoc_last, mul_zero, add_zero] at h1
  have hout' : ∀ i, i ∉ Set.range (place e) → w i = ⊥ := by
    intro i hi
    by_cases h : i.val < 2048
    · refine hout ⟨i.val, h⟩ fun ⟨c, hc⟩ => hi ⟨.inl (.inl c), ?_⟩
      exact Fin.ext (by show (e c).val = i.val; rw [hc])
    · by_cases h' : i.val < 2304
      · exact absurd ⟨.inl (.inr ⟨i.val - 2048, by omega⟩), Fin.ext (by show 2048 + (i.val - 2048) = i.val; omega)⟩ hi
      · exact absurd ⟨.inr (), Fin.ext (by show 2304 = i.val; omega)⟩ hi
  have h2 := attend_embed (place e) (place_injective e he) w v' hout' hw snk hs
  have hsup : (Finset.univ.sup fun k => w (place e k))
      = max (max (Finset.univ.sup fun c => w (lat (e c))) (Finset.univ.sup fun k => w (ctx k))) (w snk) := by
    refine le_antisymm (Finset.sup_le ?_) (max_le (max_le (Finset.sup_le fun c _ => ?_) (Finset.sup_le fun c _ => ?_)) ?_)
    · rintro ((c | c) | c) -
      · exact le_max_of_le_left (le_max_of_le_left (Finset.le_sup (f := fun c => w (lat (e c))) (Finset.mem_univ c)))
      · exact le_max_of_le_left (le_max_of_le_right (Finset.le_sup (f := fun c => w (ctx c)) (Finset.mem_univ c)))
      · exact le_max_right _ _
    · exact Finset.le_sup (f := fun k => w (place e k)) (Finset.mem_univ (Sum.inl (Sum.inl c)))
    · exact Finset.le_sup (f := fun k => w (place e k)) (Finset.mem_univ (Sum.inl (Sum.inr c)))
    · exact Finset.le_sup (f := fun k => w (place e k)) (Finset.mem_univ (Sum.inr ()))
  rw [hsup] at h2
  simp only [Fintype.sum_sum_type, Finset.univ_unique, Finset.sum_singleton] at h2
  have e1 : ∀ c, v' (place e (.inl (.inl c))) = v ⟨(e c).val, by omega⟩ := fun c =>
    Fin.snoc_castSucc (α := fun _ => EReal) (n := 2304) 0 v ⟨(e c).val, by omega⟩
  have e2 : ∀ k, v' (place e (.inl (.inr k))) = v ⟨2048 + k.val, by omega⟩ := fun k =>
    Fin.snoc_castSucc (α := fun _ => EReal) (n := 2304) 0 v ⟨2048 + k.val, by omega⟩
  have e3 : ∀ u, v' (place e (.inr u)) = 0 := fun u => Fin.snoc_last (α := fun _ => EReal) (n := 2304) 0 v
  simp only [e1, e2, e3, mul_zero, add_zero] at h2
  simp only [mul_comm (v _)]
  exact h1.trans h2

end Cert.Softmax
end
-- ==== Proof.WindowRef.lean ====
/-
  The reference of the windowed attention, read at an element of its result: for finite queries, keys and sink logits it is the
  attention of one head over the keys of the window, the context keys and the sink.
-/
module
public import proofs.«01_k».proof.Proof.Gen.WindowIdeal.Read
public import proofs.«01_k».proof.Proof.AttnDSoftmax
public import proofs.«01_k».proof.Proof.AttnDPoint
public import proofs.«01_k».proof.Proof.Band
public import Idealize.ShloMosaic.Lib.Pointwise
@[expose] public section
set_option maxRecDepth 16384
noncomputable section
open Idealize.ShloMosaic Idealize.ShloMosaic.TcCoe Idealize.SL.Sem
open scoped BigOperators
namespace Cert.WindowIdeal.Heads
open Cert.WindowIdeal Cert.WindowIdeal.Gen Cert.WindowIdeal.Read Cert.Softmax
open Cert.AttnDIdeal.Tile (win base headAt col)
variable (p : S8x2048x5120.Idx → EReal) (pc : S8x256x5120.Idx → EReal) (sink : S2x4.Idx → EReal)

/-- A column is known by its head's number. -/
theorem col_eq {o h h' : ℕ} (e : h = h') (x : Fin 128) (q : o + h * 128 + 128 ≤ 5120) (q' : o + h' * 128 + 128 ≤ 5120) :
    col o h x q = col o h' x q' := by
  subst e
  rfl

/-- The result as a weighted sum of the values. -/
theorem out_read (b : Fin 8) (s : Fin 2048) (n : Fin 512) :
    val_main_v60 (F := Ideal) p pc sink (ix3 b s n)
      = ∑ k : Fin 2304, val_main_v29 (F := Ideal) p pc (ix4 b k (⟨n.val / 256, by omega⟩ : Fin 2) (⟨n.val % 128, by omega⟩ : Fin 128))
          * val_main_v55 (F := Ideal) p pc sink (ix5 b (⟨n.val / 256, by omega⟩ : Fin 2) (⟨n.val / 128 % 2, by omega⟩ : Fin 2) s k.castSucc) := by
  unfold val_main_v60 val_main_v59 val_main_v58 val_main_v57 val_main_v56
  pointwise []
  rfl

/-- Dropping the axis of the logits. -/
theorem drops : S8x2x2x2048x2305.Reduces [4] S8x2x2x2048 := by decide

/-- The maximum over the axis of the logits, at a row. -/
theorem max_axis (y : S8x2x2x2048x2305.Idx → EReal) (i : S_.Idx → EReal) (j : S8x2x2x2048.Idx) :
    Host.reduce (FloatOps.maximumf (F := Ideal) (φ := .f32)) y i reducesTo_S8x2x2x2048x2305_S8x2x2x2048_d4 h_S_ j
      = Finset.fold max (i (Shape.Idx.first h_S_)) (y ∘ drops.lift j) Finset.univ :=
  Host.reduce_eq_fold_single (α := EReal) max y i _ drops h_S_ j

/-- The maximum from minus infinity is the row's supremum. -/
theorem max_row (y : S8x2x2x2048x2305.Idx → EReal) (b : Fin 8) (s : Fin 2048) (h g : Fin 2) :
    Finset.fold max ⊥ (y ∘ drops.lift (ix4 b h g s)) Finset.univ = Finset.univ.sup fun k : Fin 2305 => y (ix5 b h g s k) := by
  refine (fold_max _ _).trans (Finset.sup_congr rfl fun k _ => congrArg y ?_)
  funext a
  refine Fin.ext ?_
  match a with | ⟨0, _⟩ => rfl | ⟨1, _⟩ => rfl | ⟨2, _⟩ => rfl | ⟨3, _⟩ => rfl | ⟨4, _⟩ => rfl

/-- The softmax's maximum over all logits of a row. -/
theorem max_read (b : Fin 8) (s : Fin 2048) (h g : Fin 2) :
    val_main_v47 (F := Ideal) p pc sink (ix4 b h g s) = Finset.univ.sup fun k : Fin 2305 => val_main_v44 (F := Ideal) p pc sink (ix5 b h g s k) := by
  rw [val_main_v47_apply, Ideal.maximumf_def, val_main_v46_apply, val_main_cst_4_apply, Ideal.ofBits_def, ofBits_bot, max_eq_right bot_le]
  unfold val_main_v45
  rw [max_axis, val_main_cst_3_apply, Ideal.ofBits_def, ofBits_bot]
  exact max_row _ b s h g

/-- A weight of the softmax. -/
theorem weight_read (b : Fin 8) (s : Fin 2048) (h g : Fin 2) (k : Fin 2305) :
    val_main_v55 (F := Ideal) p pc sink (ix5 b h g s k)
      = Ideal.div (Ideal.exp (val_main_v44 (F := Ideal) p pc sink (ix5 b h g s k)
            - Finset.univ.sup fun k : Fin 2305 => val_main_v44 (F := Ideal) p pc sink (ix5 b h g s k)))
          (∑ x : Fin 2305, Ideal.exp (val_main_v44 (F := Ideal) p pc sink (ix5 b h g s x)
            - Finset.univ.sup fun k : Fin 2305 => val_main_v44 (F := Ideal) p pc sink (ix5 b h g s k))) := by
  rw [← max_read]
  unfold val_main_v55 val_main_v54 val_main_v53 val_main_v52 val_main_v51 val_main_v50 val_main_v49 val_main_v48 val_main_cst_5
  generalize val_main_v44 (F := Ideal) p pc sink = y
  generalize val_main_v47 (F := Ideal) p pc sink = z
  pointwise []

/-- The natural logarithm of two. -/
theorem log_two : Ideal.log (Ideal.ofBits .f32 0x40000000#32) = ln2 := by
  have : Ideal.ofBits .f32 0x40000000#32 = ((2 : ℝ) : EReal) := by
    simp [Ideal.ofBits, Ideal.ieee]
    rw [← EReal.coe_mul]
    norm_num
  rw [this]
  show (if (2 : ℝ) ≤ 0 then (⊥ : EReal) else _) = _
  rw [if_neg (by norm_num)]

/-- The additive mask: zero inside the band, minus infinity outside. -/
theorem mask_read (s k : Fin 2048) :
    val_main_v24 (F := Ideal) (ix2 s k) = if k.val ≤ s.val + 128 ∧ s.val ≤ k.val + 128 then 0 else ⊥ := by
  unfold val_main_v24 val_main_v23 val_main_v22 val_main_v21 val_main_v20 val_main_v19 val_main_v18 val_main_v17 val_main_v16
    val_main_v15 val_main_call0_v0 val_main_call0_v1 val_main_cst val_main_cst_0 val_main_c
  pointwise []
  have e : IntOp.subi (BitVec.ofNat 32 s.val) (BitVec.ofNat 32 k.val) = BitVec.ofInt 32 ((s.val : ℤ) - k.val) := by
    show BitVec.ofNat 32 s.val - BitVec.ofNat 32 k.val = _
    rw [sub_eq_add_neg ((s.val : ℤ)), BitVec.ofInt_add, BitVec.ofInt_neg, BitVec.ofInt_natCast, BitVec.ofInt_natCast, BitVec.sub_eq_add_neg]
  have hb := Cert.Band.abs_le_bit ((s.val : ℤ) - k.val) (by omega) (by omega)
  rw [e, ofBits_bot]
  unfold Scalar.select
  by_cases h : k.val ≤ s.val + 128 ∧ s.val ≤ k.val + 128
  · rw [if_pos h]
    exact if_pos (hb.mpr (by omega))
  · rw [if_neg h]
    exact if_neg (fun hh => h (by have := hb.mp hh; omega))

/-- The additive mask with its context columns. -/
theorem bias_read (s : Fin 2048) (k : Fin 2304) :
    val_main_v27 (F := Ideal) (ix2 s k) = if k.val < 2048 then (if k.val ≤ s.val + 128 ∧ s.val ≤ k.val + 128 then 0 else ⊥) else (0 : EReal) := by
  unfold val_main_v27 val_main_v26 val_main_v25 val_main_cst_1
  pointwise []
  split
  · exact mask_read s _
  · rfl

/-- A score: the query of the head against the key of its group. -/
theorem score_read (b : Fin 8) (s : Fin 2048) (h g : Fin 2) (k : Fin 2304) :
    val_main_v33 (F := Ideal) p pc (ix5 b h k s g)
      = ∑ x : Fin 128, p (ix3 b s (col 4096 (2 * h.val + g.val) x)) * val_main_v28 (F := Ideal) p pc (ix4 b k h x) := by
  unfold val_main_v33
  generalize val_main_v28 (F := Ideal) p pc = y
  unfold val_main_v32 val_main_v2 val_main_v1 val_main_v0
  pointwise []
  refine Finset.sum_congr rfl fun x _ => (mul_comm _ _).trans (congrArg (· * y (ix4 b k h x)) ?_)
  exact congrArg (fun n => p (ix3 b s n)) (Fin.ext (by show 4096 + (h.val * 256 + g.val * 128 + x.val) = 4096 + (2 * h.val + g.val) * 128 + x.val; omega))

/-- A key, of the sequence or of the context. -/
theorem key_read (b : Fin 8) (k : Fin 2304) (h : Fin 2) (x : Fin 128) :
    val_main_v28 (F := Ideal) p pc (ix4 b k h x)
      = if hk : k.val < 2048 then p (ix3 b ⟨k.val, hk⟩ (col 4608 h.val x)) else pc (ix3 b ⟨k.val - 2048, by omega⟩ (col 4608 h.val x)) := by
  unfold val_main_v28 val_main_v5 val_main_v4 val_main_v3 val_main_v11 val_main_v10 val_main_v9
  pointwise []
  split
  · exact congrArg (fun n => p (ix3 b _ n)) (Fin.ext (by show 4608 + (h.val * 128 + x.val) = 4608 + h.val * 128 + x.val; omega))
  · exact congrArg (fun n => pc (ix3 b _ n)) (Fin.ext (by show 4608 + (h.val * 128 + x.val) = 4608 + h.val * 128 + x.val; omega))

/-- A value, of the sequence or of the context. -/
theorem value_read (b : Fin 8) (k : Fin 2304) (h : Fin 2) (x : Fin 128) :
    val_main_v29 (F := Ideal) p pc (ix4 b k h x)
      = if hk : k.val < 2048 then p (ix3 b ⟨k.val, hk⟩ (col 4864 h.val x)) else pc (ix3 b ⟨k.val - 2048, by omega⟩ (col 4864 h.val x)) := by
  unfold val_main_v29 val_main_v8 val_main_v7 val_main_v6 val_main_v14 val_main_v13 val_main_v12
  pointwise []
  split
  · exact congrArg (fun n => p (ix3 b _ n)) (Fin.ext (by show 4864 + (h.val * 128 + x.val) = 4864 + h.val * 128 + x.val; omega))
  · exact congrArg (fun n => pc (ix3 b _ n)) (Fin.ext (by show 4864 + (h.val * 128 + x.val) = 4864 + h.val * 128 + x.val; omega))

/-- A logit before the sink is appended. -/
theorem logit_read (b : Fin 8) (s : Fin 2048) (h g : Fin 2) (k : Fin 2304) :
    val_main_v41 (F := Ideal) p pc (ix5 b h g s k)
      = val_main_v33 (F := Ideal) p pc (ix5 b h k s g) * ln2 + val_main_v27 (F := Ideal) (ix2 s k) := by
  unfold val_main_v41 val_main_v40 val_main_v39 val_main_v38 val_main_v37 val_main_v36 val_main_v35 val_main_v34 val_main_cst_2
  generalize val_main_v33 (F := Ideal) p pc = y
  generalize val_main_v27 (F := Ideal) = z
  pointwise []
  exact congrArg (fun r => y (ix5 b h k s g) * r + z (ix2 s k)) log_two

/-- The sink's logit. -/
theorem sink_read (b : Fin 8) (s : Fin 2048) (h g : Fin 2) :
    val_main_v43 (F := Ideal) sink (ix5 b h g s 0) = sink (ix2 0 (⟨2 * h.val + g.val, by omega⟩ : Fin 4)) := by
  unfold val_main_v43 val_main_v42 val_main_v31 val_main_v30
  pointwise []
  exact congrArg (fun n => sink (ix2 0 n)) (Fin.ext (by show h.val * 2 + g.val = 2 * h.val + g.val; omega))

/-- All logits of a row. -/
theorem logits_read (b : Fin 8) (s : Fin 2048) (h g : Fin 2) (k : Fin 2305) :
    val_main_v44 (F := Ideal) p pc sink (ix5 b h g s k)
      = if hk : k.val < 2304 then val_main_v41 (F := Ideal) p pc (ix5 b h g s ⟨k.val, hk⟩)
        else val_main_v43 (F := Ideal) sink (ix5 b h g s 0) := by
  unfold val_main_v44
  pointwise []
  split
  · rfl
  · exact congrArg (fun n => val_main_v43 (F := Ideal) sink (ix5 b h g s n)) (Subsingleton.elim _ _)

/-- The logits in powers of two, with minus infinity outside the band. -/
def logit2 (b : Fin 8) (s : Fin 2048) (h g : Fin 2) (k : Fin 2305) : EReal :=
  if hk : k.val < 2304 then
    if k.val < 2048 then
      if k.val ≤ s.val + 128 ∧ s.val ≤ k.val + 128 then val_main_v33 (F := Ideal) p pc (ix5 b h ⟨k.val, hk⟩ s g) else ⊥
    else val_main_v33 (F := Ideal) p pc (ix5 b h ⟨k.val, hk⟩ s g)
  else sink (ix2 0 (⟨2 * h.val + g.val, by omega⟩ : Fin 4)) * (((Real.log 2)⁻¹ : ℝ) : EReal)

/-- A finite sum of products of reals is real. -/
theorem sum_real {n : ℕ} (f g : Fin n → EReal) (hf : ∀ i, ∃ r : ℝ, f i = r) (hg : ∀ i, ∃ r : ℝ, g i = r) : ∃ r : ℝ, ∑ i, f i * g i = r := by
  choose a ha using hf
  choose c hc using hg
  refine ⟨∑ i, a i * c i, ?_⟩
  simp only [ha, hc, ← EReal.coe_mul]
  exact (map_sum (⟨⟨Real.toEReal, EReal.coe_zero⟩, EReal.coe_add⟩ : ℝ →+ EReal) _ _).symm

/-- The queries and the keys of the sequence, the keys of the context and the sink logits are finite. -/
structure Finite : Prop where
  q : ∀ (b : Fin 8) (s : Fin 2048) (n : Fin 5120), 4096 ≤ n.val → n.val < 4864 → ∃ r : ℝ, p (ix3 b s n) = r
  k : ∀ (b : Fin 8) (s : Fin 256) (n : Fin 5120), 4608 ≤ n.val → n.val < 4864 → ∃ r : ℝ, pc (ix3 b s n) = r
  s : ∀ j : Fin 4, ∃ r : ℝ, sink (ix2 0 j) = r

variable {p pc sink}

theorem score_real (H : Finite p pc sink) (b : Fin 8) (s : Fin 2048) (h g : Fin 2) (k : Fin 2304) :
    ∃ r : ℝ, val_main_v33 (F := Ideal) p pc (ix5 b h k s g) = r := by
  rw [score_read]
  refine sum_real _ _ (fun x => H.q b s _ ?_ ?_) (fun x => ?_)
  · show 4096 ≤ 4096 + (2 * h.val + g.val) * 128 + x.val; omega
  · show 4096 + (2 * h.val + g.val) * 128 + x.val < 4864; omega
  · rw [key_read]
    split
    · exact H.q b _ _ (by show 4096 ≤ 4608 + h.val * 128 + x.val; omega) (by show 4608 + h.val * 128 + x.val < 4864; omega)
    · exact H.k b _ _ (by show 4608 ≤ 4608 + h.val * 128 + x.val; omega) (by show 4608 + h.val * 128 + x.val < 4864; omega)

/-- A logit is its power-of-two form times `ln 2`. -/
theorem logit_scaled (H : Finite p pc sink) (b : Fin 8) (s : Fin 2048) (h g : Fin 2) (k : Fin 2305) :
    val_main_v44 (F := Ideal) p pc sink (ix5 b h g s k) = logit2 p pc sink b s h g k * ln2 := by
  rw [logits_read]
  unfold logit2
  by_cases hk : k.val < 2304
  · rw [dif_pos hk, dif_pos hk, logit_read, bias_read]
    obtain ⟨r, hr⟩ := score_real H b s h g ⟨k.val, hk⟩
    by_cases h1 : k.val < 2048
    · rw [if_pos h1, if_pos h1]
      by_cases h2 : k.val ≤ s.val + 128 ∧ s.val ≤ k.val + 128
      · rw [if_pos h2, if_pos h2, add_zero]
      · rw [if_neg h2, if_neg h2, EReal.bot_mul_coe_of_pos log2_pos, EReal.add_bot]
    · rw [if_neg h1, if_neg h1, add_zero]
  · rw [dif_neg hk, dif_neg hk, sink_read, mul_assoc, ← EReal.coe_mul, inv_mul_cancel₀ log2_pos.ne', EReal.coe_one, mul_one]

theorem logit2_ne_top (H : Finite p pc sink) (b : Fin 8) (s : Fin 2048) (h g : Fin 2) (k : Fin 2305) :
    logit2 p pc sink b s h g k ≠ ⊤ := by
  unfold logit2
  split
  · rename_i hk
    obtain ⟨r, hr⟩ := score_real H b s h g ⟨k.val, hk⟩
    split
    · split
      · rw [hr]; exact EReal.coe_ne_top r
      · exact bot_ne_top
    · rw [hr]; exact EReal.coe_ne_top r
  · obtain ⟨r, hr⟩ := H.s ⟨2 * h.val + g.val, by omega⟩
    rw [hr, ← EReal.coe_mul]
    exact EReal.coe_ne_top _

theorem win_injective (s : Fin 2048) : Function.Injective (win s) := fun a b h => by
  have := congrArg Fin.val h
  exact Fin.ext (by simpa using this)

/-- A key outside the window is outside the band. -/
theorem outside (s k : Fin 2048) (hk : k ∉ Set.range (win s)) : ¬(k.val ≤ s.val + 128 ∧ s.val ≤ k.val + 128) := by
  rintro ⟨h1, h2⟩
  have hb : base s ≤ k.val ∧ k.val - base s < 512 := by unfold base; omega
  exact hk ⟨⟨k.val - base s, hb.2⟩, Fin.ext (by show base s + (k.val - base s) = k.val; omega)⟩

/-- The reference's result is the attention of each head. -/
theorem result (H : Finite p pc sink) (b : Fin 8) (s : Fin 2048) (n : Fin 512) :
    val_main_v60 (F := Ideal) p pc sink (ix3 b s n)
      = headAt p pc sink b s ⟨n.val / 128, by omega⟩ ⟨n.val % 128, Nat.mod_lt _ (by norm_num)⟩ := by
  obtain ⟨h, hh⟩ : ∃ h : Fin 2, h = ⟨n.val / 256, by omega⟩ := ⟨_, rfl⟩
  obtain ⟨g, hg⟩ : ∃ g : Fin 2, g = ⟨n.val / 128 % 2, by omega⟩ := ⟨_, rfl⟩
  obtain ⟨d, hd⟩ : ∃ d : Fin 128, d = ⟨n.val % 128, by omega⟩ := ⟨_, rfl⟩
  obtain ⟨j, hj⟩ : ∃ j : Fin 4, j = ⟨n.val / 128, by omega⟩ := ⟨_, rfl⟩
  have ej : 2 * h.val + g.val = j.val := by rw [hh, hg, hj]; show 2 * (n.val / 256) + n.val / 128 % 2 = n.val / 128; omega
  have eh : j.val / 2 = h.val := by omega
  rw [out_read, ← hh, ← hg, ← hd, ← hj]
  simp only [weight_read]
  refine (softmax_attend (win s) (win_injective s) (fun k => val_main_v44 (F := Ideal) p pc sink (ix5 b h g s k))
    (logit2 p pc sink b s h g) (fun k => val_main_v29 (F := Ideal) p pc (ix4 b k h d)) (logit_scaled H b s h g)
    (logit2_ne_top H b s h g) ?_ fun k hk => ?_).trans ?_
  · obtain ⟨r, hr⟩ := H.s ⟨2 * h.val + g.val, by omega⟩
    show sink _ * _ ≠ ⊥
    rw [hr, ← EReal.coe_mul]
    exact EReal.coe_ne_bot _
  · unfold logit2
    rw [dif_pos (show k.val < 2304 by omega), if_pos k.isLt]
    exact if_neg (outside s k hk)
  · unfold headAt
    refine congr (congr (congr (congr (congrArg attend ?_) ?_) ?_) ?_) ?_
    · exact congrArg (fun i => sink (ix2 0 i) * _) (Fin.ext ej)
    · funext c
      unfold logit2
      rw [dif_pos (show (lat (win s c)).val < 2304 by show (win s c).val < 2304; omega), if_pos (show (lat (win s c)).val < 2048 from (win s c).isLt)]
      refine if_congr Iff.rfl ?_ rfl
      rw [score_read]
      refine Finset.sum_congr rfl fun x _ => ?_
      rw [key_read, dif_pos (show (lat (win s c)).val < 2048 from (win s c).isLt)]
      exact congrArg₂ (fun i l => p (ix3 b s i) * p (ix3 b (win s c) l)) (col_eq ej x _ _) (col_eq eh.symm x _ _)
    · funext c
      show val_main_v29 (F := Ideal) p pc (ix4 b _ h d) = _
      rw [value_read, dif_pos (show (win s c).val < 2048 from (win s c).isLt)]
      exact congrArg (fun l => p (ix3 b (win s c) l)) (col_eq eh.symm d _ _)
    · funext k
      unfold logit2
      rw [dif_pos (show (ctx k).val < 2304 by show 2048 + k.val < 2304; omega), if_neg (show ¬(ctx k).val < 2048 by show ¬2048 + k.val < 2048; omega), score_read]
      refine Finset.sum_congr rfl fun x _ => ?_
      rw [key_read, dif_neg (show ¬(ctx k).val < 2048 by show ¬2048 + k.val < 2048; omega)]
      refine congrArg₂ (fun i l => p (ix3 b s i) * l) (col_eq ej x _ _) ?_
      exact congrArg₂ (fun i l => pc (ix3 b i l)) (Fin.ext (by show 2048 + k.val - 2048 = k.val; omega)) (col_eq eh.symm x _ _)
    · funext k
      show val_main_v29 (F := Ideal) p pc (ix4 b _ h d) = _
      rw [value_read, dif_neg (show ¬2048 + k.val < 2048 by omega)]
      exact congrArg₂ (fun i l => pc (ix3 b i l)) (Fin.ext (by show 2048 + k.val - 2048 = k.val; omega)) (col_eq eh.symm d _ _)

end Cert.WindowIdeal.Heads
end
-- ==== Proof.AttnDClaim.lean ====
/-
  The value claim of the windowed attention: over the extended reals, for finite queries, keys and sink logits, the call's result
  array is the reference's.
-/
module
public import proofs.«01_k».proof.Defs
public import proofs.«01_k».proof.Proof.AttnDPoint
public import proofs.«01_k».proof.Proof.WindowRef
public import proofs.«01_k».proof.Proof.Gen.AttnDIdeal.Value
public import proofs.«01_k».proof.Proof.Gen.WindowIdeal.Run
public import proofs.«01_k».proof.Proof.Gen.Pre_finite_logits
public import Idealize.ShloMosaic.Lib.ReduceAll
public import Idealize.ShloMosaic.Lib.Pointwise
@[expose] public section
set_option maxRecDepth 16384
noncomputable section
open Idealize.ShloMosaic Idealize.ShloMosaic.TcCoe Idealize.SL.Sem
namespace Cert.AttnDClaim
open Cert.Pre_finite_logits

/-- An extended real whose magnitude compares below infinity is a real. -/
theorem real_of_abs (x : EReal)
    (h : FloatOps.cmpf (F := Ideal) (φ := .f32) .olt (FloatOps.hostAbsf (F := Ideal) (φ := .f32) x) (Ideal.ofBits .f32 0x7F800000#32) = 1#1) :
    ∃ r : ℝ, x = r := by
  have e : Ideal.ofBits .f32 0x7F800000#32 = ⊤ := by simp [Ideal.ofBits, Ideal.ieee]
  rw [e, Ideal.hostAbsf_def] at h
  replace h : BitVec.ofBool (decide (max x (-x) < ⊤)) = 1#1 := h
  have h' : max x (-x) < ⊤ := by
    by_contra hn
    rw [decide_eq_false hn] at h
    exact absurd h (by decide)
  induction x with
  | bot => exact absurd h' (by simp)
  | top => exact absurd h' (by simp)
  | coe r => exact ⟨r, rfl⟩

/-- The slice of the sequence's projections. -/
theorem slice_p (p : S8x2048x5120.Idx → EReal) (b : Fin 8) (s : Fin 2048) (x : Fin 768) (n : Fin 5120) (hn : 4096 + x.val = n.val) (h) :
    extractStridedSlice S8x2048x768 ![0, 0, 4096] p h (ix3 b s x) = p (ix3 b s n) := by
  have hx : 4096 + x.val < 5120 := by omega
  rw [show n = ⟨4096 + x.val, hx⟩ from Fin.ext hn.symm]
  pointwise []

/-- The slice of the context's projections. -/
theorem slice_pc (pc : S8x256x5120.Idx → EReal) (b : Fin 8) (s : Fin 256) (x : Fin 256) (n : Fin 5120) (hn : 4608 + x.val = n.val) (h) :
    extractStridedSlice S8x256x256 ![0, 0, 4608] pc h (ix3 b s x) = pc (ix3 b s n) := by
  have hx : 4608 + x.val < 5120 := by omega
  rw [show n = ⟨4608 + x.val, hx⟩ from Fin.ext hn.symm]
  pointwise []

/-- The first row of the sink logits. -/
theorem slice_sink (sink : S2x4.Idx → EReal) (j : Fin 4) (h) (h') :
    shapeCast S4 (extractStridedSlice S1x4 ![0, 0] sink h) h' (ix1 j) = sink (ix2 0 j) := by
  pointwise []

/-- What the precondition says. -/
theorem finite_of_pre (p : S8x2048x5120.Idx → EReal) (pc : S8x256x5120.Idx → EReal) (sink : S2x4.Idx → EReal)
    (h : Cert.Pre_finite_logits.fn (F := Ideal) p pc sink = fun _ => 1#1) : WindowIdeal.Heads.Finite p pc sink := by
  have h0 : IntOp.andi (IntOp.andi _ _) _ = 1#1 := congrFun h (fun a => a.elim0)
  obtain ⟨h12, h3⟩ := IntOp.andi_eq_one.mp h0
  obtain ⟨h1, h2⟩ := IntOp.andi_eq_one.mp h12
  haveI : Subsingleton S_.Idx := ⟨fun a b => funext fun i => i.elim0⟩
  have g1 := Host.reduce_andi_all _ _ _ _ _ h1
  have g2 := Host.reduce_andi_all _ _ _ _ _ h2
  have g3 := Host.reduce_andi_all _ _ _ _ _ h3
  refine ⟨fun b s n l u => ?_, fun b s n l u => ?_, fun j => ?_⟩
  · obtain ⟨x, hx⟩ : ∃ x : Fin 768, 4096 + x.val = n.val := ⟨⟨n.val - 4096, by omega⟩, by simp only []; omega⟩
    obtain ⟨r, hr⟩ := real_of_abs _ (g1 (ix3 b s x))
    exact ⟨r, (slice_p p b s x n hx Gen.slices_S8x2048x5120_S8x2048x768_0_0_4096).symm.trans hr⟩
  · obtain ⟨x, hx⟩ : ∃ x : Fin 256, 4608 + x.val = n.val := ⟨⟨n.val - 4608, by omega⟩, by simp only []; omega⟩
    obtain ⟨r, hr⟩ := real_of_abs _ (g2 (ix3 b s x))
    exact ⟨r, (slice_pc pc b s x n hx Gen.slices_S8x256x5120_S8x256x256_0_0_4608).symm.trans hr⟩
  · obtain ⟨r, hr⟩ := real_of_abs _ (g3 (ix1 j))
    exact ⟨r, (slice_sink sink j Gen.slices_S2x4_S1x4_0_0 Gen.shapeCasts_S1x4_S4).symm.trans hr⟩

/-- The two programs end with the same array whenever their arguments agree and are finite. -/
theorem result_eq (m : (ℓ : Loc AttnDIdeal.nD AttnDIdeal.τ AttnDIdeal.sig) → Buf (Elt Ideal) ℓ)
    (m' : (ℓ : Loc WindowIdeal.nD WindowIdeal.τ WindowIdeal.sig) → Buf (Elt Ideal) ℓ) (c : Dev AttnDIdeal.nD)
    (H : Cert.Pre_finite_logits.fn (F := Ideal) (m ((c.tc : Thread AttnDIdeal.nD AttnDIdeal.τ).loc AttnDIdeal.main_arg0))
      (m ((c.tc : Thread AttnDIdeal.nD AttnDIdeal.τ).loc AttnDIdeal.main_arg1))
      (m ((c.tc : Thread AttnDIdeal.nD AttnDIdeal.τ).loc AttnDIdeal.main_arg2)) = fun _ => 1#1)
    (e0 : m' ((c.tc : Thread WindowIdeal.nD WindowIdeal.τ).loc WindowIdeal.main_arg0) = m ((c.tc : Thread AttnDIdeal.nD AttnDIdeal.τ).loc AttnDIdeal.main_arg0))
    (e1 : m' ((c.tc : Thread WindowIdeal.nD WindowIdeal.τ).loc WindowIdeal.main_arg1) = m ((c.tc : Thread AttnDIdeal.nD AttnDIdeal.τ).loc AttnDIdeal.main_arg1))
    (e2 : m' ((c.tc : Thread WindowIdeal.nD WindowIdeal.τ).loc WindowIdeal.main_arg2) = m ((c.tc : Thread AttnDIdeal.nD AttnDIdeal.τ).loc AttnDIdeal.main_arg2)) :
    WindowIdeal.Value.res_main_v60 m' c = AttnDIdeal.Tile.G6 m c := by
  rw [WindowIdeal.Read.val_main_v60_eq, e0, e1, e2]
  funext i
  idx_vars i
  exact WindowIdeal.Heads.result (finite_of_pre _ _ _ H) _ _ _

/-- THE CLAIM: the idealized call and the idealized reference agree, and neither changes its arguments. -/
theorem algebraic : Cert.algebraic_AttnDIdeal_WindowIdeal_pre_finite_logits (hAttnDIdeal := Cert.AttnDIdeal.Gen.facts)
    (hWindowIdeal := Cert.WindowIdeal.Gen.facts) (hPre_finite_logits := Cert.Pre_finite_logits.Gen.facts) := by
  intro m g m' g' hp hag
  refine ⟨fun c => AttnDIdeal.Tile.G6 m c, (θ_run _ _ _).mono (fun r h c => ⟨(h c).1.trans (AttnDIdeal.Tile.final m c), (h c).2⟩)
    (AttnDIdeal.Value.run_blocks m g), (θ_run _ _ _).mono (fun r h c => ?_) (WindowIdeal.Value.run m' g')⟩
  obtain ⟨e0, e1, e2⟩ := hag c
  exact ⟨(h c).1.trans (result_eq m m' c (hp c) e0 e1 e2), (h c).2⟩

end Cert.AttnDClaim
end
-- ==== Proof.lean ====
/- The claims about the post call (the end of the last layer, and of the first), about the projection call and about the sliding-window
   attention, each against its reference: the frames are the generated runs, nothing was rewritten between a call and its idealized form
   but the named constants, and the value claims are Proof/PostClaim.lean's, Proof/InnerClaim.lean's, Proof/ProjClaim.lean's and
   Proof/AttnDClaim.lean's. -/
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.LayerEndIdeal
public import proofs.«01_k».proof.Proof.Gen.PostIdeal.Value
public import proofs.«01_k».proof.Proof.Gen.LayerEndIdeal.Run
public import proofs.«01_k».proof.Proof.Gen.LayerEndIdeal.Read
public import proofs.«01_k».proof.Proof.Gen.PostInner
public import proofs.«01_k».proof.Proof.Gen.PostInner.Skeleton
public import proofs.«01_k».proof.Proof.Gen.PostInner.Launch
public import proofs.«01_k».proof.Proof.Gen.PostInner.Points
public import proofs.«01_k».proof.Proof.Gen.PostInner.Frame
public import proofs.«01_k».proof.Proof.Gen.PostInnerIdeal
public import proofs.«01_k».proof.Proof.Gen.PostInnerIdeal.Skeleton
public import proofs.«01_k».proof.Proof.Gen.PostInnerIdeal.Launch
public import proofs.«01_k».proof.Proof.Gen.PostInnerIdeal.Points
public import proofs.«01_k».proof.Proof.Gen.PostInnerIdeal.Frame
public import proofs.«01_k».proof.Proof.Gen.InnerEndIdeal
public import proofs.«01_k».proof.Proof.Gen.PostInnerIdeal.Value
public import proofs.«01_k».proof.Proof.Gen.InnerEndIdeal.Run
public import proofs.«01_k».proof.Proof.Gen.InnerEndIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.HeadsIdeal
public import proofs.«01_k».proof.Proof.Gen.ProjIdeal.Value
public import proofs.«01_k».proof.Proof.Gen.HeadsIdeal.Run
public import proofs.«01_k».proof.Proof.Gen.HeadsIdeal.Read
public import proofs.«01_k».proof.Proof.Gen.AttnD
public import proofs.«01_k».proof.Proof.Gen.AttnD.Skeleton
public import proofs.«01_k».proof.Proof.Gen.AttnD.Launch
public import proofs.«01_k».proof.Proof.Gen.AttnD.Points
public import proofs.«01_k».proof.Proof.Gen.AttnD.Frame
public import proofs.«01_k».proof.Proof.Gen.AttnDIdeal
public import proofs.«01_k».proof.Proof.Gen.AttnDIdeal.Skeleton
public import proofs.«01_k».proof.Proof.Gen.AttnDIdeal.Launch
public import proofs.«01_k».proof.Proof.Gen.AttnDIdeal.Points
public import proofs.«01_k».proof.Proof.Gen.AttnDIdeal.Frame
public import proofs.«01_k».proof.Proof.Gen.AttnDIdeal.Value
public import proofs.«01_k».proof.Proof.Gen.WindowIdeal
public import proofs.«01_k».proof.Proof.Gen.WindowIdeal.Run
public import proofs.«01_k».proof.Proof.Gen.WindowIdeal.Read
public import proofs.«01_k».proof.Proof.Gen.Pre_finite_logits
public import proofs.«01_k».proof.Proof.PostClaim
public import proofs.«01_k».proof.Proof.InnerClaim
public import proofs.«01_k».proof.Proof.ProjClaim
public import proofs.«01_k».proof.Proof.AttnDClaim
public import Idealize.ShloMosaic.Lib.Quiescent
public import Idealize.ShloMosaic.Adequacy
public import Idealize.ShloMosaic.Init

@[expose] public section

noncomputable section

namespace Cert.Proof

open Idealize.ShloMosaic Idealize.SL.Sem Cert.Post

/-- The reference, run from any memory, leaves its arguments and every semaphore counter as they were. -/
theorem frame_reference : Cert.quiescent_LayerEndIdeal (hLayerEndIdeal := Cert.LayerEndIdeal.Gen.facts) := fun m g _ =>
  (θ_run _ _ _).mono (fun r h => ⟨fun c => (h c).2, Idealize.ShloMosaic.sem_eq_zero_of_no_sems (by decide) r.2⟩)
    (Cert.LayerEndIdeal.Value.run m g)

/-- The same of the first layer's reference. -/
theorem frame_inner_end : Cert.quiescent_InnerEndIdeal (hInnerEndIdeal := Cert.InnerEndIdeal.Gen.facts) := fun m g _ =>
  (θ_run _ _ _).mono (fun r h => ⟨fun c => (h c).2, Idealize.ShloMosaic.sem_eq_zero_of_no_sems (by decide) r.2⟩)
    (Cert.InnerEndIdeal.Value.run m g)

/-- The same of the projection's reference. -/
theorem frame_heads : Cert.quiescent_HeadsIdeal (hHeadsIdeal := Cert.HeadsIdeal.Gen.facts) := fun m g _ =>
  (θ_run _ _ _).mono (fun r h => ⟨fun c => (h c).2.2.2.2, Idealize.ShloMosaic.sem_eq_zero_of_no_sems (by decide) r.2⟩)
    (Cert.HeadsIdeal.Value.run m g)

/-- The same of the windowed attention's reference. -/
theorem frame_window : Cert.quiescent_WindowIdeal (hWindowIdeal := Cert.WindowIdeal.Gen.facts) := fun m g _ =>
  (θ_run _ _ _).mono (fun r h => ⟨fun c => (h c).2, Idealize.ShloMosaic.sem_eq_zero_of_no_sems (by decide) r.2⟩)
    (Cert.WindowIdeal.Value.run m g)

/-- What the idealized windowed attention names: `log2 e` and the mask. -/
theorem preserves_attn_d : Cert.preserves_AttnD_AttnDIdeal :=
  ⟨IdealRules.named_const.statement AttnDIdeal.κ "log2e" .f32 0x3FB8AA3B#32 _ rfl,
    IdealRules.named_const.statement AttnDIdeal.κ "mask" .f32 0xF149F2CA#32 _ rfl⟩

theorem claim : Cert.Claim := ⟨Cert.Post.Gen.facts, Cert.PostIdeal.Gen.facts, Cert.LayerEndIdeal.Gen.facts,
  Cert.PostInner.Gen.facts, Cert.PostInnerIdeal.Gen.facts, Cert.InnerEndIdeal.Gen.facts,
  Cert.Proj.Gen.facts, Cert.ProjIdeal.Gen.facts, Cert.HeadsIdeal.Gen.facts,
  Cert.AttnD.Gen.facts, Cert.AttnDIdeal.Gen.facts, Cert.WindowIdeal.Gen.facts, Cert.Pre_finite_logits.Gen.facts,
  fun m ρ _ => Cert.Post.Gen.frame m ρ, fun m ρ _ => Cert.PostIdeal.Gen.frame m ρ, frame_reference,
  fun m ρ _ => Cert.PostInner.Gen.frame m ρ, fun m ρ _ => Cert.PostInnerIdeal.Gen.frame m ρ, frame_inner_end,
  fun m ρ _ => Cert.Proj.Gen.frame m ρ, fun m ρ _ => Cert.ProjIdeal.Gen.frame m ρ, frame_heads,
  fun m ρ _ => Cert.AttnD.Gen.frame m ρ, fun m ρ _ => Cert.AttnDIdeal.Gen.frame m ρ, fun m ρ _ => Cert.AttnDIdeal.Gen.frame m ρ,
  frame_window, fun m ρ _ => frame_window m ρ trivial, trivial, Cert.PostClaim.algebraic, trivial, Cert.InnerClaim.algebraic,
  trivial, Cert.ProjClaim.algebraic,
  preserves_attn_d, Cert.AttnDClaim.algebraic⟩

end Cert.Proof

end
